-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v82) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v65) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v65) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v53)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v53) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v53) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v29)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v29) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v38) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v29)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v29) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v14_0)) (v1 : (c : Dev Cert.Kernel9Ideal.nD) → Buf (Elt Ideal) ((c.tc : Thread Cert.Kernel9Ideal.nD Cert.Kernel9Ideal.τ).loc Cert.Kernel9Ideal.main_v14_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v14_0) = v0 c
          ∧ r.2.mem ((c.tc : Thread Cert.Kernel9Ideal.nD Cert.Kernel9Ideal.τ).loc Cert.Kernel9Ideal.main_v14_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v59) = v0 c
          ∧ r.2.mem ((c.tc : Thread Cert.Reference9Ideal.nD Cert.Reference9Ideal.τ).loc Cert.Reference9Ideal.main_v82) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S114688x1024 : Shape := ⟨2, ![114688, 1024]⟩
abbrev S32 : Shape := ⟨1, ![32]⟩
abbrev S2x32x2048x4096 : Shape := ⟨4, ![2, 32, 2048, 4096]⟩
abbrev S2x32x4096 : Shape := ⟨3, ![2, 32, 4096]⟩
abbrev S_ : Shape := ⟨0, ![]⟩
abbrev S1 : Shape := ⟨1, ![1]⟩
abbrev S1x1 : Shape := ⟨2, ![1, 1]⟩
abbrev S224 : Shape := ⟨1, ![224]⟩
abbrev S224x1 : Shape := ⟨2, ![224, 1]⟩
abbrev S1x32 : Shape := ⟨2, ![1, 32]⟩
abbrev S224x32 : Shape := ⟨2, ![224, 32]⟩
abbrev S2x32x1x4096 : Shape := ⟨4, ![2, 32, 1, 4096]⟩
abbrev S114688x2048 : Shape := ⟨2, ![114688, 2048]⟩
abbrev S512x1024 : Shape := ⟨2, ![512, 1024]⟩
abbrev S1x1x2048x1024 : Shape := ⟨4, ![1, 1, 2048, 1024]⟩
abbrev S1x1x1x1024 : Shape := ⟨4, ![1, 1, 1, 1024]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 107
  | .vmem => 14
  | .smem => 3
  | _ => 0

abbrev bufTy : (tb : Table) → Fin (tcTables nBuf tb) → BufTy
  | .hbm, ⟨0, _⟩ => ⟨S114688x1024, .i32⟩
  | .hbm, ⟨1, _⟩ => ⟨S32, .i32⟩
  | .hbm, ⟨2, _⟩ => ⟨S2x32x2048x4096, .f32⟩
  | .hbm, ⟨3, _⟩ => ⟨S2x32x4096, .f32⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S32, .i32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S32, .i32⟩
  | .hbm, ⟨23, _⟩ => ⟨S32, .i32⟩
  | .hbm, ⟨24, _⟩ => ⟨S_, .i32⟩
  | .hbm, ⟨25, _⟩ => ⟨S32, .i32⟩
  | .hbm, ⟨26, _⟩ => ⟨S32, .i1⟩
  | .hbm, ⟨27, _⟩ => ⟨S32, .i1⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S_, .i32⟩
  | .hbm, ⟨36, _⟩ => ⟨S_, .i32⟩
  | .hbm, ⟨37, _⟩ => ⟨S32, .i32⟩
  | .hbm, ⟨38, _⟩ => ⟨S32, .i32⟩
  | .hbm, ⟨39, _⟩ => ⟨S_, .i32⟩
  | .hbm, ⟨40, _⟩ => ⟨S1, .i32⟩
  | .hbm, ⟨41, _⟩ => ⟨S1, .i1⟩
  | .hbm, ⟨42, _⟩ => ⟨S_, .i32⟩
  | .hbm, ⟨43, _⟩ => ⟨S1, .i32⟩
  | .hbm, ⟨44, _⟩ => ⟨S1, .i32⟩
  | .hbm, ⟨45, _⟩ => ⟨S1, .i32⟩
  | .hbm, ⟨46, _⟩ => ⟨S1x1, .i32⟩
  | .hbm, ⟨47, _⟩ => ⟨S1, .i32⟩
  | .hbm, ⟨48, _⟩ => ⟨S1, .i32⟩
  | .hbm, ⟨49, _⟩ => ⟨S224, .i32⟩
  | .hbm, ⟨50, _⟩ => ⟨S_, .i32⟩
  | .hbm, ⟨51, _⟩ => ⟨S224, .i32⟩
  | .hbm, ⟨52, _⟩ => ⟨S224, .i32⟩
  | .hbm, ⟨53, _⟩ => ⟨S224x1, .i32⟩
  | .hbm, ⟨54, _⟩ => ⟨S1x32, .i32⟩
  | .hbm, ⟨55, _⟩ => ⟨S224x32, .i32⟩
  | .hbm, ⟨56, _⟩ => ⟨S224x32, .i32⟩
  | .hbm, ⟨57, _⟩ => ⟨S224x32, .i1⟩
  | .hbm, ⟨58, _⟩ => ⟨S224x32, .i32⟩
  | .hbm, ⟨59, _⟩ => ⟨S_, .i32⟩
  | .hbm, ⟨60, _⟩ => ⟨S224, .i32⟩
  | .hbm, ⟨61, _⟩ => ⟨S_, .i32⟩
  | .hbm, ⟨62, _⟩ => ⟨S224, .i32⟩
  | .hbm, ⟨63, _⟩ => ⟨S1, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i1⟩
  | .hbm, ⟨71, _⟩ => ⟨S_, .i32⟩
  | .hbm, ⟨72, _⟩ => ⟨S_, .i32⟩
  | .hbm, ⟨73, _⟩ => ⟨S_, .i1⟩
  | .hbm, ⟨74, _⟩ => ⟨S_, .i1⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S224, .i32⟩
  | .hbm, ⟨80, _⟩ => ⟨S224, .i1⟩
  | .hbm, ⟨81, _⟩ => ⟨S_, .i32⟩
  | .hbm, ⟨82, _⟩ => ⟨S224, .i32⟩
  | .hbm, ⟨83, _⟩ => ⟨S224, .i32⟩
  | .hbm, ⟨84, _⟩ => ⟨S224, .i32⟩
  | .hbm, ⟨85, _⟩ => ⟨S224x1, .i32⟩
  | .hbm, ⟨86, _⟩ => ⟨S224, .i32⟩
  | .hbm, ⟨87, _⟩ => ⟨S_, .i32⟩
  | .hbm, ⟨88, _⟩ => ⟨S224, .i32⟩
  | .hbm, ⟨89, _⟩ => ⟨S224, .i1⟩
  | .hbm, ⟨90, _⟩ => ⟨S_, .i32⟩
  | .hbm, ⟨91, _⟩ => ⟨S224, .i32⟩
  | .hbm, ⟨92, _⟩ => ⟨S224, .i32⟩
  | .hbm, ⟨93, _⟩ => ⟨S224, .i32⟩
  | .hbm, ⟨94, _⟩ => ⟨S224x1, .i32⟩
  | .hbm, ⟨95, _⟩ => ⟨S224, .i32⟩
  | .hbm, ⟨96, _⟩ => ⟨S224, .i32⟩
  | .hbm, ⟨97, _⟩ => ⟨S224, .i32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S224, .i32⟩
  | .hbm, ⟨102, _⟩ => ⟨S224, .i32⟩
  | .hbm, ⟨103, _⟩ => ⟨S_, .i32⟩
  | .hbm, ⟨104, _⟩ => ⟨S224, .i32⟩
  | .hbm, ⟨105, _⟩ => ⟨S2x32x1x4096, .f32⟩
  | .hbm, ⟨106, _⟩ => ⟨S114688x2048, .bf16⟩
  | .local _ .vmem, ⟨0, _⟩ => ⟨S512x1024, .i32⟩
  | .local _ .vmem, ⟨1, _⟩ => ⟨S512x1024, .i32⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x2048x1024, .f32⟩
  | .local _ .vmem, ⟨5, _⟩ => ⟨S1x1x2048x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .bf16⟩
  | .local _ .vmem, ⟨11, _⟩ => ⟨S512x1024, .bf16⟩
  | .local _ .vmem, ⟨12, _⟩ => ⟨S2048x1024, .bf16⟩
  | .local _ .vmem, ⟨13, _⟩ => ⟨S2048x1024, .bf16⟩
  | .local _ .smem, ⟨0, _⟩ => ⟨S224, .i32⟩
  | .local _ .smem, ⟨1, _⟩ => ⟨S1, .i32⟩
  | .local _ .smem, ⟨2, _⟩ => ⟨S224, .i32⟩
  | _, _ => ⟨S114688x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_c_2 : Ref sig .tc := ⟨.hbm, 11, rfl⟩
abbrev main_v4 : Ref sig .tc := ⟨.hbm, 12, rfl⟩
abbrev main_v5 : Ref sig .tc := ⟨.hbm, 13, rfl⟩
abbrev main_c_3 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v6 : Ref sig .tc := ⟨.hbm, 31, rfl⟩
abbrev main_c_4 : Ref sig .tc := ⟨.hbm, 32, rfl⟩
abbrev main_v7 : Ref sig .tc := ⟨.hbm, 33, rfl⟩
abbrev main_v8 : Ref sig .tc := ⟨.hbm, 34, rfl⟩
abbrev main_call1_call0_c : Ref sig .tc := ⟨.hbm, 35, rfl⟩
abbrev main_call1_call0_v0 : Ref sig .tc := ⟨.hbm, 36, rfl⟩
abbrev main_v9 : Ref sig .tc := ⟨.hbm, 37, rfl⟩
abbrev main_v10 : Ref sig .tc := ⟨.hbm, 38, rfl⟩
abbrev main_c_5 : Ref sig .tc := ⟨.hbm, 39, rfl⟩
abbrev main_v11 : Ref sig .tc := ⟨.hbm, 40, rfl⟩
abbrev main_v12 : Ref sig .tc := ⟨.hbm, 41, rfl⟩
abbrev main_c_6 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_7 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_8 : Ref sig .tc := ⟨.hbm, 59, rfl⟩
abbrev main_v28 : Ref sig .tc := ⟨.hbm, 60, rfl⟩
abbrev main_c_9 : Ref sig .tc := ⟨.hbm, 61, rfl⟩
abbrev main_v29 : Ref sig .tc := ⟨.hbm, 62, rfl⟩
abbrev main_v31 : Ref sig .tc := ⟨.hbm, 63, rfl⟩
abbrev main_v32 : Ref sig .tc := ⟨.hbm, 64, rfl⟩
abbrev main_c_10 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c : Ref sig .tc := ⟨.hbm, 72, rfl⟩
abbrev main_call2_v6 : Ref sig .tc := ⟨.hbm, 73, rfl⟩
abbrev main_call2_v7 : Ref sig .tc := ⟨.hbm, 74, rfl⟩
abbrev main_call2_c_0 : Ref sig .tc := ⟨.hbm, 75, rfl⟩
abbrev main_call2_v8 : Ref sig .tc := ⟨.hbm, 76, rfl⟩
abbrev main_v33 : Ref sig .tc := ⟨.hbm, 77, rfl⟩
abbrev main_c_11 : Ref sig .tc := ⟨.hbm, 78, rfl⟩
abbrev main_v35 : Ref sig .tc := ⟨.hbm, 79, rfl⟩
abbrev main_v36 : Ref sig .tc := ⟨.hbm, 80, rfl⟩
abbrev main_c_12 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_c_13 : Ref sig .tc := ⟨.hbm, 87, rfl⟩
abbrev main_v42 : Ref sig .tc := ⟨.hbm, 88, rfl⟩
abbrev main_v43 : Ref sig .tc := ⟨.hbm, 89, rfl⟩
abbrev main_c_14 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_c_15 : Ref sig .tc := ⟨.hbm, 98, rfl⟩
abbrev main_c_16 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_v52 : Ref sig .tc := ⟨.hbm, 105, rfl⟩
abbrev main_v53 : Ref sig .tc := ⟨.hbm, 106, rfl⟩
abbrev main_v30 : Ref sig .tc := ⟨.smem, 0, rfl⟩
abbrev main_v34 : Ref sig .tc := ⟨.smem, 1, rfl⟩
abbrev main_v51 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 224], ![false, false]⟩

abbrev pre0 : Pipeline.Prefetch sig := ⟨3, ![main_v30.idx, main_v34.idx, main_v51.idx], fun | 0 => main_v30.names | 1 => main_v34.names | 2 => main_v51.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg1 : BitVec 32 := BitVec.ofNat 32 (i 1).val
  let v27 : Index := Scalar.indexCast arg1
  ![v27.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S224.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S224) ![v0.toNat] S1.size (k0_off1_inb i)) numel1_S1
  let c1_i32 : BitVec 32 := 1#32
  let c0_i32 : BitVec 32 := 0#32
  let c0_i32_0 : BitVec 32 := 0#32
  ![c1_i32.toNat, v1.toNat, c0_i32.toNat, arg0.toNat]

def cc0_transform_2 (k0_off1_inb : ∀ i : grid0.Coords, ∀ a, (k0_off1 i) a + S1.size a ≤ S224.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S224) ![v0.toNat] S1.size (k0_off1_inb i)) numel1_S1
  let c2_i32 : BitVec 32 := 2#32
  let v2 : BitVec 32 := Scalar.addi c2_i32 arg0
  let c1_i32 : BitVec 32 := 1#32
  let c0_i32 : BitVec 32 := 0#32
  let c0_i32_0 : BitVec 32 := 0#32
  ![c1_i32.toNat, v1.toNat, c0_i32.toNat, v2.toNat]

def cc0_transform_3 (k0_off1_inb : ∀ i : grid0.Coords, ∀ a, (k0_off1 i) a + S1.size a ≤ S224.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S224) ![v0.toNat] S1.size (k0_off1_inb i)) numel1_S1
  let c1_i32 : BitVec 32 := 1#32
  let c0_i32 : BitVec 32 := 0#32
  let c0_i32_0 : BitVec 32 := 0#32
  ![c1_i32.toNat, v1.toNat, c0_i32.toNat, arg0.toNat]

def cc0_transform_4 (k0_off1_inb : ∀ i : grid0.Coords, ∀ a, (k0_off1 i) a + S1.size a ≤ S224.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S224) ![v0.toNat] S1.size (k0_off1_inb i)) numel1_S1
  let c2_i32 : BitVec 32 := 2#32
  let v2 : BitVec 32 := Scalar.addi c2_i32 arg0
  let c1_i32 : BitVec 32 := 1#32
  let c0_i32 : BitVec 32 := 0#32
  let c0_i32_0 : BitVec 32 := 0#32
  ![c1_i32.toNat, v1.toNat, c0_i32.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S114688x1024 : Shape := ⟨2, ![114688, 1024]⟩
abbrev S32 : Shape := ⟨1, ![32]⟩
abbrev S2x32x2048x4096 : Shape := ⟨4, ![2, 32, 2048, 4096]⟩
abbrev S2x32x4096 : Shape := ⟨3, ![2, 32, 4096]⟩
abbrev S_ : Shape := ⟨0, ![]⟩
abbrev S224 : Shape := ⟨1, ![224]⟩
abbrev S224x1 : Shape := ⟨2, ![224, 1]⟩
abbrev S1x32 : Shape := ⟨2, ![1, 32]⟩
abbrev S224x32 : Shape := ⟨2, ![224, 32]⟩
abbrev S1 : Shape := ⟨1, ![1]⟩
abbrev S512 : Shape := ⟨1, ![512]⟩
abbrev S114688x2048 : Shape := ⟨2, ![114688, 2048]⟩
abbrev S224x512x2048 : Shape := ⟨3, ![224, 512, 2048]⟩
abbrev S1x512 : Shape := ⟨2, ![1, 512]⟩
abbrev S224x512 : Shape := ⟨2, ![224, 512]⟩
abbrev S224x512x1 : Shape := ⟨3, ![224, 512, 1]⟩
abbrev S1x32x2048x4096 : Shape := ⟨4, ![1, 32, 2048, 4096]⟩
abbrev S32x2048x4096 : Shape := ⟨3, ![32, 2048, 4096]⟩
abbrev S224x2048x4096 : Shape := ⟨3, ![224, 2048, 4096]⟩
abbrev S224x512x4096 : Shape := ⟨3, ![224, 512, 4096]⟩
abbrev S1x32x4096 : Shape := ⟨3, ![1, 32, 4096]⟩
abbrev S32x4096 : Shape := ⟨2, ![32, 4096]⟩
abbrev S224x4096 : Shape := ⟨2, ![224, 4096]⟩
abbrev S224x1x4096 : Shape := ⟨3, ![224, 1, 4096]⟩
abbrev S224x1x1 : Shape := ⟨3, ![224, 1, 1]⟩

abbrev nBuf : Space → Nat
  | .hbm => 183
  | .vmem => 0
  | .smem => 0
  | _ => 0

abbrev hbmTy0_0 (i : Nat) : BufTy := match i % 128 with
  | 0 => ⟨S114688x1024, .i32⟩
  | 1 => ⟨S32, .i32⟩
  | 2 => ⟨S2x32x2048x4096, .f32⟩
  | 3 => ⟨S2x32x4096, .f32⟩
  | 4 => ⟨S_, .i32⟩
  | 5 => ⟨S32, .i32⟩
  | 6 => ⟨S32, .i32⟩
  | 7 => ⟨S_, .i32⟩
  | 8 => ⟨S32, .i32⟩
  | 9 => ⟨S32, .i32⟩
  | 10 => ⟨S_, .i32⟩
  | 11 => ⟨S_, .i32⟩
  | 12 => ⟨S32, .i32⟩
  | 13 => ⟨S32, .i32⟩
  | 14 => ⟨S32, .i32⟩
  | 15 => ⟨S_, .i32⟩
  | 16 => ⟨S32, .i32⟩
  | 17 => ⟨S32, .i1⟩
  | 18 => ⟨S32, .i32⟩
  | 19 => ⟨S32, .i32⟩
  | 20 => ⟨S_, .i32⟩
  | 21 => ⟨S32, .i32⟩
  | 22 => ⟨S32, .i1⟩
  | 23 => ⟨S32, .i1⟩
  | 24 => ⟨S_, .i32⟩
  | 25 => ⟨S32, .i32⟩
  | 26 => ⟨S32, .i32⟩
  | 27 => ⟨S32, .i32⟩
  | 28 => ⟨S_, .i32⟩
  | 29 => ⟨S32, .i32⟩
  | 30 => ⟨S32, .i32⟩
  | 31 => ⟨S_, .i32⟩
  | 32 => ⟨S_, .i32⟩
  | 33 => ⟨S32, .i32⟩
  | 34 => ⟨S224, .i32⟩
  | 35 => ⟨S_, .i32⟩
  | 36 => ⟨S224, .i32⟩
  | 37 => ⟨S224, .i32⟩
  | 38 => ⟨S224x1, .i32⟩
  | 39 => ⟨S1x32, .i32⟩
  | 40 => ⟨S224x32, .i32⟩
  | 41 => ⟨S224x32, .i32⟩
  | 42 => ⟨S224x32, .i1⟩
  | 43 => ⟨S224x32, .i32⟩
  | 44 => ⟨S_, .i32⟩
  | 45 => ⟨S224, .i32⟩
  | 46 => ⟨S_, .i32⟩
  | 47 => ⟨S224, .i32⟩
  | 48 => ⟨S224, .i32⟩
  | 49 => ⟨S32, .i32⟩
  | 50 => ⟨S_, .i32⟩
  | 51 => ⟨S224, .i32⟩
  | 52 => ⟨S224, .i1⟩
  | 53 => ⟨S_, .i32⟩
  | 54 => ⟨S224, .i32⟩
  | 55 => ⟨S224, .i32⟩
  | 56 => ⟨S224, .i32⟩
  | 57 => ⟨S224x1, .i32⟩
  | 58 => ⟨S224, .i32⟩
  | 59 => ⟨S_, .i32⟩
  | 60 => ⟨S224, .i32⟩
  | 61 => ⟨S224, .i1⟩
  | 62 => ⟨S_, .i32⟩
  | 63 => ⟨S224, .i32⟩
  | 64 => ⟨S224, .i32⟩
  | 65 => ⟨S224, .i32⟩
  | 66 => ⟨S224x1, .i32⟩
  | 67 => ⟨S224, .i32⟩
  | 68 => ⟨S224, .i32⟩
  | 69 => ⟨S224, .i32⟩
  | 70 => ⟨S_, .i32⟩
  | 71 => ⟨S_, .i32⟩
  | 72 => ⟨S_, .i32⟩
  | 73 => ⟨S224, .i32⟩
  | 74 => ⟨S224, .i32⟩
  | 75 => ⟨S_, .i32⟩
  | 76 => ⟨S224, .i32⟩
  | 77 => ⟨S224, .i32⟩
  | 78 => ⟨S1, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S_, .i1⟩
  | 89 => ⟨S_, .i1⟩
  | 90 => ⟨S_, .i32⟩
  | 91 => ⟨S_, .i32⟩
  | 92 => ⟨S_, .i32⟩
  | 93 => ⟨S1, .i32⟩
  | 94 => ⟨S512, .i32⟩
  | 95 => ⟨S_, .i32⟩
  | 96 => ⟨S114688x1024, .i32⟩
  | 97 => ⟨S114688x1024, .i32⟩
  | 98 => ⟨S114688x1024, .f32⟩
  | 99 => ⟨S_, .i32⟩
  | 100 => ⟨S114688x1024, .i32⟩
  | 101 => ⟨S114688x1024, .i32⟩
  | 102 => ⟨S114688x1024, .f32⟩
  | 103 => ⟨S114688x2048, .f32⟩
  | 104 => ⟨S224x512x2048, .f32⟩
  | 105 => ⟨S1x512, .i32⟩
  | 106 => ⟨S224x1, .i32⟩
  | 107 => ⟨S224x512, .i32⟩
  | 108 => ⟨S224x512, .i32⟩
  | 109 => ⟨S224x512, .i1⟩
  | 110 => ⟨S224x512x1, .i1⟩
  | 111 => ⟨S_, .f32⟩
  | 112 => ⟨S_, .f32⟩
  | 113 => ⟨S224x512x2048, .i1⟩
  | 114 => ⟨S224x512x2048, .f32⟩
  | 115 => ⟨S224x512x2048, .f32⟩
  | 116 => ⟨S1x32x2048x4096, .f32⟩
  | 117 => ⟨S32x2048x4096, .f32⟩
  | 118 => ⟨S_, .i32⟩
  | 119 => ⟨S224, .i32⟩
  | 120 => ⟨S224, .i1⟩
  | 121 => ⟨S_, .i32⟩
  | 122 => ⟨S224, .i32⟩
  | 123 => ⟨S224, .i32⟩
  | 124 => ⟨S224, .i32⟩
  | 125 => ⟨S224x1, .i32⟩
  | 126 => ⟨S224x2048x4096, .f32⟩
  | 127 => ⟨S224x512x4096, .f32⟩
  | _ => ⟨S114688x1024, .i32⟩

abbrev hbmTy0_1 (i : Nat) : BufTy := match i % 128 with
  | 0 => ⟨S1x32x4096, .f32⟩
  | 1 => ⟨S32x4096, .f32⟩
  | 2 => ⟨S_, .i32⟩
  | 3 => ⟨S224, .i32⟩
  | 4 => ⟨S224, .i1⟩
  | 5 => ⟨S_, .i32⟩
  | 6 => ⟨S224, .i32⟩
  | 7 => ⟨S224, .i32⟩
  | 8 => ⟨S224, .i32⟩
  | 9 => ⟨S224x1, .i32⟩
  | 10 => ⟨S224x4096, .f32⟩
  | 11 => ⟨S224x1x4096, .f32⟩
  | 12 => ⟨S224x512x4096, .f32⟩
  | 13 => ⟨S224x512x4096, .f32⟩
  | 14 => ⟨S224x512x2048, .f32⟩
  | 15 => ⟨S224x512x2048, .f32⟩
  | 16 => ⟨S_, .f32⟩
  | 17 => ⟨S224x512x2048, .f32⟩
  | 18 => ⟨S224x512x2048, .f32⟩
  | 19 => ⟨S_, .f32⟩
  | 20 => ⟨S_, .f32⟩
  | 21 => ⟨S_, .f32⟩
  | 22 => ⟨S224x512x2048, .f32⟩
  | 23 => ⟨S224x512x2048, .f32⟩
  | 24 => ⟨S_, .f32⟩
  | 25 => ⟨S224x512x2048, .f32⟩
  | 26 => ⟨S224x512x2048, .f32⟩
  | 27 => ⟨S_, .f32⟩
  | 28 => ⟨S224x512x2048, .f32⟩
  | 29 => ⟨S224x512x2048, .f32⟩
  | 30 => ⟨S_, .f32⟩
  | 31 => ⟨S224x512x2048, .f32⟩
  | 32 => ⟨S224x512x2048, .f32⟩
  | 33 => ⟨S224x512x2048, .f32⟩
  | 34 => ⟨S224x512x2048, .f32⟩
  | 35 => ⟨S_, .f32⟩
  | 36 => ⟨S224x512x2048, .f32⟩
  | 37 => ⟨S224x512x2048, .f32⟩
  | 38 => ⟨S_, .f32⟩
  | 39 => ⟨S224x512x2048, .f32⟩
  | 40 => ⟨S224x512x2048, .f32⟩
  | 41 => ⟨S224x512x2048, .f32⟩
  | 42 => ⟨S224x512x2048, .f32⟩
  | 43 => ⟨S224, .i32⟩
  | 44 => ⟨S_, .i32⟩
  | 45 => ⟨S224, .i32⟩
  | 46 => ⟨S224, .i1⟩
  | 47 => ⟨S224x1x1, .i1⟩
  | 48 => ⟨S_, .f32⟩
  | 49 => ⟨S_, .f32⟩
  | 50 => ⟨S224x512x2048, .i1⟩
  | 51 => ⟨S224x512x2048, .f32⟩
  | 52 => ⟨S224x512x2048, .f32⟩
  | 53 => ⟨S114688x2048, .f32⟩
  | 54 => ⟨S114688x2048, .bf16⟩
  | _ => ⟨S114688x1024, .i32⟩

abbrev hbmTy (i : Nat) : BufTy := match i / 128 with
  | 0 => hbmTy0_0 i
  | 1 => hbmTy0_1 i
  | _ => ⟨S114688x1024, .i32⟩

abbrev bufTy : (tb : Table) → Fin (tcTables nBuf tb) → BufTy
  | .hbm, ⟨i, _⟩ => hbmTy i
  | _, _ => ⟨S114688x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_2 : Ref sig .tc := ⟨.hbm, 28, rfl⟩
abbrev main_v5 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_c_5 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_6 : Ref sig .tc := ⟨.hbm, 50, rfl⟩
abbrev main_v21 : Ref sig .tc := ⟨.hbm, 51, rfl⟩
abbrev main_v22 : Ref sig .tc := ⟨.hbm, 52, rfl⟩
abbrev main_c_7 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_8 : Ref sig .tc := ⟨.hbm, 59, rfl⟩
abbrev main_v28 : Ref sig .tc := ⟨.hbm, 60, rfl⟩
abbrev main_v29 : Ref sig .tc := ⟨.hbm, 61, rfl⟩
abbrev main_c_9 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_c_10 : Ref sig .tc := ⟨.hbm, 70, rfl⟩
abbrev main_c_11 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_c_12 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_c : Ref sig .tc := ⟨.hbm, 87, rfl⟩
abbrev main_call3_v6 : Ref sig .tc := ⟨.hbm, 88, rfl⟩
abbrev main_call3_v7 : Ref sig .tc := ⟨.hbm, 89, rfl⟩
abbrev main_call3_c_0 : Ref sig .tc := ⟨.hbm, 90, rfl⟩
abbrev main_call3_v8 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_c_13 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_c_14 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_cst : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_c_15 : Ref sig .tc := ⟨.hbm, 118, rfl⟩
abbrev main_v60 : Ref sig .tc := ⟨.hbm, 119, rfl⟩
abbrev main_v61 : Ref sig .tc := ⟨.hbm, 120, rfl⟩
abbrev main_c_16 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_c_17 : Ref sig .tc := ⟨.hbm, 130, rfl⟩
abbrev main_v70 : Ref sig .tc := ⟨.hbm, 131, rfl⟩
abbrev main_v71 : Ref sig .tc := ⟨.hbm, 132, rfl⟩
abbrev main_c_18 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_cst_19 : Ref sig .tc := ⟨.hbm, 144, rfl⟩
abbrev main_v82 : Ref sig .tc := ⟨.hbm, 145, rfl⟩
abbrev main_v83 : Ref sig .tc := ⟨.hbm, 146, rfl⟩
abbrev main_cst_20 : Ref sig .tc := ⟨.hbm, 147, rfl⟩
abbrev main_cst_21 : Ref sig .tc := ⟨.hbm, 148, rfl⟩
abbrev main_call5_v0 : Ref sig .tc := ⟨.hbm, 149, rfl⟩
abbrev main_call5_v1 : Ref sig .tc := ⟨.hbm, 150, rfl⟩
abbrev main_call5_v2 : Ref sig .tc := ⟨.hbm, 151, rfl⟩
abbrev main_call5_v3 : Ref sig .tc := ⟨.hbm, 152, rfl⟩
abbrev main_call5_v4 : Ref sig .tc := ⟨.hbm, 153, rfl⟩
abbrev main_v84 : Ref sig .tc := ⟨.hbm, 154, rfl⟩
abbrev main_cst_22 : Ref sig .tc := ⟨.hbm, 155, rfl⟩
abbrev main_v85 : Ref sig .tc := ⟨.hbm, 156, rfl⟩
abbrev main_v86 : Ref sig .tc := ⟨.hbm, 157, rfl⟩
abbrev main_cst_23 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_cst_24 : Ref sig .tc := ⟨.hbm, 163, rfl⟩
abbrev main_v91 : Ref sig .tc := ⟨.hbm, 164, rfl⟩
abbrev main_v92 : Ref sig .tc := ⟨.hbm, 165, rfl⟩
abbrev main_cst_25 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_cst_26 : Ref sig .tc := ⟨.hbm, 176, rfl⟩
abbrev main_call6_v0 : Ref sig .tc := ⟨.hbm, 177, rfl⟩
abbrev main_call6_v1 : Ref sig .tc := ⟨.hbm, 178, rfl⟩
abbrev main_call6_v2 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩

abbrev nD : Nat := 1
abbrev τ : Topo := Topo.v7x

variable {F : FTy → Type} [FloatOps F]
-- ==== Kernel2.lean ====
abbrev S24576x2048 : Shape := ⟨2, ![24576, 2048]⟩
abbrev S16x12288 : Shape := ⟨2, ![16, 12288]⟩
abbrev S2048x6656 : Shape := ⟨2, ![2048, 6656]⟩
abbrev S6656 : Shape := ⟨1, ![6656]⟩
abbrev S2048x6144 : Shape := ⟨2, ![2048, 6144]⟩
abbrev S6144 : Shape := ⟨1, ![6144]⟩
abbrev S16x1x12288 : Shape := ⟨3, ![16, 1, 12288]⟩
abbrev S1x6656 : Shape := ⟨2, ![1, 6656]⟩
abbrev S1x6144 : Shape := ⟨2, ![1, 6144]⟩
abbrev S24576x12800 : Shape := ⟨2, ![24576, 12800]⟩
abbrev S2048x2048 : Shape := ⟨2, ![2048, 2048]⟩
abbrev S1x1x2048 : Shape := ⟨3, ![1, 1, 2048]⟩
abbrev S2048x512 : Shape := ⟨2, ![2048, 512]⟩
abbrev S1x512 : Shape := ⟨2, ![1, 512]⟩
abbrev S2048 : Shape := ⟨1, ![2048]⟩
abbrev S2048x1 : Shape := ⟨2, ![2048, 1]⟩
abbrev S1x2048 : Shape := ⟨2, ![1, 2048]⟩

abbrev nBuf : Space → Nat
  | .hbm => 12
  | .vmem => 16
  | .smem => 0
  | _ => 0

abbrev bufTy : (tb : Table) → Fin (tcTables nBuf tb) → BufTy
  | .hbm, ⟨0, _⟩ => ⟨S24576x2048, .f32⟩
  | .hbm, ⟨1, _⟩ => ⟨S16x12288, .f32⟩
  | .hbm, ⟨2, _⟩ => ⟨S2048x6656, .f32⟩
  | .hbm, ⟨3, _⟩ => ⟨S6656, .f32⟩
  | .hbm, ⟨4, _⟩ => ⟨S2048x6144, .f32⟩
  | .hbm, ⟨5, _⟩ => ⟨S6144, .f32⟩
  | .hbm, ⟨6, _⟩ => ⟨S16x1x12288, .f32⟩
  | .hbm, ⟨7, _⟩ => ⟨S2048x6656, .bf16⟩
  | .hbm, ⟨8, _⟩ => ⟨S1x6656, .f32⟩
  | .hbm, ⟨9, _⟩ => ⟨S2048x6144, .bf16⟩
  | .hbm, ⟨10, _⟩ => ⟨S1x6144, .f32⟩
  | .hbm, ⟨11, _⟩ => ⟨S24576x12800, .bf16⟩
  | .local _ .vmem, ⟨0, _⟩ => ⟨S2048x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S2048x512, .bf16⟩
  | .local _ .vmem, ⟨6, _⟩ => ⟨S2048x512, .bf16⟩
  | .local _ .vmem, ⟨7, _⟩ => ⟨S1x512, .f32⟩
  | .local _ .vmem, ⟨8, _⟩ => ⟨S1x512, .f32⟩
  | .local _ .vmem, ⟨9, _⟩ => ⟨S2048x512, .bf16⟩
  | .local _ .vmem, ⟨10, _⟩ => ⟨S2048x512, .bf16⟩
  | .local _ .vmem, ⟨11, _⟩ => ⟨S1x512, .f32⟩
  | .local _ .vmem, ⟨12, _⟩ => ⟨S1x512, .f32⟩
  | .local _ .vmem, ⟨13, _⟩ => ⟨S2048x512, .bf16⟩
  | .local _ .vmem, ⟨14, _⟩ => ⟨S2048x512, .bf16⟩
  | .local _ .vmem, ⟨15, _⟩ => ⟨S2048x2048, .bf16⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![12, 25], ![false, false]⟩

def k0_cond2 (i : grid0.Coords) : BitVec 1 :=
  let arg1 : BitVec 32 := BitVec.ofNat 32 (i 1).val
  let c13_i32 : BitVec 32 := 13#32
  let v3 : BitVec 1 := Scalar.cmpi .slt arg1 c13_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c13_i32_2 : BitVec 32 := 13#32
  let v6 : BitVec 1 := Scalar.cmpi .sge arg1 c13_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c1_i32_9 : BitVec 32 := 1#32
  let c0_i32_10 : BitVec 32 := 0#32
  ![v20.toNat, c0_i32_8.toNat, c1_i32_9.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.minsi arg1 c12_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.minsi arg1 c12_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.subi arg1 c13_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.subi arg1 c13_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S24576x2048 : Shape := ⟨2, ![24576, 2048]⟩
abbrev S16x12288 : Shape := ⟨2, ![16, 12288]⟩
abbrev S2048x6656 : Shape := ⟨2, ![2048, 6656]⟩
abbrev S6656 : Shape := ⟨1, ![6656]⟩
abbrev S2048x6144 : Shape := ⟨2, ![2048, 6144]⟩
abbrev S6144 : Shape := ⟨1, ![6144]⟩
abbrev S16x2048 : Shape := ⟨2, ![16, 2048]⟩
abbrev S8192x2048 : Shape := ⟨2, ![8192, 2048]⟩
abbrev S32x256x2048 : Shape := ⟨3, ![32, 256, 2048]⟩
abbrev S_ : Shape := ⟨0, ![]⟩
abbrev S32x256 : Shape := ⟨2, ![32, 256]⟩
abbrev S32x256x1 : Shape := ⟨3, ![32, 256, 1]⟩
abbrev S1x2048 : Shape := ⟨2, ![1, 2048]⟩
abbrev S2048 : Shape := ⟨1, ![2048]⟩
abbrev S1x1x2048 : Shape := ⟨3, ![1, 1, 2048]⟩
abbrev S16384x2048 : Shape := ⟨2, ![16384, 2048]⟩
abbrev S8x2048x2048 : Shape := ⟨3, ![8, 2048, 2048]⟩
abbrev S8x2048 : Shape := ⟨2, ![8, 2048]⟩
abbrev S8x2048x1 : Shape := ⟨3, ![8, 2048, 1]⟩
abbrev S8x1x2048 : Shape := ⟨3, ![8, 1, 2048]⟩
abbrev S24576x6656 : Shape := ⟨2, ![24576, 6656]⟩
abbrev S1x6656 : Shape := ⟨2, ![1, 6656]⟩
abbrev S24576x6144 : Shape := ⟨2, ![24576, 6144]⟩
abbrev S1x6144 : Shape := ⟨2, ![1, 6144]⟩
abbrev S24576x12800 : Shape := ⟨2, ![24576, 12800]⟩

abbrev nBuf : Space → Nat
  | .hbm => 103
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S16x12288, .f32⟩
  | .hbm, ⟨2, _⟩ => ⟨S2048x6656, .f32⟩
  | .hbm, ⟨3, _⟩ => ⟨S6656, .f32⟩
  | .hbm, ⟨4, _⟩ => ⟨S2048x6144, .f32⟩
  | .hbm, ⟨5, _⟩ => ⟨S6144, .f32⟩
  | .hbm, ⟨6, _⟩ => ⟨S16x2048, .f32⟩
  | .hbm, ⟨7, _⟩ => ⟨S16x2048, .f32⟩
  | .hbm, ⟨8, _⟩ => ⟨S8192x2048, .f32⟩
  | .hbm, ⟨9, _⟩ => ⟨S32x256x2048, .f32⟩
  | .hbm, ⟨10, _⟩ => ⟨S_, .f32⟩
  | .hbm, ⟨11, _⟩ => ⟨S32x256, .f32⟩
  | .hbm, ⟨12, _⟩ => ⟨S32x256x1, .f32⟩
  | .hbm, ⟨13, _⟩ => ⟨S_, .f32⟩
  | .hbm, ⟨14, _⟩ => ⟨S32x256x1, .f32⟩
  | .hbm, ⟨15, _⟩ => ⟨S32x256x1, .f32⟩
  | .hbm, ⟨16, _⟩ => ⟨S32x256x2048, .f32⟩
  | .hbm, ⟨17, _⟩ => ⟨S32x256x2048, .f32⟩
  | .hbm, ⟨18, _⟩ => ⟨S32x256x2048, .f32⟩
  | .hbm, ⟨19, _⟩ => ⟨S_, .f32⟩
  | .hbm, ⟨20, _⟩ => ⟨S32x256, .f32⟩
  | .hbm, ⟨21, _⟩ => ⟨S32x256x1, .f32⟩
  | .hbm, ⟨22, _⟩ => ⟨S_, .f32⟩
  | .hbm, ⟨23, _⟩ => ⟨S32x256x1, .f32⟩
  | .hbm, ⟨24, _⟩ => ⟨S32x256x1, .f32⟩
  | .hbm, ⟨25, _⟩ => ⟨S32x256x2048, .f32⟩
  | .hbm, ⟨26, _⟩ => ⟨S32x256x2048, .f32⟩
  | .hbm, ⟨27, _⟩ => ⟨S_, .f32⟩
  | .hbm, ⟨28, _⟩ => ⟨S32x256x1, .f32⟩
  | .hbm, ⟨29, _⟩ => ⟨S32x256x1, .f32⟩
  | .hbm, ⟨30, _⟩ => ⟨S32x256x1, .f32⟩
  | .hbm, ⟨31, _⟩ => ⟨S32x256x2048, .f32⟩
  | .hbm, ⟨32, _⟩ => ⟨S32x256x2048, .f32⟩
  | .hbm, ⟨33, _⟩ => ⟨S1x2048, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S1x1x2048, .f32⟩
  | .hbm, ⟨39, _⟩ => ⟨S32x256x2048, .f32⟩
  | .hbm, ⟨40, _⟩ => ⟨S32x256x2048, .f32⟩
  | .hbm, ⟨41, _⟩ => ⟨S1x2048, .f32⟩
  | .hbm, ⟨42, _⟩ => ⟨S2048, .f32⟩
  | .hbm, ⟨43, _⟩ => ⟨S1x1x2048, .f32⟩
  | .hbm, ⟨44, _⟩ => ⟨S32x256x2048, .f32⟩
  | .hbm, ⟨45, _⟩ => ⟨S32x256x2048, .f32⟩
  | .hbm, ⟨46, _⟩ => ⟨S16384x2048, .f32⟩
  | .hbm, ⟨47, _⟩ => ⟨S8x2048x2048, .f32⟩
  | .hbm, ⟨48, _⟩ => ⟨S_, .f32⟩
  | .hbm, ⟨49, _⟩ => ⟨S8x2048, .f32⟩
  | .hbm, ⟨50, _⟩ => ⟨S8x2048x1, .f32⟩
  | .hbm, ⟨51, _⟩ => ⟨S_, .f32⟩
  | .hbm, ⟨52, _⟩ => ⟨S8x2048x1, .f32⟩
  | .hbm, ⟨53, _⟩ => ⟨S8x2048x1, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S_, .f32⟩
  | .hbm, ⟨58, _⟩ => ⟨S8x2048, .f32⟩
  | .hbm, ⟨59, _⟩ => ⟨S8x2048x1, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S8x2048x2048, .f32⟩
  | .hbm, ⟨64, _⟩ => ⟨S8x2048x2048, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S8x2048x1, .f32⟩
  | .hbm, ⟨69, _⟩ => ⟨S8x2048x2048, .f32⟩
  | .hbm, ⟨70, _⟩ => ⟨S8x2048x2048, .f32⟩
  | .hbm, ⟨71, _⟩ => ⟨S8x2048, .f32⟩
  | .hbm, ⟨72, _⟩ => ⟨S8x1x2048, .f32⟩
  | .hbm, ⟨73, _⟩ => ⟨S_, .f32⟩
  | .hbm, ⟨74, _⟩ => ⟨S8x1x2048, .f32⟩
  | .hbm, ⟨75, _⟩ => ⟨S8x1x2048, .f32⟩
  | .hbm, ⟨76, _⟩ => ⟨S8x2048x2048, .f32⟩
  | .hbm, ⟨77, _⟩ => ⟨S8x2048x2048, .f32⟩
  | .hbm, ⟨78, _⟩ => ⟨S8x2048, .f32⟩
  | .hbm, ⟨79, _⟩ => ⟨S8x1x2048, .f32⟩
  | .hbm, ⟨80, _⟩ => ⟨S8x2048x2048, .f32⟩
  | .hbm, ⟨81, _⟩ => ⟨S8x2048x2048, .f32⟩
  | .hbm, ⟨82, _⟩ => ⟨S8192x2048, .f32⟩
  | .hbm, ⟨83, _⟩ => ⟨S16384x2048, .f32⟩
  | .hbm, ⟨84, _⟩ => ⟨S24576x2048, .f32⟩
  | .hbm, ⟨85, _⟩ => ⟨S24576x6656, .f32⟩
  | .hbm, ⟨86, _⟩ => ⟨S1x6656, .f32⟩
  | .hbm, ⟨87, _⟩ => ⟨S24576x6656, .f32⟩
  | .hbm, ⟨88, _⟩ => ⟨S24576x6656, .f32⟩
  | .hbm, ⟨89, _⟩ => ⟨S24576x6144, .f32⟩
  | .hbm, ⟨90, _⟩ => ⟨S1x6144, .f32⟩
  | .hbm, ⟨91, _⟩ => ⟨S24576x6144, .f32⟩
  | .hbm, ⟨92, _⟩ => ⟨S24576x6144, .f32⟩
  | .hbm, ⟨93, _⟩ => ⟨S24576x6144, .f32⟩
  | .hbm, ⟨94, _⟩ => ⟨S24576x6144, .f32⟩
  | .hbm, ⟨95, _⟩ => ⟨S_, .f32⟩
  | .hbm, ⟨96, _⟩ => ⟨S24576x6144, .f32⟩
  | .hbm, ⟨97, _⟩ => ⟨S24576x6144, .f32⟩
  | .hbm, ⟨98, _⟩ => ⟨S_, .f32⟩
  | .hbm, ⟨99, _⟩ => ⟨S24576x6144, .f32⟩
  | .hbm, ⟨100, _⟩ => ⟨S24576x6144, .f32⟩
  | .hbm, ⟨101, _⟩ => ⟨S24576x12800, .f32⟩
  | .hbm, ⟨102, _⟩ => ⟨S24576x12800, .bf16⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_11 : Ref sig .tc := ⟨.hbm, 95, rfl⟩
abbrev main_v77 : Ref sig .tc := ⟨.hbm, 96, rfl⟩
abbrev main_v78 : Ref sig .tc := ⟨.hbm, 97, rfl⟩
abbrev main_cst_12 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩

abbrev nD : Nat := 1
abbrev τ : Topo := Topo.v7x

variable {F : FTy → Type} [FloatOps F]
-- ==== Kernel3.lean ====
abbrev S8192x1024 : Shape := ⟨2, ![8192, 1024]⟩
abbrev S8192x512 : Shape := ⟨2, ![8192, 512]⟩
abbrev S16384x1024 : Shape := ⟨2, ![16384, 1024]⟩
abbrev S16384x512 : Shape := ⟨2, ![16384, 512]⟩
abbrev S24576x12800 : Shape := ⟨2, ![24576, 12800]⟩
abbrev S1024x2048 : Shape := ⟨2, ![1024, 2048]⟩
abbrev S512x2048 : Shape := ⟨2, ![512, 2048]⟩
abbrev S3x2048 : Shape := ⟨2, ![3, 2048]⟩
abbrev S24576x2048 : Shape := ⟨2, ![24576, 2048]⟩
abbrev S1024x1024 : Shape := ⟨2, ![1024, 1024]⟩
abbrev S1024x512 : Shape := ⟨2, ![1024, 512]⟩
abbrev S512x512 : Shape := ⟨2, ![512, 512]⟩
abbrev S3x512 : Shape := ⟨2, ![3, 512]⟩
abbrev S1x512 : Shape := ⟨2, ![1, 512]⟩

abbrev nBuf : Space → Nat
  | .hbm => 15
  | .vmem => 28
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S16384x1024, .bf16⟩
  | .hbm, ⟨4, _⟩ => ⟨S16384x512, .bf16⟩
  | .hbm, ⟨5, _⟩ => ⟨S16384x512, .bf16⟩
  | .hbm, ⟨6, _⟩ => ⟨S24576x12800, .bf16⟩
  | .hbm, ⟨7, _⟩ => ⟨S1024x2048, .f32⟩
  | .hbm, ⟨8, _⟩ => ⟨S512x2048, .f32⟩
  | .hbm, ⟨9, _⟩ => ⟨S512x2048, .f32⟩
  | .hbm, ⟨10, _⟩ => ⟨S3x2048, .f32⟩
  | .hbm, ⟨11, _⟩ => ⟨S1024x2048, .bf16⟩
  | .hbm, ⟨12, _⟩ => ⟨S512x2048, .bf16⟩
  | .hbm, ⟨13, _⟩ => ⟨S512x2048, .bf16⟩
  | .hbm, ⟨14, _⟩ => ⟨S24576x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S3x512, .f32⟩
  | .local _ .vmem, ⟨25, _⟩ => ⟨S3x512, .f32⟩
  | .local _ .vmem, ⟨26, _⟩ => ⟨S1024x512, .bf16⟩
  | .local _ .vmem, ⟨27, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![24, 4], ![false, false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32 : BitVec 32 := 8#32
  let v0 : BitVec 1 := Scalar.cmpi .slt arg0 c8_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S3x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S8192x1024 : Shape := ⟨2, ![8192, 1024]⟩
abbrev S8192x512 : Shape := ⟨2, ![8192, 512]⟩
abbrev S16384x1024 : Shape := ⟨2, ![16384, 1024]⟩
abbrev S16384x512 : Shape := ⟨2, ![16384, 512]⟩
abbrev S24576x12800 : Shape := ⟨2, ![24576, 12800]⟩
abbrev S1024x2048 : Shape := ⟨2, ![1024, 2048]⟩
abbrev S512x2048 : Shape := ⟨2, ![512, 2048]⟩
abbrev S3x2048 : Shape := ⟨2, ![3, 2048]⟩
abbrev S24576x1024 : Shape := ⟨2, ![24576, 1024]⟩
abbrev S24576x512 : Shape := ⟨2, ![24576, 512]⟩
abbrev S24576x6144 : Shape := ⟨2, ![24576, 6144]⟩
abbrev S24576x3x2048 : Shape := ⟨3, ![24576, 3, 2048]⟩
abbrev S24576x1x2048 : Shape := ⟨3, ![24576, 1, 2048]⟩
abbrev S24576x2048 : Shape := ⟨2, ![24576, 2048]⟩
abbrev S1x2048 : Shape := ⟨2, ![1, 2048]⟩
abbrev S2048 : Shape := ⟨1, ![2048]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S16384x1024, .bf16⟩
  | .hbm, ⟨4, _⟩ => ⟨S16384x512, .bf16⟩
  | .hbm, ⟨5, _⟩ => ⟨S16384x512, .bf16⟩
  | .hbm, ⟨6, _⟩ => ⟨S24576x12800, .bf16⟩
  | .hbm, ⟨7, _⟩ => ⟨S1024x2048, .f32⟩
  | .hbm, ⟨8, _⟩ => ⟨S512x2048, .f32⟩
  | .hbm, ⟨9, _⟩ => ⟨S512x2048, .f32⟩
  | .hbm, ⟨10, _⟩ => ⟨S3x2048, .f32⟩
  | .hbm, ⟨11, _⟩ => ⟨S24576x1024, .bf16⟩
  | .hbm, ⟨12, _⟩ => ⟨S24576x1024, .f32⟩
  | .hbm, ⟨13, _⟩ => ⟨S24576x512, .bf16⟩
  | .hbm, ⟨14, _⟩ => ⟨S24576x512, .f32⟩
  | .hbm, ⟨15, _⟩ => ⟨S24576x512, .bf16⟩
  | .hbm, ⟨16, _⟩ => ⟨S24576x512, .f32⟩
  | .hbm, ⟨17, _⟩ => ⟨S24576x6144, .bf16⟩
  | .hbm, ⟨18, _⟩ => ⟨S24576x6144, .f32⟩
  | .hbm, ⟨19, _⟩ => ⟨S24576x3x2048, .f32⟩
  | .hbm, ⟨20, _⟩ => ⟨S24576x1x2048, .f32⟩
  | .hbm, ⟨21, _⟩ => ⟨S24576x2048, .f32⟩
  | .hbm, ⟨22, _⟩ => ⟨S24576x2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S24576x2048, .f32⟩
  | .hbm, ⟨27, _⟩ => ⟨S24576x2048, .f32⟩
  | .hbm, ⟨28, _⟩ => ⟨S24576x2048, .f32⟩
  | .hbm, ⟨29, _⟩ => ⟨S24576x1x2048, .f32⟩
  | .hbm, ⟨30, _⟩ => ⟨S24576x2048, .f32⟩
  | .hbm, ⟨31, _⟩ => ⟨S24576x2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S24576x2048, .f32⟩
  | .hbm, ⟨36, _⟩ => ⟨S24576x2048, .f32⟩
  | .hbm, ⟨37, _⟩ => ⟨S24576x2048, .f32⟩
  | .hbm, ⟨38, _⟩ => ⟨S24576x2048, .f32⟩
  | .hbm, ⟨39, _⟩ => ⟨S24576x1x2048, .f32⟩
  | .hbm, ⟨40, _⟩ => ⟨S24576x2048, .f32⟩
  | .hbm, ⟨41, _⟩ => ⟨S24576x2048, .f32⟩
  | .hbm, ⟨42, _⟩ => ⟨S1x2048, .f32⟩
  | .hbm, ⟨43, _⟩ => ⟨S2048, .f32⟩
  | .hbm, ⟨44, _⟩ => ⟨S1x2048, .f32⟩
  | .hbm, ⟨45, _⟩ => ⟨S24576x2048, .f32⟩
  | .hbm, ⟨46, _⟩ => ⟨S24576x2048, .f32⟩
  | .hbm, ⟨47, _⟩ => ⟨S24576x2048, .f32⟩
  | .hbm, ⟨48, _⟩ => ⟨S24576x2048, .f32⟩
  | .hbm, ⟨49, _⟩ => ⟨S24576x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel4.lean ====
abbrev S24576x2048 : Shape := ⟨2, ![24576, 2048]⟩
abbrev S98304x1024 : Shape := ⟨2, ![98304, 1024]⟩
abbrev S24576x128 : Shape := ⟨2, ![24576, 128]⟩
abbrev S16x12288 : Shape := ⟨2, ![16, 12288]⟩
abbrev S2048 : Shape := ⟨1, ![2048]⟩
abbrev S16x1x12288 : Shape := ⟨3, ![16, 1, 12288]⟩
abbrev S1x2048 : Shape := ⟨2, ![1, 2048]⟩
abbrev S8192x2048 : Shape := ⟨2, ![8192, 2048]⟩
abbrev S512x2048 : Shape := ⟨2, ![512, 2048]⟩
abbrev S512x1024 : Shape := ⟨2, ![512, 1024]⟩
abbrev S512x128 : Shape := ⟨2, ![512, 128]⟩
abbrev S1x1x2048 : Shape := ⟨3, ![1, 1, 2048]⟩
abbrev S512x1 : Shape := ⟨2, ![512, 1]⟩
abbrev S512 : Shape := ⟨1, ![512]⟩

abbrev nBuf : Space → Nat
  | .hbm => 10
  | .vmem => 18
  | .smem => 0
  | _ => 0

abbrev bufTy : (tb : Table) → Fin (tcTables nBuf tb) → BufTy
  | .hbm, ⟨0, _⟩ => ⟨S24576x2048, .f32⟩
  | .hbm, ⟨1, _⟩ => ⟨S98304x1024, .i32⟩
  | .hbm, ⟨2, _⟩ => ⟨S24576x128, .f32⟩
  | .hbm, ⟨3, _⟩ => ⟨S16x12288, .f32⟩
  | .hbm, ⟨4, _⟩ => ⟨S2048, .f32⟩
  | .hbm, ⟨5, _⟩ => ⟨S2048, .f32⟩
  | .hbm, ⟨6, _⟩ => ⟨S16x1x12288, .f32⟩
  | .hbm, ⟨7, _⟩ => ⟨S1x2048, .f32⟩
  | .hbm, ⟨8, _⟩ => ⟨S1x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .i32⟩
  | .local _ .vmem, ⟨3, _⟩ => ⟨S512x1024, .i32⟩
  | .local _ .vmem, ⟨4, _⟩ => ⟨S512x1024, .i32⟩
  | .local _ .vmem, ⟨5, _⟩ => ⟨S512x1024, .i32⟩
  | .local _ .vmem, ⟨6, _⟩ => ⟨S512x1024, .i32⟩
  | .local _ .vmem, ⟨7, _⟩ => ⟨S512x1024, .i32⟩
  | .local _ .vmem, ⟨8, _⟩ => ⟨S512x1024, .i32⟩
  | .local _ .vmem, ⟨9, _⟩ => ⟨S512x1024, .i32⟩
  | .local _ .vmem, ⟨10, _⟩ => ⟨S512x128, .f32⟩
  | .local _ .vmem, ⟨11, _⟩ => ⟨S512x128, .f32⟩
  | .local _ .vmem, ⟨12, _⟩ => ⟨S1x1x2048, .f32⟩
  | .local _ .vmem, ⟨13, _⟩ => ⟨S1x1x2048, .f32⟩
  | .local _ .vmem, ⟨14, _⟩ => ⟨S1x2048, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c144_i32 : BitVec 32 := 144#32
  let v0 : BitVec 32 := Scalar.addi c144_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 3 → Nat :=
  let arg0 : BitVec 32 := BitVec.ofNat 32 (i 0).val
  let c0_i32 : BitVec 32 := 0#32
  let v0 : BitVec 32 := Scalar.addi c0_i32 arg0
  let c16_i32 : BitVec 32 := 16#32
  let v1 : BitVec 1 := Scalar.cmpi .slt v0 c16_i32
  let c16_i32_0 : BitVec 32 := 16#32
  let v2 : BitVec 32 := Scalar.subi v0 c16_i32_0
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c0_i32_8 : BitVec 32 := 0#32
  let c5_i32 : BitVec 32 := 5#32
  let c0_i32_9 : BitVec 32 := 0#32
  ![v21.toNat, c0_i32_8.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S24576x2048 : Shape := ⟨2, ![24576, 2048]⟩
abbrev S98304x1024 : Shape := ⟨2, ![98304, 1024]⟩
abbrev S24576x128 : Shape := ⟨2, ![24576, 128]⟩
abbrev S16x12288 : Shape := ⟨2, ![16, 12288]⟩
abbrev S2048 : Shape := ⟨1, ![2048]⟩
abbrev S8192x2048 : Shape := ⟨2, ![8192, 2048]⟩
abbrev S4x24576x1024 : Shape := ⟨3, ![4, 24576, 1024]⟩
abbrev S4x8192x1024 : Shape := ⟨3, ![4, 8192, 1024]⟩
abbrev S8192x128 : Shape := ⟨2, ![8192, 128]⟩
abbrev S1x2048 : Shape := ⟨2, ![1, 2048]⟩
abbrev S_ : Shape := ⟨0, ![]⟩
abbrev S4x8192x2048 : Shape := ⟨3, ![4, 8192, 2048]⟩
abbrev S8192x1 : Shape := ⟨2, ![8192, 1]⟩
abbrev S1x8192x2048 : Shape := ⟨3, ![1, 8192, 2048]⟩
abbrev S8192 : Shape := ⟨1, ![8192]⟩

abbrev nBuf : Space → Nat
  | .hbm => 80
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S98304x1024, .i32⟩
  | .hbm, ⟨2, _⟩ => ⟨S24576x128, .f32⟩
  | .hbm, ⟨3, _⟩ => ⟨S16x12288, .f32⟩
  | .hbm, ⟨4, _⟩ => ⟨S2048, .f32⟩
  | .hbm, ⟨5, _⟩ => ⟨S2048, .f32⟩
  | .hbm, ⟨6, _⟩ => ⟨S8192x2048, .f32⟩
  | .hbm, ⟨7, _⟩ => ⟨S4x24576x1024, .i32⟩
  | .hbm, ⟨8, _⟩ => ⟨S4x8192x1024, .i32⟩
  | .hbm, ⟨9, _⟩ => ⟨S8192x128, .f32⟩
  | .hbm, ⟨10, _⟩ => ⟨S1x2048, .f32⟩
  | .hbm, ⟨11, _⟩ => ⟨S2048, .f32⟩
  | .hbm, ⟨12, _⟩ => ⟨S_, .i32⟩
  | .hbm, ⟨13, _⟩ => ⟨S4x8192x1024, .i32⟩
  | .hbm, ⟨14, _⟩ => ⟨S4x8192x1024, .i32⟩
  | .hbm, ⟨15, _⟩ => ⟨S4x8192x1024, .f32⟩
  | .hbm, ⟨16, _⟩ => ⟨S_, .i32⟩
  | .hbm, ⟨17, _⟩ => ⟨S4x8192x1024, .i32⟩
  | .hbm, ⟨18, _⟩ => ⟨S4x8192x1024, .i32⟩
  | .hbm, ⟨19, _⟩ => ⟨S4x8192x1024, .f32⟩
  | .hbm, ⟨20, _⟩ => ⟨S4x8192x2048, .f32⟩
  | .hbm, ⟨21, _⟩ => ⟨S8192x1, .f32⟩
  | .hbm, ⟨22, _⟩ => ⟨S1x8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x1, .f32⟩
  | .hbm, ⟨27, _⟩ => ⟨S1x8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x1, .f32⟩
  | .hbm, ⟨33, _⟩ => ⟨S1x8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x1, .f32⟩
  | .hbm, ⟨39, _⟩ => ⟨S1x8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x2048, .f32⟩
  | .hbm, ⟨67, _⟩ => ⟨S8192x2048, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S8192x1, .f32⟩
  | .hbm, ⟨72, _⟩ => ⟨S8192x2048, .f32⟩
  | .hbm, ⟨73, _⟩ => ⟨S8192x2048, .f32⟩
  | .hbm, ⟨74, _⟩ => ⟨S1x2048, .f32⟩
  | .hbm, ⟨75, _⟩ => ⟨S8192x2048, .f32⟩
  | .hbm, ⟨76, _⟩ => ⟨S8192x2048, .f32⟩
  | .hbm, ⟨77, _⟩ => ⟨S1x2048, .f32⟩
  | .hbm, ⟨78, _⟩ => ⟨S8192x2048, .f32⟩
  | .hbm, ⟨79, _⟩ => ⟨S8192x2048, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_1 : Ref sig .tc := ⟨.hbm, 51, rfl⟩
abbrev main_v42 : Ref sig .tc := ⟨.hbm, 52, rfl⟩
abbrev main_v43 : Ref sig .tc := ⟨.hbm, 53, rfl⟩
abbrev main_cst_2 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_3 : Ref sig .tc := ⟨.hbm, 60, rfl⟩
abbrev main_v49 : Ref sig .tc := ⟨.hbm, 61, rfl⟩
abbrev main_v50 : Ref sig .tc := ⟨.hbm, 62, rfl⟩
abbrev main_cst_4 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_5 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩

abbrev nD : Nat := 1
abbrev τ : Topo := Topo.v7x

variable {F : FTy → Type} [FloatOps F]
-- ==== Kernel5.lean ====
abbrev S24576x2048 : Shape := ⟨2, ![24576, 2048]⟩
abbrev S98304x1024 : Shape := ⟨2, ![98304, 1024]⟩
abbrev S24576x128 : Shape := ⟨2, ![24576, 128]⟩
abbrev S16x12288 : Shape := ⟨2, ![16, 12288]⟩
abbrev S2048 : Shape := ⟨1, ![2048]⟩
abbrev S16x1x12288 : Shape := ⟨3, ![16, 1, 12288]⟩
abbrev S1x2048 : Shape := ⟨2, ![1, 2048]⟩
abbrev S16384x2048 : Shape := ⟨2, ![16384, 2048]⟩
abbrev S512x2048 : Shape := ⟨2, ![512, 2048]⟩
abbrev S512x1024 : Shape := ⟨2, ![512, 1024]⟩
abbrev S512x128 : Shape := ⟨2, ![512, 128]⟩
abbrev S1x1x2048 : Shape := ⟨3, ![1, 1, 2048]⟩
abbrev S512x1 : Shape := ⟨2, ![512, 1]⟩
abbrev S512 : Shape := ⟨1, ![512]⟩

abbrev nBuf : Space → Nat
  | .hbm => 10
  | .vmem => 18
  | .smem => 0
  | _ => 0

abbrev bufTy : (tb : Table) → Fin (tcTables nBuf tb) → BufTy
  | .hbm, ⟨0, _⟩ => ⟨S24576x2048, .f32⟩
  | .hbm, ⟨1, _⟩ => ⟨S98304x1024, .i32⟩
  | .hbm, ⟨2, _⟩ => ⟨S24576x128, .f32⟩
  | .hbm, ⟨3, _⟩ => ⟨S16x12288, .f32⟩
  | .hbm, ⟨4, _⟩ => ⟨S2048, .f32⟩
  | .hbm, ⟨5, _⟩ => ⟨S2048, .f32⟩
  | .hbm, ⟨6, _⟩ => ⟨S16x1x12288, .f32⟩
  | .hbm, ⟨7, _⟩ => ⟨S1x2048, .f32⟩
  | .hbm, ⟨8, _⟩ => ⟨S1x2048, .f32⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .i32⟩
  | .local _ .vmem, ⟨3, _⟩ => ⟨S512x1024, .i32⟩
  | .local _ .vmem, ⟨4, _⟩ => ⟨S512x1024, .i32⟩
  | .local _ .vmem, ⟨5, _⟩ => ⟨S512x1024, .i32⟩
  | .local _ .vmem, ⟨6, _⟩ => ⟨S512x1024, .i32⟩
  | .local _ .vmem, ⟨7, _⟩ => ⟨S512x1024, .i32⟩
  | .local _ .vmem, ⟨8, _⟩ => ⟨S512x1024, .i32⟩
  | .local _ .vmem, ⟨9, _⟩ => ⟨S512x1024, .i32⟩
  | .local _ .vmem, ⟨10, _⟩ => ⟨S512x128, .f32⟩
  | .local _ .vmem, ⟨11, _⟩ => ⟨S512x128, .f32⟩
  | .local _ .vmem, ⟨12, _⟩ => ⟨S1x1x2048, .f32⟩
  | .local _ .vmem, ⟨13, _⟩ => ⟨S1x1x2048, .f32⟩
  | .local _ .vmem, ⟨14, _⟩ => ⟨S1x2048, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c112_i32 : BitVec 32 := 112#32
  let v0 : BitVec 32 := Scalar.addi c112_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c160_i32 : BitVec 32 := 160#32
  let v0 : BitVec 32 := Scalar.addi c160_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c16_i32 : BitVec 32 := 16#32
  let v0 : BitVec 32 := Scalar.addi c16_i32 arg0
  let c16_i32_0 : BitVec 32 := 16#32
  let v1 : BitVec 1 := Scalar.cmpi .slt v0 c16_i32_0
  let c16_i32_1 : BitVec 32 := 16#32
  let v2 : BitVec 32 := Scalar.subi v0 c16_i32_1
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c0_i32_8 : BitVec 32 := 0#32
  let c5_i32 : BitVec 32 := 5#32
  let c0_i32_9 : BitVec 32 := 0#32
  ![v21.toNat, c0_i32_8.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S24576x2048 : Shape := ⟨2, ![24576, 2048]⟩
abbrev S98304x1024 : Shape := ⟨2, ![98304, 1024]⟩
abbrev S24576x128 : Shape := ⟨2, ![24576, 128]⟩
abbrev S16x12288 : Shape := ⟨2, ![16, 12288]⟩
abbrev S2048 : Shape := ⟨1, ![2048]⟩
abbrev S8x2048 : Shape := ⟨2, ![8, 2048]⟩
abbrev S8x1x2048 : Shape := ⟨3, ![8, 1, 2048]⟩
abbrev S8x2048x2048 : Shape := ⟨3, ![8, 2048, 2048]⟩
abbrev S16384x2048 : Shape := ⟨2, ![16384, 2048]⟩
abbrev S4x24576x1024 : Shape := ⟨3, ![4, 24576, 1024]⟩
abbrev S4x16384x1024 : Shape := ⟨3, ![4, 16384, 1024]⟩
abbrev S16384x128 : Shape := ⟨2, ![16384, 128]⟩
abbrev S_ : Shape := ⟨0, ![]⟩
abbrev S4x16384x2048 : Shape := ⟨3, ![4, 16384, 2048]⟩
abbrev S16384x1 : Shape := ⟨2, ![16384, 1]⟩
abbrev S1x16384x2048 : Shape := ⟨3, ![1, 16384, 2048]⟩
abbrev S16384 : Shape := ⟨1, ![16384]⟩
abbrev S1x2048 : Shape := ⟨2, ![1, 2048]⟩

abbrev nBuf : Space → Nat
  | .hbm => 80
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S98304x1024, .i32⟩
  | .hbm, ⟨2, _⟩ => ⟨S24576x128, .f32⟩
  | .hbm, ⟨3, _⟩ => ⟨S16x12288, .f32⟩
  | .hbm, ⟨4, _⟩ => ⟨S2048, .f32⟩
  | .hbm, ⟨5, _⟩ => ⟨S2048, .f32⟩
  | .hbm, ⟨6, _⟩ => ⟨S8x2048, .f32⟩
  | .hbm, ⟨7, _⟩ => ⟨S8x1x2048, .f32⟩
  | .hbm, ⟨8, _⟩ => ⟨S8x2048x2048, .f32⟩
  | .hbm, ⟨9, _⟩ => ⟨S16384x2048, .f32⟩
  | .hbm, ⟨10, _⟩ => ⟨S16384x2048, .f32⟩
  | .hbm, ⟨11, _⟩ => ⟨S4x24576x1024, .i32⟩
  | .hbm, ⟨12, _⟩ => ⟨S4x16384x1024, .i32⟩
  | .hbm, ⟨13, _⟩ => ⟨S16384x128, .f32⟩
  | .hbm, ⟨14, _⟩ => ⟨S_, .i32⟩
  | .hbm, ⟨15, _⟩ => ⟨S4x16384x1024, .i32⟩
  | .hbm, ⟨16, _⟩ => ⟨S4x16384x1024, .i32⟩
  | .hbm, ⟨17, _⟩ => ⟨S4x16384x1024, .f32⟩
  | .hbm, ⟨18, _⟩ => ⟨S_, .i32⟩
  | .hbm, ⟨19, _⟩ => ⟨S4x16384x1024, .i32⟩
  | .hbm, ⟨20, _⟩ => ⟨S4x16384x1024, .i32⟩
  | .hbm, ⟨21, _⟩ => ⟨S4x16384x1024, .f32⟩
  | .hbm, ⟨22, _⟩ => ⟨S4x16384x2048, .f32⟩
  | .hbm, ⟨23, _⟩ => ⟨S16384x1, .f32⟩
  | .hbm, ⟨24, _⟩ => ⟨S1x16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x1, .f32⟩
  | .hbm, ⟨29, _⟩ => ⟨S1x16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x1, .f32⟩
  | .hbm, ⟨35, _⟩ => ⟨S1x16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x1, .f32⟩
  | .hbm, ⟨41, _⟩ => ⟨S1x16384x2048, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S_, .f32⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S16384x2048, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x2048, .f32⟩
  | .hbm, ⟨58, _⟩ => ⟨S16384x2048, .f32⟩
  | .hbm, ⟨59, _⟩ => ⟨S16384x2048, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S16384x2048, .f32⟩
  | .hbm, ⟨67, _⟩ => ⟨S16384x2048, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S16384x1, .f32⟩
  | .hbm, ⟨72, _⟩ => ⟨S16384x2048, .f32⟩
  | .hbm, ⟨73, _⟩ => ⟨S16384x2048, .f32⟩
  | .hbm, ⟨74, _⟩ => ⟨S1x2048, .f32⟩
  | .hbm, ⟨75, _⟩ => ⟨S16384x2048, .f32⟩
  | .hbm, ⟨76, _⟩ => ⟨S16384x2048, .f32⟩
  | .hbm, ⟨77, _⟩ => ⟨S1x2048, .f32⟩
  | .hbm, ⟨78, _⟩ => ⟨S16384x2048, .f32⟩
  | .hbm, ⟨79, _⟩ => ⟨S16384x2048, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_1 : Ref sig .tc := ⟨.hbm, 51, rfl⟩
abbrev main_v42 : Ref sig .tc := ⟨.hbm, 52, rfl⟩
abbrev main_v43 : Ref sig .tc := ⟨.hbm, 53, rfl⟩
abbrev main_cst_2 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_3 : Ref sig .tc := ⟨.hbm, 60, rfl⟩
abbrev main_v49 : Ref sig .tc := ⟨.hbm, 61, rfl⟩
abbrev main_v50 : Ref sig .tc := ⟨.hbm, 62, rfl⟩
abbrev main_cst_4 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_5 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩

abbrev nD : Nat := 1
abbrev τ : Topo := Topo.v7x

variable {F : FTy → Type} [FloatOps F]
-- ==== Kernel6.lean ====
abbrev S114688x2048 : Shape := ⟨2, ![114688, 2048]⟩
abbrev S32 : Shape := ⟨1, ![32]⟩
abbrev S2x32x2048x2048 : Shape := ⟨4, ![2, 32, 2048, 2048]⟩
abbrev S2x32x2048 : Shape := ⟨3, ![2, 32, 2048]⟩
abbrev S_ : Shape := ⟨0, ![]⟩
abbrev S1 : Shape := ⟨1, ![1]⟩
abbrev S1x1 : Shape := ⟨2, ![1, 1]⟩
abbrev S224 : Shape := ⟨1, ![224]⟩
abbrev S224x1 : Shape := ⟨2, ![224, 1]⟩
abbrev S1x32 : Shape := ⟨2, ![1, 32]⟩
abbrev S224x32 : Shape := ⟨2, ![224, 32]⟩
abbrev S2x32x1x2048 : Shape := ⟨4, ![2, 32, 1, 2048]⟩
abbrev S512x2048 : Shape := ⟨2, ![512, 2048]⟩
abbrev S1x1x2048x2048 : Shape := ⟨4, ![1, 1, 2048, 2048]⟩
abbrev S1x1x1x2048 : Shape := ⟨4, ![1, 1, 1, 2048]⟩
abbrev S2048x2048 : Shape := ⟨2, ![2048, 2048]⟩
abbrev S1x2048 : Shape := ⟨2, ![1, 2048]⟩

abbrev nBuf : Space → Nat
  | .hbm => 108
  | .vmem => 9
  | .smem => 2
  | _ => 0

abbrev bufTy : (tb : Table) → Fin (tcTables nBuf tb) → BufTy
  | .hbm, ⟨0, _⟩ => ⟨S114688x2048, .bf16⟩
  | .hbm, ⟨1, _⟩ => ⟨S32, .i32⟩
  | .hbm, ⟨2, _⟩ => ⟨S2x32x2048x2048, .f32⟩
  | .hbm, ⟨3, _⟩ => ⟨S2x32x2048, .f32⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S32, .i32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S32, .i32⟩
  | .hbm, ⟨23, _⟩ => ⟨S32, .i32⟩
  | .hbm, ⟨24, _⟩ => ⟨S_, .i32⟩
  | .hbm, ⟨25, _⟩ => ⟨S32, .i32⟩
  | .hbm, ⟨26, _⟩ => ⟨S32, .i1⟩
  | .hbm, ⟨27, _⟩ => ⟨S32, .i1⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S_, .i32⟩
  | .hbm, ⟨36, _⟩ => ⟨S_, .i32⟩
  | .hbm, ⟨37, _⟩ => ⟨S32, .i32⟩
  | .hbm, ⟨38, _⟩ => ⟨S32, .i32⟩
  | .hbm, ⟨39, _⟩ => ⟨S_, .i32⟩
  | .hbm, ⟨40, _⟩ => ⟨S1, .i32⟩
  | .hbm, ⟨41, _⟩ => ⟨S1, .i1⟩
  | .hbm, ⟨42, _⟩ => ⟨S_, .i32⟩
  | .hbm, ⟨43, _⟩ => ⟨S1, .i32⟩
  | .hbm, ⟨44, _⟩ => ⟨S1, .i32⟩
  | .hbm, ⟨45, _⟩ => ⟨S1, .i32⟩
  | .hbm, ⟨46, _⟩ => ⟨S1x1, .i32⟩
  | .hbm, ⟨47, _⟩ => ⟨S1, .i32⟩
  | .hbm, ⟨48, _⟩ => ⟨S1, .i32⟩
  | .hbm, ⟨49, _⟩ => ⟨S224, .i32⟩
  | .hbm, ⟨50, _⟩ => ⟨S_, .i32⟩
  | .hbm, ⟨51, _⟩ => ⟨S224, .i32⟩
  | .hbm, ⟨52, _⟩ => ⟨S224, .i32⟩
  | .hbm, ⟨53, _⟩ => ⟨S224x1, .i32⟩
  | .hbm, ⟨54, _⟩ => ⟨S1x32, .i32⟩
  | .hbm, ⟨55, _⟩ => ⟨S224x32, .i32⟩
  | .hbm, ⟨56, _⟩ => ⟨S224x32, .i32⟩
  | .hbm, ⟨57, _⟩ => ⟨S224x32, .i1⟩
  | .hbm, ⟨58, _⟩ => ⟨S224x32, .i32⟩
  | .hbm, ⟨59, _⟩ => ⟨S_, .i32⟩
  | .hbm, ⟨60, _⟩ => ⟨S224, .i32⟩
  | .hbm, ⟨61, _⟩ => ⟨S_, .i32⟩
  | .hbm, ⟨62, _⟩ => ⟨S224, .i32⟩
  | .hbm, ⟨63, _⟩ => ⟨S1, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i1⟩
  | .hbm, ⟨71, _⟩ => ⟨S_, .i32⟩
  | .hbm, ⟨72, _⟩ => ⟨S_, .i32⟩
  | .hbm, ⟨73, _⟩ => ⟨S_, .i1⟩
  | .hbm, ⟨74, _⟩ => ⟨S_, .i1⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S224, .i32⟩
  | .hbm, ⟨80, _⟩ => ⟨S224, .i1⟩
  | .hbm, ⟨81, _⟩ => ⟨S_, .i32⟩
  | .hbm, ⟨82, _⟩ => ⟨S224, .i32⟩
  | .hbm, ⟨83, _⟩ => ⟨S224, .i32⟩
  | .hbm, ⟨84, _⟩ => ⟨S224, .i32⟩
  | .hbm, ⟨85, _⟩ => ⟨S224x1, .i32⟩
  | .hbm, ⟨86, _⟩ => ⟨S224, .i32⟩
  | .hbm, ⟨87, _⟩ => ⟨S_, .i32⟩
  | .hbm, ⟨88, _⟩ => ⟨S224, .i32⟩
  | .hbm, ⟨89, _⟩ => ⟨S224, .i1⟩
  | .hbm, ⟨90, _⟩ => ⟨S_, .i32⟩
  | .hbm, ⟨91, _⟩ => ⟨S224, .i32⟩
  | .hbm, ⟨92, _⟩ => ⟨S224, .i32⟩
  | .hbm, ⟨93, _⟩ => ⟨S224, .i32⟩
  | .hbm, ⟨94, _⟩ => ⟨S224x1, .i32⟩
  | .hbm, ⟨95, _⟩ => ⟨S224, .i32⟩
  | .hbm, ⟨96, _⟩ => ⟨S224, .i32⟩
  | .hbm, ⟨97, _⟩ => ⟨S224, .i32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S224, .i32⟩
  | .hbm, ⟨102, _⟩ => ⟨S224, .i32⟩
  | .hbm, ⟨103, _⟩ => ⟨S_, .i32⟩
  | .hbm, ⟨104, _⟩ => ⟨S224, .i32⟩
  | .hbm, ⟨105, _⟩ => ⟨S224, .i32⟩
  | .hbm, ⟨106, _⟩ => ⟨S2x32x1x2048, .f32⟩
  | .hbm, ⟨107, _⟩ => ⟨S114688x2048, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x2048, .f32⟩
  | .local _ .vmem, ⟨3, _⟩ => ⟨S1x1x2048x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S512x2048, .bf16⟩
  | .local _ .vmem, ⟨7, _⟩ => ⟨S512x2048, .bf16⟩
  | .local _ .vmem, ⟨8, _⟩ => ⟨S2048x2048, .bf16⟩
  | .local _ .smem, ⟨0, _⟩ => ⟨S224, .i32⟩
  | .local _ .smem, ⟨1, _⟩ => ⟨S1, .i32⟩
  | _, _ => ⟨S114688x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_c_2 : Ref sig .tc := ⟨.hbm, 11, rfl⟩
abbrev main_v4 : Ref sig .tc := ⟨.hbm, 12, rfl⟩
abbrev main_v5 : Ref sig .tc := ⟨.hbm, 13, rfl⟩
abbrev main_c_3 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v6 : Ref sig .tc := ⟨.hbm, 31, rfl⟩
abbrev main_c_4 : Ref sig .tc := ⟨.hbm, 32, rfl⟩
abbrev main_v7 : Ref sig .tc := ⟨.hbm, 33, rfl⟩
abbrev main_v8 : Ref sig .tc := ⟨.hbm, 34, rfl⟩
abbrev main_call1_call0_c : Ref sig .tc := ⟨.hbm, 35, rfl⟩
abbrev main_call1_call0_v0 : Ref sig .tc := ⟨.hbm, 36, rfl⟩
abbrev main_v9 : Ref sig .tc := ⟨.hbm, 37, rfl⟩
abbrev main_v10 : Ref sig .tc := ⟨.hbm, 38, rfl⟩
abbrev main_c_5 : Ref sig .tc := ⟨.hbm, 39, rfl⟩
abbrev main_v11 : Ref sig .tc := ⟨.hbm, 40, rfl⟩
abbrev main_v12 : Ref sig .tc := ⟨.hbm, 41, rfl⟩
abbrev main_c_6 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_7 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_8 : Ref sig .tc := ⟨.hbm, 59, rfl⟩
abbrev main_v28 : Ref sig .tc := ⟨.hbm, 60, rfl⟩
abbrev main_c_9 : Ref sig .tc := ⟨.hbm, 61, rfl⟩
abbrev main_v29 : Ref sig .tc := ⟨.hbm, 62, rfl⟩
abbrev main_v31 : Ref sig .tc := ⟨.hbm, 63, rfl⟩
abbrev main_v32 : Ref sig .tc := ⟨.hbm, 64, rfl⟩
abbrev main_c_10 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c : Ref sig .tc := ⟨.hbm, 72, rfl⟩
abbrev main_call2_v6 : Ref sig .tc := ⟨.hbm, 73, rfl⟩
abbrev main_call2_v7 : Ref sig .tc := ⟨.hbm, 74, rfl⟩
abbrev main_call2_c_0 : Ref sig .tc := ⟨.hbm, 75, rfl⟩
abbrev main_call2_v8 : Ref sig .tc := ⟨.hbm, 76, rfl⟩
abbrev main_v33 : Ref sig .tc := ⟨.hbm, 77, rfl⟩
abbrev main_c_11 : Ref sig .tc := ⟨.hbm, 78, rfl⟩
abbrev main_v35 : Ref sig .tc := ⟨.hbm, 79, rfl⟩
abbrev main_v36 : Ref sig .tc := ⟨.hbm, 80, rfl⟩
abbrev main_c_12 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_c_13 : Ref sig .tc := ⟨.hbm, 87, rfl⟩
abbrev main_v42 : Ref sig .tc := ⟨.hbm, 88, rfl⟩
abbrev main_v43 : Ref sig .tc := ⟨.hbm, 89, rfl⟩
abbrev main_c_14 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_c_15 : Ref sig .tc := ⟨.hbm, 98, rfl⟩
abbrev main_c_16 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v30 : Ref sig .tc := ⟨.smem, 0, rfl⟩
abbrev main_v34 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 224], ![false, false]⟩

abbrev pre0 : Pipeline.Prefetch sig := ⟨2, ![main_v30.idx, main_v34.idx], fun | 0 => main_v30.names | 1 => main_v34.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S224.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S224) ![v0.toNat] S1.size (k0_off1_inb i)) numel1_S1
  let c1_i32 : BitVec 32 := 1#32
  let c0_i32 : BitVec 32 := 0#32
  let c0_i32_0 : BitVec 32 := 0#32
  ![c1_i32.toNat, v1.toNat, c0_i32.toNat, arg0.toNat]

def cc0_transform_2 (k0_off1_inb : ∀ i : grid0.Coords, ∀ a, (k0_off1 i) a + S1.size a ≤ S224.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S224) ![v0.toNat] S1.size (k0_off1_inb i)) numel1_S1
  let c1_i32 : BitVec 32 := 1#32
  let c0_i32 : BitVec 32 := 0#32
  let c0_i32_0 : BitVec 32 := 0#32
  ![c1_i32.toNat, v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S114688x2048 : Shape := ⟨2, ![114688, 2048]⟩
abbrev S32 : Shape := ⟨1, ![32]⟩
abbrev S2x32x2048x2048 : Shape := ⟨4, ![2, 32, 2048, 2048]⟩
abbrev S2x32x2048 : Shape := ⟨3, ![2, 32, 2048]⟩
abbrev S_ : Shape := ⟨0, ![]⟩
abbrev S224 : Shape := ⟨1, ![224]⟩
abbrev S224x1 : Shape := ⟨2, ![224, 1]⟩
abbrev S1x32 : Shape := ⟨2, ![1, 32]⟩
abbrev S224x32 : Shape := ⟨2, ![224, 32]⟩
abbrev S224x512x2048 : Shape := ⟨3, ![224, 512, 2048]⟩
abbrev S1x32x2048x2048 : Shape := ⟨4, ![1, 32, 2048, 2048]⟩
abbrev S32x2048x2048 : Shape := ⟨3, ![32, 2048, 2048]⟩
abbrev S224x2048x2048 : Shape := ⟨3, ![224, 2048, 2048]⟩
abbrev S1x32x2048 : Shape := ⟨3, ![1, 32, 2048]⟩
abbrev S32x2048 : Shape := ⟨2, ![32, 2048]⟩
abbrev S224x2048 : Shape := ⟨2, ![224, 2048]⟩
abbrev S224x1x2048 : Shape := ⟨3, ![224, 1, 2048]⟩
abbrev S1 : Shape := ⟨1, ![1]⟩
abbrev S224x1x1 : Shape := ⟨3, ![224, 1, 1]⟩

abbrev nBuf : Space → Nat
  | .hbm => 103
  | .vmem => 0
  | .smem => 0
  | _ => 0

abbrev bufTy : (tb : Table) → Fin (tcTables nBuf tb) → BufTy
  | .hbm, ⟨0, _⟩ => ⟨S114688x2048, .bf16⟩
  | .hbm, ⟨1, _⟩ => ⟨S32, .i32⟩
  | .hbm, ⟨2, _⟩ => ⟨S2x32x2048x2048, .f32⟩
  | .hbm, ⟨3, _⟩ => ⟨S2x32x2048, .f32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32, .i1⟩
  | .hbm, ⟨24, _⟩ => ⟨S_, .i32⟩
  | .hbm, ⟨25, _⟩ => ⟨S32, .i32⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S_, .i32⟩
  | .hbm, ⟨33, _⟩ => ⟨S32, .i32⟩
  | .hbm, ⟨34, _⟩ => ⟨S224, .i32⟩
  | .hbm, ⟨35, _⟩ => ⟨S_, .i32⟩
  | .hbm, ⟨36, _⟩ => ⟨S224, .i32⟩
  | .hbm, ⟨37, _⟩ => ⟨S224, .i32⟩
  | .hbm, ⟨38, _⟩ => ⟨S224x1, .i32⟩
  | .hbm, ⟨39, _⟩ => ⟨S1x32, .i32⟩
  | .hbm, ⟨40, _⟩ => ⟨S224x32, .i32⟩
  | .hbm, ⟨41, _⟩ => ⟨S224x32, .i32⟩
  | .hbm, ⟨42, _⟩ => ⟨S224x32, .i1⟩
  | .hbm, ⟨43, _⟩ => ⟨S224x32, .i32⟩
  | .hbm, ⟨44, _⟩ => ⟨S_, .i32⟩
  | .hbm, ⟨45, _⟩ => ⟨S224, .i32⟩
  | .hbm, ⟨46, _⟩ => ⟨S_, .i32⟩
  | .hbm, ⟨47, _⟩ => ⟨S224, .i32⟩
  | .hbm, ⟨48, _⟩ => ⟨S224, .i32⟩
  | .hbm, ⟨49, _⟩ => ⟨S114688x2048, .f32⟩
  | .hbm, ⟨50, _⟩ => ⟨S224x512x2048, .f32⟩
  | .hbm, ⟨51, _⟩ => ⟨S1x32x2048x2048, .f32⟩
  | .hbm, ⟨52, _⟩ => ⟨S32x2048x2048, .f32⟩
  | .hbm, ⟨53, _⟩ => ⟨S_, .i32⟩
  | .hbm, ⟨54, _⟩ => ⟨S224, .i32⟩
  | .hbm, ⟨55, _⟩ => ⟨S224, .i1⟩
  | .hbm, ⟨56, _⟩ => ⟨S_, .i32⟩
  | .hbm, ⟨57, _⟩ => ⟨S224, .i32⟩
  | .hbm, ⟨58, _⟩ => ⟨S224, .i32⟩
  | .hbm, ⟨59, _⟩ => ⟨S224, .i32⟩
  | .hbm, ⟨60, _⟩ => ⟨S224x1, .i32⟩
  | .hbm, ⟨61, _⟩ => ⟨S224x2048x2048, .f32⟩
  | .hbm, ⟨62, _⟩ => ⟨S224x512x2048, .f32⟩
  | .hbm, ⟨63, _⟩ => ⟨S1x32x2048, .f32⟩
  | .hbm, ⟨64, _⟩ => ⟨S32x2048, .f32⟩
  | .hbm, ⟨65, _⟩ => ⟨S_, .i32⟩
  | .hbm, ⟨66, _⟩ => ⟨S224, .i32⟩
  | .hbm, ⟨67, _⟩ => ⟨S224, .i1⟩
  | .hbm, ⟨68, _⟩ => ⟨S_, .i32⟩
  | .hbm, ⟨69, _⟩ => ⟨S224, .i32⟩
  | .hbm, ⟨70, _⟩ => ⟨S224, .i32⟩
  | .hbm, ⟨71, _⟩ => ⟨S224, .i32⟩
  | .hbm, ⟨72, _⟩ => ⟨S224x1, .i32⟩
  | .hbm, ⟨73, _⟩ => ⟨S224x2048, .f32⟩
  | .hbm, ⟨74, _⟩ => ⟨S224x1x2048, .f32⟩
  | .hbm, ⟨75, _⟩ => ⟨S224x512x2048, .f32⟩
  | .hbm, ⟨76, _⟩ => ⟨S224x512x2048, .f32⟩
  | .hbm, ⟨77, _⟩ => ⟨S224, .i32⟩
  | .hbm, ⟨78, _⟩ => ⟨S1, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i1⟩
  | .hbm, ⟨86, _⟩ => ⟨S_, .i32⟩
  | .hbm, ⟨87, _⟩ => ⟨S_, .i32⟩
  | .hbm, ⟨88, _⟩ => ⟨S_, .i1⟩
  | .hbm, ⟨89, _⟩ => ⟨S_, .i1⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S224, .i32⟩
  | .hbm, ⟨94, _⟩ => ⟨S224, .i1⟩
  | .hbm, ⟨95, _⟩ => ⟨S224x1x1, .i1⟩
  | .hbm, ⟨96, _⟩ => ⟨S_, .f32⟩
  | .hbm, ⟨97, _⟩ => ⟨S_, .f32⟩
  | .hbm, ⟨98, _⟩ => ⟨S224x512x2048, .i1⟩
  | .hbm, ⟨99, _⟩ => ⟨S224x512x2048, .f32⟩
  | .hbm, ⟨100, _⟩ => ⟨S224x512x2048, .f32⟩
  | .hbm, ⟨101, _⟩ => ⟨S114688x2048, .f32⟩
  | .hbm, ⟨102, _⟩ => ⟨S114688x2048, .bf16⟩
  | _, _ => ⟨S114688x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_2 : Ref sig .tc := ⟨.hbm, 28, rfl⟩
abbrev main_v5 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_c_5 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_6 : Ref sig .tc := ⟨.hbm, 53, rfl⟩
abbrev main_v24 : Ref sig .tc := ⟨.hbm, 54, rfl⟩
abbrev main_v25 : Ref sig .tc := ⟨.hbm, 55, rfl⟩
abbrev main_c_7 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_c_8 : Ref sig .tc := ⟨.hbm, 65, rfl⟩
abbrev main_v34 : Ref sig .tc := ⟨.hbm, 66, rfl⟩
abbrev main_v35 : Ref sig .tc := ⟨.hbm, 67, rfl⟩
abbrev main_c_9 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_10 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_c : Ref sig .tc := ⟨.hbm, 87, rfl⟩
abbrev main_call2_v6 : Ref sig .tc := ⟨.hbm, 88, rfl⟩
abbrev main_call2_v7 : Ref sig .tc := ⟨.hbm, 89, rfl⟩
abbrev main_call2_c_0 : Ref sig .tc := ⟨.hbm, 90, rfl⟩
abbrev main_call2_v8 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_cst : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩

abbrev nD : Nat := 1
abbrev τ : Topo := Topo.v7x

variable {F : FTy → Type} [FloatOps F]
-- ==== Kernel7.lean ====
abbrev S24576x12800 : Shape := ⟨2, ![24576, 12800]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S2048x4096 : Shape := ⟨2, ![2048, 4096]⟩
abbrev S512x1024 : Shape := ⟨2, ![512, 1024]⟩
abbrev S16384x512 : Shape := ⟨2, ![16384, 512]⟩
abbrev S2048x512 : Shape := ⟨2, ![2048, 512]⟩
abbrev S256x4096 : Shape := ⟨2, ![256, 4096]⟩
abbrev S256x512 : Shape := ⟨2, ![256, 512]⟩
abbrev S4096x512 : Shape := ⟨2, ![4096, 512]⟩
abbrev S256x1024 : Shape := ⟨2, ![256, 1024]⟩

abbrev nBuf : Space → Nat
  | .hbm => 75
  | .vmem => 8
  | .smem => 0
  | _ => 0

abbrev bufTy : (tb : Table) → Fin (tcTables nBuf tb) → BufTy
  | .hbm, ⟨0, _⟩ => ⟨S24576x12800, .bf16⟩
  | .hbm, ⟨1, _⟩ => ⟨S2048, .i32⟩
  | .hbm, ⟨2, _⟩ => ⟨S2048x1, .i32⟩
  | .hbm, ⟨3, _⟩ => ⟨S1x2048, .i32⟩
  | .hbm, ⟨4, _⟩ => ⟨S2048x2048, .i32⟩
  | .hbm, ⟨5, _⟩ => ⟨S2048x2048, .i32⟩
  | .hbm, ⟨6, _⟩ => ⟨S2048x2048, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i1⟩
  | .hbm, ⟨18, _⟩ => ⟨S_, .i32⟩
  | .hbm, ⟨19, _⟩ => ⟨S2048x2048, .i32⟩
  | .hbm, ⟨20, _⟩ => ⟨S2048x2048, .i1⟩
  | .hbm, ⟨21, _⟩ => ⟨S_, .i32⟩
  | .hbm, ⟨22, _⟩ => ⟨S_, .i1⟩
  | .hbm, ⟨23, _⟩ => ⟨S2048x2048, .i1⟩
  | .hbm, ⟨24, _⟩ => ⟨S2048x2048, .i1⟩
  | .hbm, ⟨25, _⟩ => ⟨S2048x2048, .i1⟩
  | .hbm, ⟨26, _⟩ => ⟨S2048x2048, .i32⟩
  | .hbm, ⟨27, _⟩ => ⟨S2048x2048, .i32⟩
  | .hbm, ⟨28, _⟩ => ⟨S2048x2048, .i32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S512, .i32⟩
  | .hbm, ⟨36, _⟩ => ⟨S512x1, .i32⟩
  | .hbm, ⟨37, _⟩ => ⟨S1x512, .i32⟩
  | .hbm, ⟨38, _⟩ => ⟨S512x512, .i32⟩
  | .hbm, ⟨39, _⟩ => ⟨S512x512, .i32⟩
  | .hbm, ⟨40, _⟩ => ⟨S512x512, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S512x512, .i32⟩
  | .hbm, ⟨48, _⟩ => ⟨S512x512, .i32⟩
  | .hbm, ⟨49, _⟩ => ⟨S_, .i32⟩
  | .hbm, ⟨50, _⟩ => ⟨S512x512, .i32⟩
  | .hbm, ⟨51, _⟩ => ⟨S512x512, .i1⟩
  | .hbm, ⟨52, _⟩ => ⟨S_, .i32⟩
  | .hbm, ⟨53, _⟩ => ⟨S512x512, .i32⟩
  | .hbm, ⟨54, _⟩ => ⟨S512x512, .i1⟩
  | .hbm, ⟨55, _⟩ => ⟨S_, .i32⟩
  | .hbm, ⟨56, _⟩ => ⟨S_, .i1⟩
  | .hbm, ⟨57, _⟩ => ⟨S512x512, .i1⟩
  | .hbm, ⟨58, _⟩ => ⟨S512x512, .i1⟩
  | .hbm, ⟨59, _⟩ => ⟨S512x512, .i1⟩
  | .hbm, ⟨60, _⟩ => ⟨S512x512, .i32⟩
  | .hbm, ⟨61, _⟩ => ⟨S512x512, .i32⟩
  | .hbm, ⟨62, _⟩ => ⟨S512x512, .i32⟩
  | .hbm, ⟨63, _⟩ => ⟨S512x512, .f32⟩
  | .hbm, ⟨64, _⟩ => ⟨S_, .f32⟩
  | .hbm, ⟨65, _⟩ => ⟨S512x512, .f32⟩
  | .hbm, ⟨66, _⟩ => ⟨S512x512, .f32⟩
  | .hbm, ⟨67, _⟩ => ⟨S512x512, .f32⟩
  | .hbm, ⟨68, _⟩ => ⟨S512x512, .f32⟩
  | .hbm, ⟨69, _⟩ => ⟨S2048x2048, .f32⟩
  | .hbm, ⟨70, _⟩ => ⟨S2048x4096, .f32⟩
  | .hbm, ⟨71, _⟩ => ⟨S2048x4096, .bf16⟩
  | .hbm, ⟨72, _⟩ => ⟨S512x1024, .f32⟩
  | .hbm, ⟨73, _⟩ => ⟨S512x1024, .bf16⟩
  | .hbm, ⟨74, _⟩ => ⟨S16384x512, .bf16⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S256x4096, .bf16⟩
  | .local _ .vmem, ⟨4, _⟩ => ⟨S256x4096, .bf16⟩
  | .local _ .vmem, ⟨5, _⟩ => ⟨S256x512, .bf16⟩
  | .local _ .vmem, ⟨6, _⟩ => ⟨S256x512, .bf16⟩
  | .local _ .vmem, ⟨7, _⟩ => ⟨S4096x512, .bf16⟩
  | _, _ => ⟨S24576x12800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_0 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v18 : Ref sig .tc := ⟨.hbm, 62, rfl⟩
abbrev main_v19 : Ref sig .tc := ⟨.hbm, 63, rfl⟩
abbrev main_cst_1 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c10_i32 : BitVec 32 := 10#32
  let c0_i32 : BitVec 32 := 0#32
  ![v0.toNat, c10_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S24576x12800 : Shape := ⟨2, ![24576, 12800]⟩
abbrev S16384x512 : Shape := ⟨2, ![16384, 512]⟩
abbrev S8x2048x512 : Shape := ⟨3, ![8, 2048, 512]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8x512x2048 : Shape := ⟨3, ![8, 512, 2048]⟩

abbrev nBuf : Space → Nat
  | .hbm => 85
  | .vmem => 0
  | .smem => 0
  | _ => 0

abbrev bufTy : (tb : Table) → Fin (tcTables nBuf tb) → BufTy
  | .hbm, ⟨0, _⟩ => ⟨S24576x12800, .bf16⟩
  | .hbm, ⟨1, _⟩ => ⟨S16384x512, .bf16⟩
  | .hbm, ⟨2, _⟩ => ⟨S16384x512, .f32⟩
  | .hbm, ⟨3, _⟩ => ⟨S8x2048x512, .f32⟩
  | .hbm, ⟨4, _⟩ => ⟨S2048, .i32⟩
  | .hbm, ⟨5, _⟩ => ⟨S2048x1, .i32⟩
  | .hbm, ⟨6, _⟩ => ⟨S1x2048, .i32⟩
  | .hbm, ⟨7, _⟩ => ⟨S2048x2048, .i32⟩
  | .hbm, ⟨8, _⟩ => ⟨S2048x2048, .i32⟩
  | .hbm, ⟨9, _⟩ => ⟨S2048x2048, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S2048x2048, .i32⟩
  | .hbm, ⟨17, _⟩ => ⟨S2048x2048, .i32⟩
  | .hbm, ⟨18, _⟩ => ⟨S_, .i32⟩
  | .hbm, ⟨19, _⟩ => ⟨S2048x2048, .i32⟩
  | .hbm, ⟨20, _⟩ => ⟨S2048x2048, .i1⟩
  | .hbm, ⟨21, _⟩ => ⟨S_, .i32⟩
  | .hbm, ⟨22, _⟩ => ⟨S2048x2048, .i32⟩
  | .hbm, ⟨23, _⟩ => ⟨S2048x2048, .i1⟩
  | .hbm, ⟨24, _⟩ => ⟨S_, .i32⟩
  | .hbm, ⟨25, _⟩ => ⟨S_, .i1⟩
  | .hbm, ⟨26, _⟩ => ⟨S2048x2048, .i1⟩
  | .hbm, ⟨27, _⟩ => ⟨S2048x2048, .i1⟩
  | .hbm, ⟨28, _⟩ => ⟨S2048x2048, .i1⟩
  | .hbm, ⟨29, _⟩ => ⟨S2048x2048, .i32⟩
  | .hbm, ⟨30, _⟩ => ⟨S2048x2048, .i32⟩
  | .hbm, ⟨31, _⟩ => ⟨S2048x2048, .i32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S512, .i32⟩
  | .hbm, ⟨39, _⟩ => ⟨S512x1, .i32⟩
  | .hbm, ⟨40, _⟩ => ⟨S1x512, .i32⟩
  | .hbm, ⟨41, _⟩ => ⟨S512x512, .i32⟩
  | .hbm, ⟨42, _⟩ => ⟨S512x512, .i32⟩
  | .hbm, ⟨43, _⟩ => ⟨S512x512, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S512x512, .i32⟩
  | .hbm, ⟨51, _⟩ => ⟨S512x512, .i32⟩
  | .hbm, ⟨52, _⟩ => ⟨S_, .i32⟩
  | .hbm, ⟨53, _⟩ => ⟨S512x512, .i32⟩
  | .hbm, ⟨54, _⟩ => ⟨S512x512, .i1⟩
  | .hbm, ⟨55, _⟩ => ⟨S_, .i32⟩
  | .hbm, ⟨56, _⟩ => ⟨S512x512, .i32⟩
  | .hbm, ⟨57, _⟩ => ⟨S512x512, .i1⟩
  | .hbm, ⟨58, _⟩ => ⟨S_, .i32⟩
  | .hbm, ⟨59, _⟩ => ⟨S_, .i1⟩
  | .hbm, ⟨60, _⟩ => ⟨S512x512, .i1⟩
  | .hbm, ⟨61, _⟩ => ⟨S512x512, .i1⟩
  | .hbm, ⟨62, _⟩ => ⟨S512x512, .i1⟩
  | .hbm, ⟨63, _⟩ => ⟨S512x512, .i32⟩
  | .hbm, ⟨64, _⟩ => ⟨S512x512, .i32⟩
  | .hbm, ⟨65, _⟩ => ⟨S512x512, .i32⟩
  | .hbm, ⟨66, _⟩ => ⟨S512x512, .f32⟩
  | .hbm, ⟨67, _⟩ => ⟨S_, .f32⟩
  | .hbm, ⟨68, _⟩ => ⟨S512x512, .f32⟩
  | .hbm, ⟨69, _⟩ => ⟨S512x512, .f32⟩
  | .hbm, ⟨70, _⟩ => ⟨S512x512, .f32⟩
  | .hbm, ⟨71, _⟩ => ⟨S512x512, .f32⟩
  | .hbm, ⟨72, _⟩ => ⟨S8x2048x512, .f32⟩
  | .hbm, ⟨73, _⟩ => ⟨S8x512x2048, .f32⟩
  | .hbm, ⟨74, _⟩ => ⟨S8x2048x512, .f32⟩
  | .hbm, ⟨75, _⟩ => ⟨S2048x2048, .f32⟩
  | .hbm, ⟨76, _⟩ => ⟨S8x2048x512, .f32⟩
  | .hbm, ⟨77, _⟩ => ⟨S8x512x2048, .f32⟩
  | .hbm, ⟨78, _⟩ => ⟨S8x2048x512, .f32⟩
  | .hbm, ⟨79, _⟩ => ⟨S8x2048x512, .f32⟩
  | .hbm, ⟨80, _⟩ => ⟨S_, .f32⟩
  | .hbm, ⟨81, _⟩ => ⟨S8x2048x512, .f32⟩
  | .hbm, ⟨82, _⟩ => ⟨S8x2048x512, .f32⟩
  | .hbm, ⟨83, _⟩ => ⟨S16384x512, .f32⟩
  | .hbm, ⟨84, _⟩ => ⟨S16384x512, .bf16⟩
  | _, _ => ⟨S24576x12800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_0 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v21 : Ref sig .tc := ⟨.hbm, 65, rfl⟩
abbrev main_v22 : Ref sig .tc := ⟨.hbm, 66, rfl⟩
abbrev main_cst_1 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_2 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩

abbrev nD : Nat := 1
abbrev τ : Topo := Topo.v7x

variable {F : FTy → Type} [FloatOps F]
-- ==== Kernel8.lean ====
abbrev S24576x12800 : Shape := ⟨2, ![24576, 12800]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S256x512 : Shape := ⟨2, ![256, 512]⟩
abbrev S512x1024 : Shape := ⟨2, ![512, 1024]⟩
abbrev S8192x512 : Shape := ⟨2, ![8192, 512]⟩
abbrev S256x1024 : Shape := ⟨2, ![256, 1024]⟩

abbrev nBuf : Space → Nat
  | .hbm => 75
  | .vmem => 7
  | .smem => 0
  | _ => 0

abbrev bufTy : (tb : Table) → Fin (tcTables nBuf tb) → BufTy
  | .hbm, ⟨0, _⟩ => ⟨S24576x12800, .bf16⟩
  | .hbm, ⟨1, _⟩ => ⟨S256, .i32⟩
  | .hbm, ⟨2, _⟩ => ⟨S256x1, .i32⟩
  | .hbm, ⟨3, _⟩ => ⟨S1x256, .i32⟩
  | .hbm, ⟨4, _⟩ => ⟨S256x256, .i32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S_, .i32⟩
  | .hbm, ⟨19, _⟩ => ⟨S256x256, .i32⟩
  | .hbm, ⟨20, _⟩ => ⟨S256x256, .i1⟩
  | .hbm, ⟨21, _⟩ => ⟨S_, .i32⟩
  | .hbm, ⟨22, _⟩ => ⟨S_, .i1⟩
  | .hbm, ⟨23, _⟩ => ⟨S256x256, .i1⟩
  | .hbm, ⟨24, _⟩ => ⟨S256x256, .i1⟩
  | .hbm, ⟨25, _⟩ => ⟨S256x256, .i1⟩
  | .hbm, ⟨26, _⟩ => ⟨S256x256, .i32⟩
  | .hbm, ⟨27, _⟩ => ⟨S256x256, .i32⟩
  | .hbm, ⟨28, _⟩ => ⟨S256x256, .i32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S512, .i32⟩
  | .hbm, ⟨36, _⟩ => ⟨S512x1, .i32⟩
  | .hbm, ⟨37, _⟩ => ⟨S1x512, .i32⟩
  | .hbm, ⟨38, _⟩ => ⟨S512x512, .i32⟩
  | .hbm, ⟨39, _⟩ => ⟨S512x512, .i32⟩
  | .hbm, ⟨40, _⟩ => ⟨S512x512, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S512x512, .i32⟩
  | .hbm, ⟨48, _⟩ => ⟨S512x512, .i32⟩
  | .hbm, ⟨49, _⟩ => ⟨S_, .i32⟩
  | .hbm, ⟨50, _⟩ => ⟨S512x512, .i32⟩
  | .hbm, ⟨51, _⟩ => ⟨S512x512, .i1⟩
  | .hbm, ⟨52, _⟩ => ⟨S_, .i32⟩
  | .hbm, ⟨53, _⟩ => ⟨S512x512, .i32⟩
  | .hbm, ⟨54, _⟩ => ⟨S512x512, .i1⟩
  | .hbm, ⟨55, _⟩ => ⟨S_, .i32⟩
  | .hbm, ⟨56, _⟩ => ⟨S_, .i1⟩
  | .hbm, ⟨57, _⟩ => ⟨S512x512, .i1⟩
  | .hbm, ⟨58, _⟩ => ⟨S512x512, .i1⟩
  | .hbm, ⟨59, _⟩ => ⟨S512x512, .i1⟩
  | .hbm, ⟨60, _⟩ => ⟨S512x512, .i32⟩
  | .hbm, ⟨61, _⟩ => ⟨S512x512, .i32⟩
  | .hbm, ⟨62, _⟩ => ⟨S512x512, .i32⟩
  | .hbm, ⟨63, _⟩ => ⟨S512x512, .f32⟩
  | .hbm, ⟨64, _⟩ => ⟨S_, .f32⟩
  | .hbm, ⟨65, _⟩ => ⟨S512x512, .f32⟩
  | .hbm, ⟨66, _⟩ => ⟨S512x512, .f32⟩
  | .hbm, ⟨67, _⟩ => ⟨S512x512, .f32⟩
  | .hbm, ⟨68, _⟩ => ⟨S512x512, .f32⟩
  | .hbm, ⟨69, _⟩ => ⟨S256x256, .f32⟩
  | .hbm, ⟨70, _⟩ => ⟨S256x512, .f32⟩
  | .hbm, ⟨71, _⟩ => ⟨S256x512, .bf16⟩
  | .hbm, ⟨72, _⟩ => ⟨S512x1024, .f32⟩
  | .hbm, ⟨73, _⟩ => ⟨S512x1024, .bf16⟩
  | .hbm, ⟨74, _⟩ => ⟨S8192x512, .bf16⟩
  | .local _ .vmem, ⟨0, _⟩ => ⟨S256x512, .bf16⟩
  | .local _ .vmem, ⟨1, _⟩ => ⟨S256x512, .bf16⟩
  | .local _ .vmem, ⟨2, _⟩ => ⟨S512x1024, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x512, .bf16⟩
  | _, _ => ⟨S24576x12800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_0 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v18 : Ref sig .tc := ⟨.hbm, 62, rfl⟩
abbrev main_v19 : Ref sig .tc := ⟨.hbm, 63, rfl⟩
abbrev main_cst_1 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c10_i32 : BitVec 32 := 10#32
  let c0_i32_0 : BitVec 32 := 0#32
  ![v0.toNat, c10_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S24576x12800 : Shape := ⟨2, ![24576, 12800]⟩
abbrev S8192x512 : Shape := ⟨2, ![8192, 512]⟩
abbrev S32x256x512 : Shape := ⟨3, ![32, 256, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S32x512x256 : Shape := ⟨3, ![32, 512, 256]⟩

abbrev nBuf : Space → Nat
  | .hbm => 85
  | .vmem => 0
  | .smem => 0
  | _ => 0

abbrev bufTy : (tb : Table) → Fin (tcTables nBuf tb) → BufTy
  | .hbm, ⟨0, _⟩ => ⟨S24576x12800, .bf16⟩
  | .hbm, ⟨1, _⟩ => ⟨S8192x512, .bf16⟩
  | .hbm, ⟨2, _⟩ => ⟨S8192x512, .f32⟩
  | .hbm, ⟨3, _⟩ => ⟨S32x256x512, .f32⟩
  | .hbm, ⟨4, _⟩ => ⟨S256, .i32⟩
  | .hbm, ⟨5, _⟩ => ⟨S256x1, .i32⟩
  | .hbm, ⟨6, _⟩ => ⟨S1x256, .i32⟩
  | .hbm, ⟨7, _⟩ => ⟨S256x256, .i32⟩
  | .hbm, ⟨8, _⟩ => ⟨S256x256, .i32⟩
  | .hbm, ⟨9, _⟩ => ⟨S256x256, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S_, .i32⟩
  | .hbm, ⟨19, _⟩ => ⟨S256x256, .i32⟩
  | .hbm, ⟨20, _⟩ => ⟨S256x256, .i1⟩
  | .hbm, ⟨21, _⟩ => ⟨S_, .i32⟩
  | .hbm, ⟨22, _⟩ => ⟨S256x256, .i32⟩
  | .hbm, ⟨23, _⟩ => ⟨S256x256, .i1⟩
  | .hbm, ⟨24, _⟩ => ⟨S_, .i32⟩
  | .hbm, ⟨25, _⟩ => ⟨S_, .i1⟩
  | .hbm, ⟨26, _⟩ => ⟨S256x256, .i1⟩
  | .hbm, ⟨27, _⟩ => ⟨S256x256, .i1⟩
  | .hbm, ⟨28, _⟩ => ⟨S256x256, .i1⟩
  | .hbm, ⟨29, _⟩ => ⟨S256x256, .i32⟩
  | .hbm, ⟨30, _⟩ => ⟨S256x256, .i32⟩
  | .hbm, ⟨31, _⟩ => ⟨S256x256, .i32⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S512, .i32⟩
  | .hbm, ⟨39, _⟩ => ⟨S512x1, .i32⟩
  | .hbm, ⟨40, _⟩ => ⟨S1x512, .i32⟩
  | .hbm, ⟨41, _⟩ => ⟨S512x512, .i32⟩
  | .hbm, ⟨42, _⟩ => ⟨S512x512, .i32⟩
  | .hbm, ⟨43, _⟩ => ⟨S512x512, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S512x512, .i32⟩
  | .hbm, ⟨51, _⟩ => ⟨S512x512, .i32⟩
  | .hbm, ⟨52, _⟩ => ⟨S_, .i32⟩
  | .hbm, ⟨53, _⟩ => ⟨S512x512, .i32⟩
  | .hbm, ⟨54, _⟩ => ⟨S512x512, .i1⟩
  | .hbm, ⟨55, _⟩ => ⟨S_, .i32⟩
  | .hbm, ⟨56, _⟩ => ⟨S512x512, .i32⟩
  | .hbm, ⟨57, _⟩ => ⟨S512x512, .i1⟩
  | .hbm, ⟨58, _⟩ => ⟨S_, .i32⟩
  | .hbm, ⟨59, _⟩ => ⟨S_, .i1⟩
  | .hbm, ⟨60, _⟩ => ⟨S512x512, .i1⟩
  | .hbm, ⟨61, _⟩ => ⟨S512x512, .i1⟩
  | .hbm, ⟨62, _⟩ => ⟨S512x512, .i1⟩
  | .hbm, ⟨63, _⟩ => ⟨S512x512, .i32⟩
  | .hbm, ⟨64, _⟩ => ⟨S512x512, .i32⟩
  | .hbm, ⟨65, _⟩ => ⟨S512x512, .i32⟩
  | .hbm, ⟨66, _⟩ => ⟨S512x512, .f32⟩
  | .hbm, ⟨67, _⟩ => ⟨S_, .f32⟩
  | .hbm, ⟨68, _⟩ => ⟨S512x512, .f32⟩
  | .hbm, ⟨69, _⟩ => ⟨S512x512, .f32⟩
  | .hbm, ⟨70, _⟩ => ⟨S512x512, .f32⟩
  | .hbm, ⟨71, _⟩ => ⟨S512x512, .f32⟩
  | .hbm, ⟨72, _⟩ => ⟨S32x256x512, .f32⟩
  | .hbm, ⟨73, _⟩ => ⟨S32x512x256, .f32⟩
  | .hbm, ⟨74, _⟩ => ⟨S32x256x512, .f32⟩
  | .hbm, ⟨75, _⟩ => ⟨S256x256, .f32⟩
  | .hbm, ⟨76, _⟩ => ⟨S32x256x512, .f32⟩
  | .hbm, ⟨77, _⟩ => ⟨S32x512x256, .f32⟩
  | .hbm, ⟨78, _⟩ => ⟨S32x256x512, .f32⟩
  | .hbm, ⟨79, _⟩ => ⟨S32x256x512, .f32⟩
  | .hbm, ⟨80, _⟩ => ⟨S_, .f32⟩
  | .hbm, ⟨81, _⟩ => ⟨S32x256x512, .f32⟩
  | .hbm, ⟨82, _⟩ => ⟨S32x256x512, .f32⟩
  | .hbm, ⟨83, _⟩ => ⟨S8192x512, .f32⟩
  | .hbm, ⟨84, _⟩ => ⟨S8192x512, .bf16⟩
  | _, _ => ⟨S24576x12800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_0 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v21 : Ref sig .tc := ⟨.hbm, 65, rfl⟩
abbrev main_v22 : Ref sig .tc := ⟨.hbm, 66, rfl⟩
abbrev main_cst_1 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_2 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩

abbrev nD : Nat := 1
abbrev τ : Topo := Topo.v7x

variable {F : FTy → Type} [FloatOps F]
-- ==== Kernel9.lean ====
abbrev S24576x2048 : Shape := ⟨2, ![24576, 2048]⟩
abbrev S16x12288 : Shape := ⟨2, ![16, 12288]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S1 : Shape := ⟨1, ![1]⟩
abbrev S1x128 : Shape := ⟨2, ![1, 128]⟩
abbrev S2 : Shape := ⟨1, ![2]⟩
abbrev S16x1x12288 : Shape := ⟨3, ![16, 1, 12288]⟩
abbrev S1x2048 : Shape := ⟨2, ![1, 2048]⟩
abbrev S24576x128 : Shape := ⟨2, ![24576, 128]⟩
abbrev S512x2048 : Shape := ⟨2, ![512, 2048]⟩
abbrev S1x1x2048 : Shape := ⟨3, ![1, 1, 2048]⟩
abbrev S512x128 : Shape := ⟨2, ![512, 128]⟩
abbrev S512 : Shape := ⟨1, ![512]⟩
abbrev S512x1 : Shape := ⟨2, ![512, 1]⟩

abbrev nBuf : Space → Nat
  | .hbm => 32
  | .vmem => 24
  | .smem => 0
  | _ => 0

abbrev bufTy : (tb : Table) → Fin (tcTables nBuf tb) → BufTy
  | .hbm, ⟨0, _⟩ => ⟨S24576x2048, .f32⟩
  | .hbm, ⟨1, _⟩ => ⟨S24576x2048, .bf16⟩
  | .hbm, ⟨2, _⟩ => ⟨S16x12288, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048x32, .f32⟩
  | .hbm, ⟨8, _⟩ => ⟨S32, .f32⟩
  | .hbm, ⟨9, _⟩ => ⟨S_, .bf16⟩
  | .hbm, ⟨10, _⟩ => ⟨S2048x128, .bf16⟩
  | .hbm, ⟨11, _⟩ => ⟨S2048x32, .bf16⟩
  | .hbm, ⟨12, _⟩ => ⟨S_, .i32⟩
  | .hbm, ⟨13, _⟩ => ⟨S1, .i32⟩
  | .hbm, ⟨14, _⟩ => ⟨S2048x128, .bf16⟩
  | .hbm, ⟨15, _⟩ => ⟨S_, .f32⟩
  | .hbm, ⟨16, _⟩ => ⟨S1x128, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1x128, .f32⟩
  | .hbm, ⟨23, _⟩ => ⟨S16x1x12288, .f32⟩
  | .hbm, ⟨24, _⟩ => ⟨S2048x2048, .bf16⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S24576x2048, .f32⟩
  | .hbm, ⟨29, _⟩ => ⟨S24576x2048, .bf16⟩
  | .hbm, ⟨30, _⟩ => ⟨S24576x128, .i32⟩
  | .hbm, ⟨31, _⟩ => ⟨S24576x128, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S2048x2048, .bf16⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S2048x128, .bf16⟩
  | .local _ .vmem, ⟨15, _⟩ => ⟨S1x128, .f32⟩
  | .local _ .vmem, ⟨16, _⟩ => ⟨S512x2048, .f32⟩
  | .local _ .vmem, ⟨17, _⟩ => ⟨S512x2048, .f32⟩
  | .local _ .vmem, ⟨18, _⟩ => ⟨S512x2048, .bf16⟩
  | .local _ .vmem, ⟨19, _⟩ => ⟨S512x2048, .bf16⟩
  | .local _ .vmem, ⟨20, _⟩ => ⟨S512x128, .i32⟩
  | .local _ .vmem, ⟨21, _⟩ => ⟨S512x128, .i32⟩
  | .local _ .vmem, ⟨22, _⟩ => ⟨S512x128, .f32⟩
  | .local _ .vmem, ⟨23, _⟩ => ⟨S512x128, .f32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_c_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_v14_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c2_i32 : BitVec 32 := 2#32
  let c0_i32_8 : BitVec 32 := 0#32
  ![v20.toNat, c0_i32_7.toNat, c2_i32.toNat]

def cc0_transform_3 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c3_i32 : BitVec 32 := 3#32
  let c0_i32_8 : BitVec 32 := 0#32
  ![v20.toNat, c0_i32_7.toNat, c3_i32.toNat]

def cc0_transform_4 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c4_i32_8 : BitVec 32 := 4#32
  let c0_i32_9 : BitVec 32 := 0#32
  ![v20.toNat, c0_i32_7.toNat, c4_i32_8.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference9Ideal.lean ====
abbrev S24576x2048 : Shape := ⟨2, ![24576, 2048]⟩
abbrev S16x12288 : Shape := ⟨2, ![16, 12288]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S16x2048 : Shape := ⟨2, ![16, 2048]⟩
abbrev S1x2048 : Shape := ⟨2, ![1, 2048]⟩
abbrev S8192x2048 : Shape := ⟨2, ![8192, 2048]⟩
abbrev S8x2048 : Shape := ⟨2, ![8, 2048]⟩
abbrev S8x1x2048 : Shape := ⟨3, ![8, 1, 2048]⟩
abbrev S8x2048x2048 : Shape := ⟨3, ![8, 2048, 2048]⟩
abbrev S16384x2048 : Shape := ⟨2, ![16384, 2048]⟩
abbrev S_ : Shape := ⟨0, ![]⟩
abbrev S24576 : Shape := ⟨1, ![24576]⟩
abbrev S24576x1 : Shape := ⟨2, ![24576, 1]⟩

abbrev nBuf : Space → Nat
  | .hbm => 104
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S24576x2048, .bf16⟩
  | .hbm, ⟨2, _⟩ => ⟨S16x12288, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048x32, .f32⟩
  | .hbm, ⟨8, _⟩ => ⟨S32, .f32⟩
  | .hbm, ⟨9, _⟩ => ⟨S16x2048, .f32⟩
  | .hbm, ⟨10, _⟩ => ⟨S1x2048, .f32⟩
  | .hbm, ⟨11, _⟩ => ⟨S2048, .f32⟩
  | .hbm, ⟨12, _⟩ => ⟨S8192x2048, .f32⟩
  | .hbm, ⟨13, _⟩ => ⟨S8x2048, .f32⟩
  | .hbm, ⟨14, _⟩ => ⟨S8x1x2048, .f32⟩
  | .hbm, ⟨15, _⟩ => ⟨S8x2048x2048, .f32⟩
  | .hbm, ⟨16, _⟩ => ⟨S16384x2048, .f32⟩
  | .hbm, ⟨17, _⟩ => ⟨S24576x2048, .f32⟩
  | .hbm, ⟨18, _⟩ => ⟨S16x2048, .f32⟩
  | .hbm, ⟨19, _⟩ => ⟨S1x2048, .f32⟩
  | .hbm, ⟨20, _⟩ => ⟨S2048, .f32⟩
  | .hbm, ⟨21, _⟩ => ⟨S8192x2048, .f32⟩
  | .hbm, ⟨22, _⟩ => ⟨S8x2048, .f32⟩
  | .hbm, ⟨23, _⟩ => ⟨S8x1x2048, .f32⟩
  | .hbm, ⟨24, _⟩ => ⟨S8x2048x2048, .f32⟩
  | .hbm, ⟨25, _⟩ => ⟨S16384x2048, .f32⟩
  | .hbm, ⟨26, _⟩ => ⟨S24576x2048, .f32⟩
  | .hbm, ⟨27, _⟩ => ⟨S16x2048, .f32⟩
  | .hbm, ⟨28, _⟩ => ⟨S1x2048, .f32⟩
  | .hbm, ⟨29, _⟩ => ⟨S2048, .f32⟩
  | .hbm, ⟨30, _⟩ => ⟨S8192x2048, .f32⟩
  | .hbm, ⟨31, _⟩ => ⟨S8x2048, .f32⟩
  | .hbm, ⟨32, _⟩ => ⟨S8x1x2048, .f32⟩
  | .hbm, ⟨33, _⟩ => ⟨S8x2048x2048, .f32⟩
  | .hbm, ⟨34, _⟩ => ⟨S16384x2048, .f32⟩
  | .hbm, ⟨35, _⟩ => ⟨S24576x2048, .f32⟩
  | .hbm, ⟨36, _⟩ => ⟨S_, .f32⟩
  | .hbm, ⟨37, _⟩ => ⟨S24576x2048, .f32⟩
  | .hbm, ⟨38, _⟩ => ⟨S24576x2048, .f32⟩
  | .hbm, ⟨39, _⟩ => ⟨S24576x2048, .f32⟩
  | .hbm, ⟨40, _⟩ => ⟨S24576x2048, .f32⟩
  | .hbm, ⟨41, _⟩ => ⟨S1x2048, .f32⟩
  | .hbm, ⟨42, _⟩ => ⟨S24576x2048, .f32⟩
  | .hbm, ⟨43, _⟩ => ⟨S24576x2048, .f32⟩
  | .hbm, ⟨44, _⟩ => ⟨S24576x2048, .f32⟩
  | .hbm, ⟨45, _⟩ => ⟨S24576x2048, .f32⟩
  | .hbm, ⟨46, _⟩ => ⟨S_, .f32⟩
  | .hbm, ⟨47, _⟩ => ⟨S24576, .f32⟩
  | .hbm, ⟨48, _⟩ => ⟨S24576x1, .f32⟩
  | .hbm, ⟨49, _⟩ => ⟨S_, .f32⟩
  | .hbm, ⟨50, _⟩ => ⟨S24576x1, .f32⟩
  | .hbm, ⟨51, _⟩ => ⟨S24576x1, .f32⟩
  | .hbm, ⟨52, _⟩ => ⟨S24576x2048, .f32⟩
  | .hbm, ⟨53, _⟩ => ⟨S24576x2048, .f32⟩
  | .hbm, ⟨54, _⟩ => ⟨S24576x2048, .f32⟩
  | .hbm, ⟨55, _⟩ => ⟨S_, .f32⟩
  | .hbm, ⟨56, _⟩ => ⟨S24576, .f32⟩
  | .hbm, ⟨57, _⟩ => ⟨S24576x1, .f32⟩
  | .hbm, ⟨58, _⟩ => ⟨S_, .f32⟩
  | .hbm, ⟨59, _⟩ => ⟨S24576x1, .f32⟩
  | .hbm, ⟨60, _⟩ => ⟨S24576x1, .f32⟩
  | .hbm, ⟨61, _⟩ => ⟨S24576x2048, .f32⟩
  | .hbm, ⟨62, _⟩ => ⟨S24576x2048, .f32⟩
  | .hbm, ⟨63, _⟩ => ⟨S_, .f32⟩
  | .hbm, ⟨64, _⟩ => ⟨S24576x1, .f32⟩
  | .hbm, ⟨65, _⟩ => ⟨S24576x1, .f32⟩
  | .hbm, ⟨66, _⟩ => ⟨S24576x1, .f32⟩
  | .hbm, ⟨67, _⟩ => ⟨S24576x2048, .f32⟩
  | .hbm, ⟨68, _⟩ => ⟨S24576x2048, .f32⟩
  | .hbm, ⟨69, _⟩ => ⟨S1x2048, .f32⟩
  | .hbm, ⟨70, _⟩ => ⟨S24576x2048, .f32⟩
  | .hbm, ⟨71, _⟩ => ⟨S24576x2048, .f32⟩
  | .hbm, ⟨72, _⟩ => ⟨S1x2048, .f32⟩
  | .hbm, ⟨73, _⟩ => ⟨S24576x2048, .f32⟩
  | .hbm, ⟨74, _⟩ => ⟨S24576x2048, .f32⟩
  | .hbm, ⟨75, _⟩ => ⟨S_, .f32⟩
  | .hbm, ⟨76, _⟩ => ⟨S24576, .f32⟩
  | .hbm, ⟨77, _⟩ => ⟨S24576x1, .f32⟩
  | .hbm, ⟨78, _⟩ => ⟨S_, .f32⟩
  | .hbm, ⟨79, _⟩ => ⟨S24576x1, .f32⟩
  | .hbm, ⟨80, _⟩ => ⟨S24576x1, .f32⟩
  | .hbm, ⟨81, _⟩ => ⟨S24576x2048, .f32⟩
  | .hbm, ⟨82, _⟩ => ⟨S24576x2048, .f32⟩
  | .hbm, ⟨83, _⟩ => ⟨S24576x2048, .f32⟩
  | .hbm, ⟨84, _⟩ => ⟨S_, .f32⟩
  | .hbm, ⟨85, _⟩ => ⟨S24576, .f32⟩
  | .hbm, ⟨86, _⟩ => ⟨S24576x1, .f32⟩
  | .hbm, ⟨87, _⟩ => ⟨S_, .f32⟩
  | .hbm, ⟨88, _⟩ => ⟨S24576x1, .f32⟩
  | .hbm, ⟨89, _⟩ => ⟨S24576x1, .f32⟩
  | .hbm, ⟨90, _⟩ => ⟨S24576x2048, .f32⟩
  | .hbm, ⟨91, _⟩ => ⟨S24576x2048, .f32⟩
  | .hbm, ⟨92, _⟩ => ⟨S_, .f32⟩
  | .hbm, ⟨93, _⟩ => ⟨S24576x1, .f32⟩
  | .hbm, ⟨94, _⟩ => ⟨S24576x1, .f32⟩
  | .hbm, ⟨95, _⟩ => ⟨S24576x1, .f32⟩
  | .hbm, ⟨96, _⟩ => ⟨S24576x2048, .f32⟩
  | .hbm, ⟨97, _⟩ => ⟨S24576x2048, .f32⟩
  | .hbm, ⟨98, _⟩ => ⟨S_, .f32⟩
  | .hbm, ⟨99, _⟩ => ⟨S24576x2048, .f32⟩
  | .hbm, ⟨100, _⟩ => ⟨S24576x2048, .f32⟩
  | .hbm, ⟨101, _⟩ => ⟨S24576x2048, .f32⟩
  | .hbm, ⟨102, _⟩ => ⟨S24576x2048, .f32⟩
  | .hbm, ⟨103, _⟩ => ⟨S24576x2048, .bf16⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_0 : Ref sig .tc := ⟨.hbm, 46, rfl⟩
abbrev main_v36 : Ref sig .tc := ⟨.hbm, 47, rfl⟩
abbrev main_v37 : Ref sig .tc := ⟨.hbm, 48, rfl⟩
abbrev main_cst_1 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_2 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_4 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_5 : Ref sig .tc := ⟨.hbm, 75, rfl⟩
abbrev main_v60 : Ref sig .tc := ⟨.hbm, 76, rfl⟩
abbrev main_v61 : Ref sig .tc := ⟨.hbm, 77, rfl⟩
abbrev main_cst_6 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_7 : Ref sig .tc := ⟨.hbm, 84, rfl⟩
abbrev main_v67 : Ref sig .tc := ⟨.hbm, 85, rfl⟩
abbrev main_v68 : Ref sig .tc := ⟨.hbm, 86, rfl⟩
abbrev main_cst_8 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_9 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_10 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩

abbrev nD : Nat := 1
abbrev τ : Topo := Topo.v7x

variable {F : FTy → Type} [FloatOps F]
-- ==== Proof.Proj.lean ====
/-
  The projection call: every row of the 24576 tokens is normalised over its 2048 columns, scaled and shifted by the row of
  the modulation table that belongs to its pass (row 0 for the 8192 context tokens, row `1 + i` for the `i`-th of the eight
  groups of 2048 tokens being denoised), and multiplied by two weights: 6656 columns of projection, then 6144 columns of
  gates, the gates through a sigmoid. The kernel runs 12 row blocks times 25 column blocks: at the first column block of a
  row block it normalises the rows into a scratch that the other 24 read again.
-/
module

public import proofs.«01_k».proof.Defs
public import proofs.«01_k».proof.Proof.Gen.Kernel2Ideal.Frame
public import proofs.«01_k».proof.Proof.Gen.Reference2Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.Kernel2Ideal.Hand

open Cert.Kernel2Ideal Cert.Kernel2Ideal.Gen

/-- One normalised entry of a row `x`, scaled by `1 + sc` and shifted by `sh`. -/
def normed (x : Fin 2048 → EReal) (sc sh : EReal) (k : Fin 2048) : EReal :=
  (x k - Ideal.div (∑ j, x j) (Ideal.ofBits FTy.f32 1157627904#32)) *
      Ideal.rsqrt
        (Ideal.div
            (∑ i, (x i - Ideal.div (∑ j, x j) (Ideal.ofBits FTy.f32 1157627904#32)) *
                (x i - Ideal.div (∑ j, x j) (Ideal.ofBits FTy.f32 1157627904#32)))
            (Ideal.ofBits FTy.f32 1157627904#32) +
          Ideal.ofBits FTy.f32 925353388#32) *
    (1 + sc) + sh

/-- The row of the modulation table that token `R` takes. -/
def modRow (R : ℕ) : ℕ := if R < 8192 then 0 else 1 + (R - 8192) / 2048

theorem modRow_lt (R : Fin 24576) : modRow R.val < 16 := by unfold modRow; split <;> omega

/-- Entry `(R, k)` of the normalised rows, from the tokens and the modulation table. -/
def hid (X : S24576x2048.Idx → EReal) (M : S16x12288.Idx → EReal) (R : Fin 24576) (k : Fin 2048) : EReal :=
  normed (fun j => X (ix2 R j)) (M (ix2 ⟨modRow R.val, modRow_lt R⟩ ⟨2048 + k.val, by omega⟩))
    (M (ix2 ⟨modRow R.val, modRow_lt R⟩ ⟨k.val, by omega⟩)) k

abbrev RMem := (ℓ : Loc Cert.Reference2Ideal.nD Cert.Reference2Ideal.τ Cert.Reference2Ideal.sig) → Buf (Elt Ideal) ℓ

section
set_option maxRecDepth 1000000

/-- The reference's entry: a projection column, or a gate. -/
theorem ref_apply (m' : RMem) (c' : Dev Cert.Reference2Ideal.nD) (R : Fin 24576) (C : Fin 12800) :
    Cert.Reference2Ideal.Value.res_out0 m' c' (ix2 R C) =
      if h : C.val < 6656 then
        ∑ k, hid (m' (c'.tc.loc Cert.Reference2Ideal.main_arg0)) (m' (c'.tc.loc Cert.Reference2Ideal.main_arg1)) R k *
            m' (c'.tc.loc Cert.Reference2Ideal.main_arg2) (ix2 k ⟨C.val, h⟩) +
          m' (c'.tc.loc Cert.Reference2Ideal.main_arg3) (ix1 ⟨C.val, h⟩)
      else
        Ideal.div 1 (1 + Ideal.exp (-(∑ k,
            hid (m' (c'.tc.loc Cert.Reference2Ideal.main_arg0)) (m' (c'.tc.loc Cert.Reference2Ideal.main_arg1)) R k *
              m' (c'.tc.loc Cert.Reference2Ideal.main_arg4) (ix2 k ⟨C.val - 6656, by omega⟩) +
            m' (c'.tc.loc Cert.Reference2Ideal.main_arg5) (ix1 ⟨C.val - 6656, by omega⟩)))) := by
  unfold Cert.Reference2Ideal.Value.res_out0 Cert.Reference2Ideal.Value.res_main_v82
  clean_types
  pointwise
  unfold hid normed
  by_cases hR : R.val < 8192
  · have e1 : R.val / 256 * 256 + R.val % 256 = R.val := by omega
    have e2 : modRow R.val = 0 := by unfold modRow; rw [if_pos hR]
    simp only [hR, ↓reduceDIte, e1, e2, Fin.eta]
    rfl
  · have e1 : 8192 + ((R.val - 8192) / 2048 * 2048 + (R.val - 8192) % 2048) = R.val := by omega
    have e2 : modRow R.val = 1 + (R.val - 8192) / 2048 := by unfold modRow; rw [if_neg hR]
    simp only [hR, ↓reduceDIte, e1, e2, Fin.eta]
end

theorem pay1_apply (x : Vec Ideal S2048x2048 .f32) (sc sh : Vec Ideal S1x1x2048 .f32) (r k : Fin 2048) :
    k0_pay1 (F := Ideal) x sc sh (ix2 r k) = normed (fun j => x (ix2 r j)) (sc (ix3 0 0 k)) (sh (ix3 0 0 k)) k := by
  pointwise [k0_pay1]
  rfl

theorem pay2_apply (h : Vec Ideal S2048x2048 .bf16) (w : Vec Ideal S2048x512 .bf16) (b : Vec Ideal S1x512 .f32)
    (r : Fin 2048) (l : Fin 512) :
    k0_pay2 (F := Ideal) h w b (ix2 r l) = ∑ k, h (ix2 r k) * w (ix2 k l) + b (ix2 0 l) := by
  pointwise [k0_pay2]

theorem pay3_apply (h : Vec Ideal S2048x2048 .bf16) (w : Vec Ideal S2048x512 .bf16) (b : Vec Ideal S1x512 .f32)
    (r : Fin 2048) (l : Fin 512) :
    k0_pay3 (F := Ideal) h w b (ix2 r l) = Ideal.div 1 (1 + Ideal.exp (-(∑ k, h (ix2 r k) * w (ix2 k l) + b (ix2 0 l)))) := by
  pointwise [k0_pay3]
  rw [zero_sub]

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (c : Dev nD)

/-! ### The arrays the call reads, as the host leaves them -/

theorem V_mod (b : Fin 16) (l : Fin 12288) : V m c main_v0 (ix3 b 0 l) = m ((c : Thread nD τ).loc main_arg1) (ix2 b l) := by
  unfold V hostOps0
  after_results_simp
  clean_types
  pointwise
theorem V_w_in (k : Fin 2048) (l : Fin 6656) : V m c main_v1 (ix2 k l) = m ((c : Thread nD τ).loc main_arg2) (ix2 k l) := by
  unfold V hostOps0
  after_results_simp
  clean_types
  pointwise
theorem V_b_in (l : Fin 6656) : V m c main_v2 (ix2 0 l) = m ((c : Thread nD τ).loc main_arg3) (ix1 l) := by
  unfold V hostOps0
  after_results_simp
  clean_types
  pointwise
theorem V_w_gate (k : Fin 2048) (l : Fin 6144) : V m c main_v3 (ix2 k l) = m ((c : Thread nD τ).loc main_arg4) (ix2 k l) := by
  unfold V hostOps0
  after_results_simp
  clean_types
  pointwise
theorem V_b_gate (l : Fin 6144) : V m c main_v4 (ix2 0 l) = m ((c : Thread nD τ).loc main_arg5) (ix1 l) := by
  unfold V hostOps0
  after_results_simp
  clean_types
  pointwise

/-! ### The blocks a point reads -/

theorem iblk0_apply (t : Fin cfg0.N) (r k : Fin 2048) (R : Fin 24576) (hR : R.val = 2048 * (t.val / 25) + r.val) :
    (iblk m c 0 t : Vec Ideal S2048x2048 .f32) (ix2 r k) = m ((c : Thread nD τ).loc main_arg0) (ix2 R k) := by
  rw [← V_main_arg0 m c]
  unfold iblk
  rw [View.read_apply]
  show V m c main_arg0 _ = _
  congr 1
  funext a
  apply Fin.ext
  have h0 : win0_0.index t 0 = t.val / 25 := (by decide +kernel : ∀ t : Fin grid0.N, win0_0.index t 0 = t.val / 25) t
  have h1 : win0_0.index t 1 = 0 := (by decide +kernel : ∀ t : Fin grid0.N, win0_0.index t 1 = 0) t
  match a with
  | ⟨0, _⟩ => show win0_0.index t 0 * 2048 + 1 * r.val = R.val; omega
  | ⟨1, _⟩ => show win0_0.index t 1 * 2048 + 1 * k.val = k.val; omega

theorem iblk1_apply (t : Fin cfg0.N) (k : Fin 2048) (b : Fin 16) (hb : b.val = if t.val / 25 < 4 then 0 else t.val / 25 - 3) :
    (iblk m c 1 t : Vec Ideal S1x1x2048 .f32) (ix3 0 0 k) = m ((c : Thread nD τ).loc main_arg1) (ix2 b ⟨k.val, by omega⟩) := by
  rw [← V_mod m c]
  unfold iblk
  rw [View.read_apply]
  show V m c main_v0 _ = _
  congr 1
  funext a
  apply Fin.ext
  have h0 : win0_1.index t 0 = if t.val / 25 < 4 then 0 else t.val / 25 - 3 := (by decide +kernel : ∀ t : Fin grid0.N, win0_1.index t 0 = if t.val / 25 < 4 then 0 else t.val / 25 - 3) t
  have h1 : win0_1.index t 1 = 0 := (by decide +kernel : ∀ t : Fin grid0.N, win0_1.index t 1 = 0) t
  have h2 : win0_1.index t 2 = 0 := (by decide +kernel : ∀ t : Fin grid0.N, win0_1.index t 2 = 0) t
  match a with
  | ⟨0, _⟩ => show win0_1.index t 0 * 1 + 1 * 0 = b.val; omega
  | ⟨1, _⟩ => show win0_1.index t 1 * 1 + 1 * 0 = 0; omega
  | ⟨2, _⟩ => show win0_1.index t 2 * 2048 + 1 * k.val = k.val; omega

theorem iblk2_apply (t : Fin cfg0.N) (k : Fin 2048) (b : Fin 16) (hb : b.val = if t.val / 25 < 4 then 0 else t.val / 25 - 3) :
    (iblk m c 2 t : Vec Ideal S1x1x2048 .f32) (ix3 0 0 k) = m ((c : Thread nD τ).loc main_arg1) (ix2 b ⟨2048 + k.val, by omega⟩) := by
  rw [← V_mod m c]
  unfold iblk
  rw [View.read_apply]
  show V m c main_v0 _ = _
  congr 1
  funext a
  apply Fin.ext
  have h0 : win0_2.index t 0 = if t.val / 25 < 4 then 0 else t.val / 25 - 3 := (by decide +kernel : ∀ t : Fin grid0.N, win0_2.index t 0 = if t.val / 25 < 4 then 0 else t.val / 25 - 3) t
  have h1 : win0_2.index t 1 = 0 := (by decide +kernel : ∀ t : Fin grid0.N, win0_2.index t 1 = 0) t
  have h2 : win0_2.index t 2 = 1 := (by decide +kernel : ∀ t : Fin grid0.N, win0_2.index t 2 = 1) t
  match a with
  | ⟨0, _⟩ => show win0_2.index t 0 * 1 + 1 * 0 = b.val; omega
  | ⟨1, _⟩ => show win0_2.index t 1 * 1 + 1 * 0 = 0; omega
  | ⟨2, _⟩ => show win0_2.index t 2 * 2048 + 1 * k.val = 2048 + k.val; omega

theorem iblk3_apply (t : Fin cfg0.N) (k : Fin 2048) (l : Fin 512) (C : Fin 6656) (ht : t.val % 25 ≤ 12) (hC : C.val = 512 * (t.val % 25) + l.val) :
    (iblk m c 3 t : Vec Ideal S2048x512 .bf16) (ix2 k l) = m ((c : Thread nD τ).loc main_arg2) (ix2 k C) := by
  rw [← V_w_in m c]
  unfold iblk
  rw [View.read_apply]
  show V m c main_v1 _ = _
  congr 1
  funext a
  apply Fin.ext
  have h0 : win0_3.index t 0 = 0 := (by decide +kernel : ∀ t : Fin grid0.N, win0_3.index t 0 = 0) t
  have h1 : win0_3.index t 1 = min (t.val % 25) 12 := (by decide +kernel : ∀ t : Fin grid0.N, win0_3.index t 1 = min (t.val % 25) 12) t
  match a with
  | ⟨0, _⟩ => show win0_3.index t 0 * 2048 + 1 * k.val = k.val; omega
  | ⟨1, _⟩ => show win0_3.index t 1 * 512 + 1 * l.val = C.val; omega

theorem iblk4_apply (t : Fin cfg0.N) (l : Fin 512) (C : Fin 6656) (ht : t.val % 25 ≤ 12) (hC : C.val = 512 * (t.val % 25) + l.val) :
    (iblk m c 4 t : Vec Ideal S1x512 .f32) (ix2 0 l) = m ((c : Thread nD τ).loc main_arg3) (ix1 C) := by
  rw [← V_b_in m c]
  unfold iblk
  rw [View.read_apply]
  show V m c main_v2 _ = _
  congr 1
  funext a
  apply Fin.ext
  have h0 : win0_4.index t 0 = 0 := (by decide +kernel : ∀ t : Fin grid0.N, win0_4.index t 0 = 0) t
  have h1 : win0_4.index t 1 = min (t.val % 25) 12 := (by decide +kernel : ∀ t : Fin grid0.N, win0_4.index t 1 = min (t.val % 25) 12) t
  match a with
  | ⟨0, _⟩ => show win0_4.index t 0 * 1 + 1 * 0 = 0; omega
  | ⟨1, _⟩ => show win0_4.index t 1 * 512 + 1 * l.val = C.val; omega

theorem iblk5_apply (t : Fin cfg0.N) (k : Fin 2048) (l : Fin 512) (C : Fin 6144) (ht : 13 ≤ t.val % 25) (hC : C.val + 6656 = 512 * (t.val % 25) + l.val) :
    (iblk m c 5 t : Vec Ideal S2048x512 .bf16) (ix2 k l) = m ((c : Thread nD τ).loc main_arg4) (ix2 k C) := by
  rw [← V_w_gate m c]
  unfold iblk
  rw [View.read_apply]
  show V m c main_v3 _ = _
  congr 1
  funext a
  apply Fin.ext
  have h0 : win0_5.index t 0 = 0 := (by decide +kernel : ∀ t : Fin grid0.N, win0_5.index t 0 = 0) t
  have h1 : win0_5.index t 1 = t.val % 25 - 13 := (by decide +kernel : ∀ t : Fin grid0.N, win0_5.index t 1 = t.val % 25 - 13) t
  match a with
  | ⟨0, _⟩ => show win0_5.index t 0 * 2048 + 1 * k.val = k.val; omega
  | ⟨1, _⟩ => show win0_5.index t 1 * 512 + 1 * l.val = C.val; omega

theorem iblk6_apply (t : Fin cfg0.N) (l : Fin 512) (C : Fin 6144) (ht : 13 ≤ t.val % 25) (hC : C.val + 6656 = 512 * (t.val % 25) + l.val) :
    (iblk m c 6 t : Vec Ideal S1x512 .f32) (ix2 0 l) = m ((c : Thread nD τ).loc main_arg5) (ix1 C) := by
  rw [← V_b_gate m c]
  unfold iblk
  rw [View.read_apply]
  show V m c main_v4 _ = _
  congr 1
  funext a
  apply Fin.ext
  have h0 : win0_6.index t 0 = 0 := (by decide +kernel : ∀ t : Fin grid0.N, win0_6.index t 0 = 0) t
  have h1 : win0_6.index t 1 = t.val % 25 - 13 := (by decide +kernel : ∀ t : Fin grid0.N, win0_6.index t 1 = t.val % 25 - 13) t
  match a with
  | ⟨0, _⟩ => show win0_6.index t 0 * 1 + 1 * 0 = 0; omega
  | ⟨1, _⟩ => show win0_6.index t 1 * 512 + 1 * l.val = C.val; omega

/-! ### What a point leaves in the scratch and in its output block -/

theorem scratch_A (t : Fin cfg0.N) (h0 : t.val % 25 = 0) :
    (outsAt0 m c t.val t.isLt).2 = k0_pay1 (F := Ideal) (iblk m c 0 t) (iblk m c 2 t) (iblk m c 1 t) := by
  rw [outsAt0_A m c t h0 (by omega) (by omega)]
  dsimp only
  unfold sout0_A_0
  rw [View.read_writes_eq_canon _ _ _ (scover0_A_0 c (grid0.coords t) _ _ _ _ _ _ _ _ _ _ _ _ _ _ _ _ _ _ _ _ _ _ _ _ _ _ _ _)]
  unfold kernelRun0_A
  dsimp only
  sl_unfold_words
  rw [View.canon_unit_zero (S := S2048x2048) hz2]
  simp only [View.readAt_eq_ld, Memref.IsWhole.read_unread, View.ld_unit_zero (S := S2048x2048) hz2, View.ld_unit_zero (S := S2048x512) hz2,
    View.ld_unit_zero (S := S1x512) hz2, View.ld_unit_zero (S := S1x1x2048) hz3]

theorem out_A (t : Fin cfg0.N) (h0 : t.val % 25 = 0) :
    (outsAt0 m c t.val t.isLt).1 = k0_pay2 (F := Ideal) (k0_pay1 (iblk m c 0 t) (iblk m c 2 t) (iblk m c 1 t)) (iblk m c 3 t) (iblk m c 4 t) := by
  rw [outsAt0_A m c t h0 (by omega) (by omega)]
  dsimp only
  unfold out0_A_7
  rw [View.read_writes_eq_canon _ _ _ (cover0_A_7 c (grid0.coords t) _ _ _ _ _ _ _ _ _ _ _ _ _ _ _ _ _ _ _ _ _ _ _ _ _ _ _ _)]
  unfold kernelRun0_A
  dsimp only
  sl_unfold_words
  rw [View.canon_unit_zero (S := S2048x512) hz2]
  simp only [View.readCov_unit_zero (S := S2048x2048) _ hz2, View.readAt_eq_ld, Memref.IsWhole.read_unread, View.ld_unit_zero (S := S2048x2048) hz2, View.ld_unit_zero (S := S2048x512) hz2,
    View.ld_unit_zero (S := S1x512) hz2, View.ld_unit_zero (S := S1x1x2048) hz3]

theorem scratch_B (t : Fin cfg0.N) (h0 : ¬ t.val % 25 = 0) :
    (outsAt0 m c t.val t.isLt).2 = (outsAt0 m c (t.val - 1) (Nat.lt_of_le_of_lt (Nat.sub_le _ _) t.isLt)).2 := by
  by_cases h1 : t.val % 25 ≤ 12
  · rw [outsAt0_B m c t h0 h1 (by omega)]
    rfl
  · rw [outsAt0_C m c t h0 h1 (by omega)]
    rfl

theorem out_B (t : Fin cfg0.N) (h0 : ¬ t.val % 25 = 0) (h1 : t.val % 25 ≤ 12) :
    (outsAt0 m c t.val t.isLt).1 = k0_pay2 (F := Ideal) (outsAt0 m c (t.val - 1) (Nat.lt_of_le_of_lt (Nat.sub_le _ _) t.isLt)).2
      (iblk m c 3 t) (iblk m c 4 t) := by
  rw [outsAt0_B m c t h0 h1 (by omega)]
  dsimp only
  unfold out0_B_7
  rw [View.read_writes_eq_canon _ _ _ (cover0_B_7 c (grid0.coords t) _ _ _ _ _ _ _ _ _ _ _ _ _ _ _ _ _ _ _ _ _ _ _ _ _ _ _ _ _)]
  unfold kernelRun0_B
  dsimp only
  sl_unfold_words
  rw [View.canon_unit_zero (S := S2048x512) hz2]
  simp only [View.readAt_eq_ld, Memref.IsWhole.read_unread, View.ld_unit_zero (S := S2048x2048) hz2, View.ld_unit_zero (S := S2048x512) hz2,
    View.ld_unit_zero (S := S1x512) hz2, View.ld_unit_zero (S := S1x1x2048) hz3]
  exact congrArg (fun z => k0_pay2 (F := Ideal) z (iblk m c 3 t) (iblk m c 4 t)) ((Memref.isWhole_whole cc0_scratch0).read_unread _)

theorem out_C (t : Fin cfg0.N) (h0 : ¬ t.val % 25 = 0) (h1 : ¬ t.val % 25 ≤ 12) :
    (outsAt0 m c t.val t.isLt).1 = k0_pay3 (F := Ideal) (outsAt0 m c (t.val - 1) (Nat.lt_of_le_of_lt (Nat.sub_le _ _) t.isLt)).2
      (iblk m c 5 t) (iblk m c 6 t) := by
  rw [outsAt0_C m c t h0 h1 (by omega)]
  dsimp only
  unfold out0_C_7
  rw [View.read_writes_eq_canon _ _ _ (cover0_C_7 c (grid0.coords t) _ _ _ _ _ _ _ _ _ _ _ _ _ _ _ _ _ _ _ _ _ _ _ _ _ _ _ _ _)]
  unfold kernelRun0_C
  dsimp only
  sl_unfold_words
  rw [View.canon_unit_zero (S := S2048x512) hz2]
  simp only [View.readAt_eq_ld, Memref.IsWhole.read_unread, View.ld_unit_zero (S := S2048x2048) hz2, View.ld_unit_zero (S := S2048x512) hz2,
    View.ld_unit_zero (S := S1x512) hz2, View.ld_unit_zero (S := S1x1x2048) hz3]
  exact congrArg (fun z => k0_pay3 (F := Ideal) z (iblk m c 5 t) (iblk m c 6 t)) ((Memref.isWhole_whole cc0_scratch0).read_unread _)

theorem pay1_iblk (t : Fin cfg0.N) (r k : Fin 2048) (R : Fin 24576) (hR : R.val = 2048 * (t.val / 25) + r.val) :
    k0_pay1 (F := Ideal) (iblk m c 0 t) (iblk m c 2 t) (iblk m c 1 t) (ix2 r k)
      = hid (m ((c : Thread nD τ).loc main_arg0)) (m ((c : Thread nD τ).loc main_arg1)) R k := by
  have hb : modRow R.val = if t.val / 25 < 4 then 0 else t.val / 25 - 3 := by
    have := r.isLt
    unfold modRow
    split <;> split <;> omega
  rw [pay1_apply]
  unfold hid
  rw [iblk1_apply m c t k ⟨modRow R.val, modRow_lt R⟩ hb, iblk2_apply m c t k ⟨modRow R.val, modRow_lt R⟩ hb]
  simp only [iblk0_apply m c t r _ R hR]

/-- After every point the scratch holds the normalised rows of the point's row block. -/
theorem scratch_apply (n : ℕ) (hn : n < cfg0.N) (r k : Fin 2048) (R : Fin 24576) (hR : R.val = 2048 * (n / 25) + r.val) :
    (outsAt0 m c n hn).2 (ix2 r k) = hid (m ((c : Thread nD τ).loc main_arg0)) (m ((c : Thread nD τ).loc main_arg1)) R k := by
  induction n with
  | zero =>
    rw [scratch_A m c ⟨0, hn⟩ rfl]
    exact pay1_iblk m c ⟨0, hn⟩ r k R hR
  | succ n ih =>
    by_cases h0 : (n + 1) % 25 = 0
    · rw [scratch_A m c ⟨n + 1, hn⟩ h0]
      exact pay1_iblk m c ⟨n + 1, hn⟩ r k R hR
    · rw [scratch_B m c ⟨n + 1, hn⟩ h0]
      exact ih (Nat.lt_of_succ_lt hn) (by omega)

/-- The kernel's entry from its arguments, in the reference's form. -/
def want (X : S24576x2048.Idx → EReal) (M : S16x12288.Idx → EReal) (W : S2048x6656.Idx → EReal) (B : S6656.Idx → EReal)
    (W' : S2048x6144.Idx → EReal) (B' : S6144.Idx → EReal) (R : Fin 24576) (C : Fin 12800) : EReal :=
  if h : C.val < 6656 then ∑ k, hid X M R k * W (ix2 k ⟨C.val, h⟩) + B (ix1 ⟨C.val, h⟩)
  else Ideal.div 1 (1 + Ideal.exp (-(∑ k, hid X M R k * W' (ix2 k ⟨C.val - 6656, by omega⟩) + B' (ix1 ⟨C.val - 6656, by omega⟩))))

theorem out_apply (t : Fin cfg0.N) (r : Fin 2048) (l : Fin 512) (R : Fin 24576) (C : Fin 12800)
    (hR : R.val = 2048 * (t.val / 25) + r.val) (hC : C.val = 512 * (t.val % 25) + l.val) :
    (outsAt0 m c t.val t.isLt).1 (ix2 r l) = want (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) R C := by
  have hl := l.isLt
  have hN : t.val < 300 := lt_of_lt_of_eq t.isLt (show cfg0.N = 300 from N_0)
  by_cases h1 : t.val % 25 ≤ 12
  · refine Eq.trans ?_ (dif_pos (by omega : C.val < 6656)).symm
    by_cases h0 : t.val % 25 = 0
    · refine (congrFun (out_A m c t h0) _).trans ((pay2_apply _ _ _ r l).trans ?_)
      exact congrArg₂ (· + ·) (Finset.sum_congr rfl fun k _ => congrArg₂ (· * ·) (pay1_iblk m c t r k R hR)
        (iblk3_apply m c t k l ⟨C.val, by omega⟩ h1 hC)) (iblk4_apply m c t l ⟨C.val, by omega⟩ h1 hC)
    · refine (congrFun (out_B m c t h0 h1) _).trans ((pay2_apply _ _ _ r l).trans ?_)
      exact congrArg₂ (· + ·) (Finset.sum_congr rfl fun k _ => congrArg₂ (· * ·) (scratch_apply m c _ _ r k R (by omega))
        (iblk3_apply m c t k l ⟨C.val, by omega⟩ h1 hC)) (iblk4_apply m c t l ⟨C.val, by omega⟩ h1 hC)
  · refine Eq.trans ?_ (dif_neg (by omega : ¬ C.val < 6656)).symm
    refine (congrFun (out_C m c t (by omega) h1) _).trans ((pay3_apply _ _ _ r l).trans ?_)
    exact congrArg (fun z => Ideal.div 1 (1 + Ideal.exp (-z)))
      (congrArg₂ (· + ·) (Finset.sum_congr rfl fun k _ => congrArg₂ (· * ·) (scratch_apply m c _ _ r k R (by omega))
        (iblk5_apply m c t k l ⟨C.val - 6656, by omega⟩ (by omega) (show C.val - 6656 + 6656 = _ by omega)))
        (iblk6_apply m c t l ⟨C.val - 6656, by omega⟩ (by omega) (show C.val - 6656 + 6656 = _ by omega)))

theorem idx7 (t : Fin cfg0.N) : win0_7.index t 0 = t.val / 25 ∧ win0_7.index t 1 = t.val % 25 :=
  (by decide +kernel : ∀ t : Fin grid0.N, win0_7.index t 0 = t.val / 25 ∧ win0_7.index t 1 = t.val % 25) t

/-- Different points write different blocks of the result. -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (Fin.ext (by
    obtain ⟨a0, a1⟩ := idx7 t
    obtain ⟨b0, b1⟩ := idx7 t'
    have e0 : win0_7.index t 0 = win0_7.index t' 0 := congrFun h 0
    have e1 : win0_7.index t 1 = win0_7.index t' 1 := congrFun h 1
    omega))

/-- What the run leaves in the result, at row `R`, column `C`. -/
theorem final_apply (R : Fin 24576) (C : Fin 12800) : (dats m 0 c).arrAt 7 cfg0.N (ix2 R C)
    = want (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) R C := by
  have ht : 25 * (R.val / 2048) + C.val / 512 < cfg0.N := lt_of_lt_of_eq (by omega : _ < 300) (show cfg0.N = 300 from N_0).symm
  have hx := out_apply m c ⟨_, ht⟩ (⟨R.val % 2048, by omega⟩ : Fin 2048) (⟨C.val % 512, by omega⟩ : Fin 512) R C
    (by dsimp only; omega) (by dsimp only; omega)
  refine Eq.trans ?_ hx
  have e := congrFun ((dats m 0 c).read_blk_arrAt_eq_flushed 7 disjoint7 cfg0.N ⟨_, ht⟩ ht (flush0_7 _))
    (ix2 (⟨R.val % 2048, by omega⟩ : Fin 2048) (⟨C.val % 512, by omega⟩ : Fin 512))
  refine Eq.trans ?_ (e.trans ?_)
  · rw [View.read_apply]
    show _ = (dats m 0 c).arrAt 7 cfg0.N _
    congr 1
    funext a
    apply Fin.ext
    obtain ⟨h0, h1⟩ := idx7 ⟨_, ht⟩
    dsimp only at h0 h1
    match a with
    | ⟨0, _⟩ => show R.val = win0_7.index ⟨_, ht⟩ 0 * 2048 + 1 * (R.val % 2048); omega
    | ⟨1, _⟩ => show C.val = win0_7.index ⟨_, ht⟩ 1 * 512 + 1 * (C.val % 512); omega
  · show (cfg0.win 7).cut (grid0.coords ⟨_, ht⟩) ((dats m 0 c).after 7 ⟨_, ht⟩) _ = _
    rw [after0_7]
    rfl

/-- The run, its result named and its arguments as launched. -/
theorem run_named (ρ : Dev nD → PrngReg) : θ_run defs (onTc (τ := τ) (main (F := Ideal))) ⟨m, fun _ => 0, ρ⟩ fun r => ∀ c : Dev nD,
    r.2.mem ((c : Thread nD τ).loc main_v5) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 7,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.Kernel2Ideal.Hand

namespace Cert.Proof

open Cert.Kernel2Ideal Cert.Kernel2Ideal.Gen

theorem frame_reference2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The kernel's result is the reference's. -/
theorem algebraic2 : Cert.algebraic_Kernel2Ideal_Reference2Ideal := by
  intro m ρ m' ρ' _ hagree
  refine ⟨fun c => (dats m 0 c).arrAt 7 cfg0.N, Cert.Kernel2Ideal.Hand.run_named m ρ, ?_⟩
  refine (θ_run Cert.Reference2Ideal.defs _ _).mono (fun _ h c => ⟨(h c).1.trans ?_, (h c).2⟩)
    (Cert.Reference2Ideal.Value.run (F := Ideal) m' ρ')
  obtain ⟨a0, a1, a2, a3, a4, a5⟩ := hagree c
  funext i
  obtain ⟨R, C, rfl⟩ : ∃ (R : Fin 24576) (C : Fin 12800), i = ix2 R C := ⟨i 0, i 1, eq_ix2 i⟩
  refine (Cert.Kernel2Ideal.Hand.ref_apply m' c R C).trans ?_
  rw [a0, a1, a2, a3, a4, a5]
  exact (Cert.Kernel2Ideal.Hand.final_apply m c R C).symm

end Cert.Proof

end
-- ==== Proof.Branch.lean ====
/-
  The call that merges the three branches: each of a token's three gates times a branch's output, projected to 2048 columns
  with its bias. The branches' outputs come as two arrays each, 8192 context rows and 16384 rows being denoised; the kernel
  runs 24 row blocks (8 of the first array, 16 of the second) times 4 column blocks.
-/
module

public import proofs.«01_k».proof.Defs
public import proofs.«01_k».proof.Proof.Gen.Kernel3Ideal.Value
public import proofs.«01_k».proof.Proof.Gen.Reference3Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.Kernel3Ideal.Hand

open Cert.Kernel3Ideal Cert.Kernel3Ideal.Gen

theorem hz2 : (![0, 0] : Fin 2 → Nat) = fun _ => 0 := funext fun a => by fin_cases a <;> rfl

variable (m : (ℓ : Loc nD τ sig) → Buf (Elt Ideal) ℓ) (c : Dev nD)

theorem V_w_a (k : Fin 1024) (l : Fin 2048) : V m c main_v0 (ix2 k l) = m ((c : Thread nD τ).loc main_arg7) (ix2 k l) := by
  unfold V hostOps0
  after_results_simp
  clean_types
  pointwise
theorem V_w_b (k : Fin 512) (l : Fin 2048) : V m c main_v1 (ix2 k l) = m ((c : Thread nD τ).loc main_arg8) (ix2 k l) := by
  unfold V hostOps0
  after_results_simp
  clean_types
  pointwise
theorem V_w_c (k : Fin 512) (l : Fin 2048) : V m c main_v2 (ix2 k l) = m ((c : Thread nD τ).loc main_arg9) (ix2 k l) := by
  unfold V hostOps0
  after_results_simp
  clean_types
  pointwise

theorem iblk0_apply (t : Fin cfg0.N) (r : Fin 1024) (k : Fin 1024) (R : Fin 8192) (ht : t.val < 32) (hR : R.val = 1024 * (t.val / 4) + r.val) :
    (iblk m c 0 t : Vec Ideal S1024x1024 .bf16) (ix2 r k) = m ((c : Thread nD τ).loc main_arg0) (ix2 R k) := by
  rw [← V_main_arg0 m c]
  unfold iblk
  rw [View.read_apply]
  show V m c main_arg0 _ = _
  congr 1
  funext a
  apply Fin.ext
  have h0 : win0_0.index t 0 = min (t.val / 4) 7 := (by decide +kernel : ∀ t : Fin grid0.N, win0_0.index t 0 = min (t.val / 4) 7) t
  have h1 : win0_0.index t 1 = 0 := (by decide +kernel : ∀ t : Fin grid0.N, win0_0.index t 1 = 0) t
  match a with
  | ⟨0, _⟩ => show win0_0.index t 0 * 1024 + 1 * r.val = R.val; omega
  | ⟨1, _⟩ => show win0_0.index t 1 * 1024 + 1 * k.val = k.val; omega

theorem iblk1_apply (t : Fin cfg0.N) (r : Fin 1024) (k : Fin 512) (R : Fin 8192) (ht : t.val < 32) (hR : R.val = 1024 * (t.val / 4) + r.val) :
    (iblk m c 1 t : Vec Ideal S1024x512 .bf16) (ix2 r k) = m ((c : Thread nD τ).loc main_arg1) (ix2 R k) := by
  rw [← V_main_arg1 m c]
  unfold iblk
  rw [View.read_apply]
  show V m c main_arg1 _ = _
  congr 1
  funext a
  apply Fin.ext
  have h0 : win0_1.index t 0 = min (t.val / 4) 7 := (by decide +kernel : ∀ t : Fin grid0.N, win0_1.index t 0 = min (t.val / 4) 7) t
  have h1 : win0_1.index t 1 = 0 := (by decide +kernel : ∀ t : Fin grid0.N, win0_1.index t 1 = 0) t
  match a with
  | ⟨0, _⟩ => show win0_1.index t 0 * 1024 + 1 * r.val = R.val; omega
  | ⟨1, _⟩ => show win0_1.index t 1 * 512 + 1 * k.val = k.val; omega

theorem iblk2_apply (t : Fin cfg0.N) (r : Fin 1024) (k : Fin 512) (R : Fin 8192) (ht : t.val < 32) (hR : R.val = 1024 * (t.val / 4) + r.val) :
    (iblk m c 2 t : Vec Ideal S1024x512 .bf16) (ix2 r k) = m ((c : Thread nD τ).loc main_arg2) (ix2 R k) := by
  rw [← V_main_arg2 m c]
  unfold iblk
  rw [View.read_apply]
  show V m c main_arg2 _ = _
  congr 1
  funext a
  apply Fin.ext
  have h0 : win0_2.index t 0 = min (t.val / 4) 7 := (by decide +kernel : ∀ t : Fin grid0.N, win0_2.index t 0 = min (t.val / 4) 7) t
  have h1 : win0_2.index t 1 = 0 := (by decide +kernel : ∀ t : Fin grid0.N, win0_2.index t 1 = 0) t
  match a with
  | ⟨0, _⟩ => show win0_2.index t 0 * 1024 + 1 * r.val = R.val; omega
  | ⟨1, _⟩ => show win0_2.index t 1 * 512 + 1 * k.val = k.val; omega

theorem iblk3_apply (t : Fin cfg0.N) (r : Fin 1024) (k : Fin 1024) (R : Fin 16384) (ht : ¬ t.val < 32) (hR : R.val + 8192 = 1024 * (t.val / 4) + r.val) :
    (iblk m c 3 t : Vec Ideal S1024x1024 .bf16) (ix2 r k) = m ((c : Thread nD τ).loc main_arg3) (ix2 R k) := by
  rw [← V_main_arg3 m c]
  unfold iblk
  rw [View.read_apply]
  show V m c main_arg3 _ = _
  congr 1
  funext a
  apply Fin.ext
  have h0 : win0_3.index t 0 = t.val / 4 - 8 := (by decide +kernel : ∀ t : Fin grid0.N, win0_3.index t 0 = t.val / 4 - 8) t
  have h1 : win0_3.index t 1 = 0 := (by decide +kernel : ∀ t : Fin grid0.N, win0_3.index t 1 = 0) t
  match a with
  | ⟨0, _⟩ => show win0_3.index t 0 * 1024 + 1 * r.val = R.val; omega
  | ⟨1, _⟩ => show win0_3.index t 1 * 1024 + 1 * k.val = k.val; omega

theorem iblk4_apply (t : Fin cfg0.N) (r : Fin 1024) (k : Fin 512) (R : Fin 16384) (ht : ¬ t.val < 32) (hR : R.val + 8192 = 1024 * (t.val / 4) + r.val) :
    (iblk m c 4 t : Vec Ideal S1024x512 .bf16) (ix2 r k) = m ((c : Thread nD τ).loc main_arg4) (ix2 R k) := by
  rw [← V_main_arg4 m c]
  unfold iblk
  rw [View.read_apply]
  show V m c main_arg4 _ = _
  congr 1
  funext a
  apply Fin.ext
  have h0 : win0_4.index t 0 = t.val / 4 - 8 := (by decide +kernel : ∀ t : Fin grid0.N, win0_4.index t 0 = t.val / 4 - 8) t
  have h1 : win0_4.index t 1 = 0 := (by decide +kernel : ∀ t : Fin grid0.N, win0_4.index t 1 = 0) t
  match a with
  | ⟨0, _⟩ => show win0_4.index t 0 * 1024 + 1 * r.val = R.val; omega
  | ⟨1, _⟩ => show win0_4.index t 1 * 512 + 1 * k.val = k.val; omega

theorem iblk5_apply (t : Fin cfg0.N) (r : Fin 1024) (k : Fin 512) (R : Fin 16384) (ht : ¬ t.val < 32) (hR : R.val + 8192 = 1024 * (t.val / 4) + r.val) :
    (iblk m c 5 t : Vec Ideal S1024x512 .bf16) (ix2 r k) = m ((c : Thread nD τ).loc main_arg5) (ix2 R k) := by
  rw [← V_main_arg5 m c]
  unfold iblk
  rw [View.read_apply]
  show V m c main_arg5 _ = _
  congr 1
  funext a
  apply Fin.ext
  have h0 : win0_5.index t 0 = t.val / 4 - 8 := (by decide +kernel : ∀ t : Fin grid0.N, win0_5.index t 0 = t.val / 4 - 8) t
  have h1 : win0_5.index t 1 = 0 := (by decide +kernel : ∀ t : Fin grid0.N, win0_5.index t 1 = 0) t
  match a with
  | ⟨0, _⟩ => show win0_5.index t 0 * 1024 + 1 * r.val = R.val; omega
  | ⟨1, _⟩ => show win0_5.index t 1 * 512 + 1 * k.val = k.val; omega

theorem iblk6_apply (t : Fin cfg0.N) (r : Fin 1024) (l : Fin 512) (R : Fin 24576) (C : Fin 2048) (hR : R.val = 1024 * (t.val / 4) + r.val) (hC : C.val = 512 * (t.val % 4) + l.val) :
    (iblk m c 6 t : Vec Ideal S1024x512 .bf16) (ix2 r l) = m ((c : Thread nD τ).loc main_arg6) (ix2 R ⟨6656 + C.val, by omega⟩) := by
  rw [← V_main_arg6 m c]
  unfold iblk
  rw [View.read_apply]
  show V m c main_arg6 _ = _
  congr 1
  funext a
  apply Fin.ext
  have h0 : win0_6.index t 0 = t.val / 4 := (by decide +kernel : ∀ t : Fin grid0.N, win0_6.index t 0 = t.val / 4) t
  have h1 : win0_6.index t 1 = 13 + t.val % 4 := (by decide +kernel : ∀ t : Fin grid0.N, win0_6.index t 1 = 13 + t.val % 4) t
  match a with
  | ⟨0, _⟩ => show win0_6.index t 0 * 1024 + 1 * r.val = R.val; omega
  | ⟨1, _⟩ => show win0_6.index t 1 * 512 + 1 * l.val = 6656 + C.val; omega

theorem iblk7_apply (t : Fin cfg0.N) (r : Fin 1024) (l : Fin 512) (R : Fin 24576) (C : Fin 2048) (hR : R.val = 1024 * (t.val / 4) + r.val) (hC : C.val = 512 * (t.val % 4) + l.val) :
    (iblk m c 7 t : Vec Ideal S1024x512 .bf16) (ix2 r l) = m ((c : Thread nD τ).loc main_arg6) (ix2 R ⟨8704 + C.val, by omega⟩) := by
  rw [← V_main_arg6 m c]
  unfold iblk
  rw [View.read_apply]
  show V m c main_arg6 _ = _
  congr 1
  funext a
  apply Fin.ext
  have h0 : win0_7.index t 0 = t.val / 4 := (by decide +kernel : ∀ t : Fin grid0.N, win0_7.index t 0 = t.val / 4) t
  have h1 : win0_7.index t 1 = 17 + t.val % 4 := (by decide +kernel : ∀ t : Fin grid0.N, win0_7.index t 1 = 17 + t.val % 4) t
  match a with
  | ⟨0, _⟩ => show win0_7.index t 0 * 1024 + 1 * r.val = R.val; omega
  | ⟨1, _⟩ => show win0_7.index t 1 * 512 + 1 * l.val = 8704 + C.val; omega

theorem iblk8_apply (t : Fin cfg0.N) (r : Fin 1024) (l : Fin 512) (R : Fin 24576) (C : Fin 2048) (hR : R.val = 1024 * (t.val / 4) + r.val) (hC : C.val = 512 * (t.val % 4) + l.val) :
    (iblk m c 8 t : Vec Ideal S1024x512 .bf16) (ix2 r l) = m ((c : Thread nD τ).loc main_arg6) (ix2 R ⟨10752 + C.val, by omega⟩) := by
  rw [← V_main_arg6 m c]
  unfold iblk
  rw [View.read_apply]
  show V m c main_arg6 _ = _
  congr 1
  funext a
  apply Fin.ext
  have h0 : win0_8.index t 0 = t.val / 4 := (by decide +kernel : ∀ t : Fin grid0.N, win0_8.index t 0 = t.val / 4) t
  have h1 : win0_8.index t 1 = 21 + t.val % 4 := (by decide +kernel : ∀ t : Fin grid0.N, win0_8.index t 1 = 21 + t.val % 4) t
  match a with
  | ⟨0, _⟩ => show win0_8.index t 0 * 1024 + 1 * r.val = R.val; omega
  | ⟨1, _⟩ => show win0_8.index t 1 * 512 + 1 * l.val = 10752 + C.val; omega

theorem iblk9_apply (t : Fin cfg0.N) (k : Fin 1024) (l : Fin 512) (C : Fin 2048) (hC : C.val = 512 * (t.val % 4) + l.val) :
    (iblk m c 9 t : Vec Ideal S1024x512 .bf16) (ix2 k l) = m ((c : Thread nD τ).loc main_arg7) (ix2 k C) := by
  rw [← V_w_a m c]
  unfold iblk
  rw [View.read_apply]
  show V m c main_v0 _ = _
  congr 1
  funext a
  apply Fin.ext
  have h0 : win0_9.index t 0 = 0 := (by decide +kernel : ∀ t : Fin grid0.N, win0_9.index t 0 = 0) t
  have h1 : win0_9.index t 1 = t.val % 4 := (by decide +kernel : ∀ t : Fin grid0.N, win0_9.index t 1 = t.val % 4) t
  match a with
  | ⟨0, _⟩ => show win0_9.index t 0 * 1024 + 1 * k.val = k.val; omega
  | ⟨1, _⟩ => show win0_9.index t 1 * 512 + 1 * l.val = C.val; omega

theorem iblk10_apply (t : Fin cfg0.N) (k : Fin 512) (l : Fin 512) (C : Fin 2048) (hC : C.val = 512 * (t.val % 4) + l.val) :
    (iblk m c 10 t : Vec Ideal S512x512 .bf16) (ix2 k l) = m ((c : Thread nD τ).loc main_arg8) (ix2 k C) := by
  rw [← V_w_b m c]
  unfold iblk
  rw [View.read_apply]
  show V m c main_v1 _ = _
  congr 1
  funext a
  apply Fin.ext
  have h0 : win0_10.index t 0 = 0 := (by decide +kernel : ∀ t : Fin grid0.N, win0_10.index t 0 = 0) t
  have h1 : win0_10.index t 1 = t.val % 4 := (by decide +kernel : ∀ t : Fin grid0.N, win0_10.index t 1 = t.val % 4) t
  match a with
  | ⟨0, _⟩ => show win0_10.index t 0 * 512 + 1 * k.val = k.val; omega
  | ⟨1, _⟩ => show win0_10.index t 1 * 512 + 1 * l.val = C.val; omega

theorem iblk11_apply (t : Fin cfg0.N) (k : Fin 512) (l : Fin 512) (C : Fin 2048) (hC : C.val = 512 * (t.val % 4) + l.val) :
    (iblk m c 11 t : Vec Ideal S512x512 .bf16) (ix2 k l) = m ((c : Thread nD τ).loc main_arg9) (ix2 k C) := by
  rw [← V_w_c m c]
  unfold iblk
  rw [View.read_apply]
  show V m c main_v2 _ = _
  congr 1
  funext a
  apply Fin.ext
  have h0 : win0_11.index t 0 = 0 := (by decide +kernel : ∀ t : Fin grid0.N, win0_11.index t 0 = 0) t
  have h1 : win0_11.index t 1 = t.val % 4 := (by decide +kernel : ∀ t : Fin grid0.N, win0_11.index t 1 = t.val % 4) t
  match a with
  | ⟨0, _⟩ => show win0_11.index t 0 * 512 + 1 * k.val = k.val; omega
  | ⟨1, _⟩ => show win0_11.index t 1 * 512 + 1 * l.val = C.val; omega

theorem iblk12_apply (t : Fin cfg0.N) (q : Fin 3) (l : Fin 512) (C : Fin 2048) (hC : C.val = 512 * (t.val % 4) + l.val) :
    (iblk m c 12 t : Vec Ideal S3x512 .f32) (ix2 q l) = m ((c : Thread nD τ).loc main_arg10) (ix2 q C) := by
  rw [← V_main_arg10 m c]
  unfold iblk
  rw [View.read_apply]
  show V m c main_arg10 _ = _
  congr 1
  funext a
  apply Fin.ext
  have h0 : win0_12.index t 0 = 0 := (by decide +kernel : ∀ t : Fin grid0.N, win0_12.index t 0 = 0) t
  have h1 : win0_12.index t 1 = t.val % 4 := (by decide +kernel : ∀ t : Fin grid0.N, win0_12.index t 1 = t.val % 4) t
  match a with
  | ⟨0, _⟩ => show win0_12.index t 0 * 3 + 1 * q.val = q.val; omega
  | ⟨1, _⟩ => show win0_12.index t 1 * 512 + 1 * l.val = C.val; omega

/-- The merged entry of a row whose branch outputs are `ya`, `yb`, `yc`. -/
def merged (ya : Fin 1024 → EReal) (yb yc : Fin 512 → EReal) (U : S24576x12800.Idx → EReal) (wa : S1024x2048.Idx → EReal)
    (wb wc : S512x2048.Idx → EReal) (b : S3x2048.Idx → EReal) (R : Fin 24576) (C : Fin 2048) : EReal :=
  U (ix2 R ⟨6656 + C.val, by omega⟩) * (∑ k, ya k * wa (ix2 k C) + b (ix2 0 C)) +
      U (ix2 R ⟨8704 + C.val, by omega⟩) * (∑ k, yb k * wb (ix2 k C) + b (ix2 1 C)) +
    U (ix2 R ⟨10752 + C.val, by omega⟩) * (∑ k, yc k * wc (ix2 k C) + b (ix2 2 C))

/-- The merged entry at row `R`, column `C`, from the arguments. -/
def want (Ap : S8192x1024.Idx → EReal) (Bp Cp : S8192x512.Idx → EReal) (As : S16384x1024.Idx → EReal) (Bs Cs : S16384x512.Idx → EReal)
    (U : S24576x12800.Idx → EReal) (wa : S1024x2048.Idx → EReal)
    (wb wc : S512x2048.Idx → EReal) (b : S3x2048.Idx → EReal) (R : Fin 24576) (C : Fin 2048) : EReal :=
  if h : R.val < 8192 then
    merged (fun k => Ap (ix2 ⟨R.val, h⟩ k)) (fun k => Bp (ix2 ⟨R.val, h⟩ k)) (fun k => Cp (ix2 ⟨R.val, h⟩ k)) U wa wb wc b R C
  else
    merged (fun k => As (ix2 ⟨R.val - 8192, by omega⟩ k)) (fun k => Bs (ix2 ⟨R.val - 8192, by omega⟩ k))
      (fun k => Cs (ix2 ⟨R.val - 8192, by omega⟩ k)) U wa wb wc b R C

theorem out_A (t : Fin cfg0.N) (r : Fin 1024) (l : Fin 512) (R : Fin 24576) (C : Fin 2048) (hR : R.val = 1024 * (t.val / 4) + r.val) (hC : C.val = 512 * (t.val % 4) + l.val) (h0 : t.val < 32) :
    outsAt0 m c t.val t.isLt (ix2 r l) = want (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) R C := by
  have hr := r.isLt
  refine Eq.trans ?_ (dif_pos (by omega : R.val < 8192)).symm
  rw [outsAt0_A m c t h0 (by omega)]
  unfold out0_A_13
  rw [View.read_writes_eq_canon _ _ _ (cover0_A_13 c (grid0.coords t) _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_unit_zero (S := S1024x512) hz2]
  simp only [View.readAt_eq_ld, Memref.IsWhole.read_unread, View.ld_unit_zero (S := S1024x1024) hz2, View.ld_unit_zero (S := S1024x512) hz2,
    View.ld_unit_zero (S := S512x512) hz2]
  pointwise [k0_pay1]
  refine congrArg₂ (· + ·) (congrArg₂ (· + ·) ?_ ?_) ?_
  · exact congrArg₂ (· * ·) (iblk6_apply m c t r l R C hR hC) (congrArg₂ (· + ·)
      (Finset.sum_congr rfl fun k _ => congrArg₂ (· * ·) (iblk0_apply m c t r k ⟨R.val, by omega⟩ h0 (by omega)) (iblk9_apply m c t k l C hC))
      (iblk12_apply m c t 0 l C hC))
  · exact congrArg₂ (· * ·) (iblk7_apply m c t r l R C hR hC) (congrArg₂ (· + ·)
      (Finset.sum_congr rfl fun k _ => congrArg₂ (· * ·) (iblk1_apply m c t r k ⟨R.val, by omega⟩ h0 (by omega)) (iblk10_apply m c t k l C hC))
      (iblk12_apply m c t 1 l C hC))
  · exact congrArg₂ (· * ·) (iblk8_apply m c t r l R C hR hC) (congrArg₂ (· + ·)
      (Finset.sum_congr rfl fun k _ => congrArg₂ (· * ·) (iblk2_apply m c t r k ⟨R.val, by omega⟩ h0 (by omega)) (iblk11_apply m c t k l C hC))
      (iblk12_apply m c t 2 l C hC))

theorem out_B (t : Fin cfg0.N) (r : Fin 1024) (l : Fin 512) (R : Fin 24576) (C : Fin 2048) (hR : R.val = 1024 * (t.val / 4) + r.val) (hC : C.val = 512 * (t.val % 4) + l.val) (h0 : ¬ t.val < 32) :
    outsAt0 m c t.val t.isLt (ix2 r l) = want (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) R C := by
  have hr := r.isLt
  refine Eq.trans ?_ (dif_neg (by omega : ¬ R.val < 8192)).symm
  rw [outsAt0_B m c t h0 (by omega)]
  unfold out0_B_13
  rw [View.read_writes_eq_canon _ _ _ (cover0_B_13 c (grid0.coords t) _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero (S := S1024x512) hz2]
  simp only [View.readAt_eq_ld, Memref.IsWhole.read_unread, View.ld_unit_zero (S := S1024x1024) hz2, View.ld_unit_zero (S := S1024x512) hz2,
    View.ld_unit_zero (S := S512x512) hz2]
  pointwise [k0_pay2]
  refine congrArg₂ (· + ·) (congrArg₂ (· + ·) ?_ ?_) ?_
  · exact congrArg₂ (· * ·) (iblk6_apply m c t r l R C hR hC) (congrArg₂ (· + ·)
      (Finset.sum_congr rfl fun k _ => congrArg₂ (· * ·) (iblk3_apply m c t r k ⟨R.val - 8192, by omega⟩ h0 (by dsimp only; omega)) (iblk9_apply m c t k l C hC))
      (iblk12_apply m c t 0 l C hC))
  · exact congrArg₂ (· * ·) (iblk7_apply m c t r l R C hR hC) (congrArg₂ (· + ·)
      (Finset.sum_congr rfl fun k _ => congrArg₂ (· * ·) (iblk4_apply m c t r k ⟨R.val - 8192, by omega⟩ h0 (by dsimp only; omega)) (iblk10_apply m c t k l C hC))
      (iblk12_apply m c t 1 l C hC))
  · exact congrArg₂ (· * ·) (iblk8_apply m c t r l R C hR hC) (congrArg₂ (· + ·)
      (Finset.sum_congr rfl fun k _ => congrArg₂ (· * ·) (iblk5_apply m c t r k ⟨R.val - 8192, by omega⟩ h0 (by dsimp only; omega)) (iblk11_apply m c t k l C hC))
      (iblk12_apply m c t 2 l C hC))

theorem idx13 (t : Fin cfg0.N) : win0_13.index t 0 = t.val / 4 ∧ win0_13.index t 1 = t.val % 4 :=
  (by decide +kernel : ∀ t : Fin grid0.N, win0_13.index t 0 = t.val / 4 ∧ win0_13.index t 1 = t.val % 4) t

/-- What the run leaves in the result, at row `R`, column `C`. -/
theorem final_apply (R : Fin 24576) (C : Fin 2048) : (dats m 0 c).arrAt 13 cfg0.N (ix2 R C)
    = want (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) R C := by
  have ht : 4 * (R.val / 1024) + C.val / 512 < cfg0.N := lt_of_lt_of_eq (by omega : _ < 96) (show cfg0.N = 96 from N_0).symm
  have hx : outsAt0 m c (4 * (R.val / 1024) + C.val / 512) ht (ix2 (⟨R.val % 1024, by omega⟩ : Fin 1024) (⟨C.val % 512, by omega⟩ : Fin 512)) = want (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) R C := by
    by_cases h0 : 4 * (R.val / 1024) + C.val / 512 < 32
    · exact out_A m c ⟨_, ht⟩ (⟨R.val % 1024, by omega⟩ : Fin 1024) (⟨C.val % 512, by omega⟩ : Fin 512) R C
        (by dsimp only; omega) (by dsimp only; omega) h0
    · exact out_B m c ⟨_, ht⟩ (⟨R.val % 1024, by omega⟩ : Fin 1024) (⟨C.val % 512, by omega⟩ : Fin 512) R C
        (by dsimp only; omega) (by dsimp only; omega) h0
  refine Eq.trans ?_ hx
  have e := congrFun (Cert.Kernel3Ideal.Value.blocks13 m c ⟨_, ht⟩ (flush0_13 _))
    (ix2 (⟨R.val % 1024, by omega⟩ : Fin 1024) (⟨C.val % 512, by omega⟩ : Fin 512))
  refine Eq.trans ?_ (e.trans ?_)
  · rw [View.read_apply]
    show _ = (dats m 0 c).arrAt 13 cfg0.N _
    congr 1
    funext a
    apply Fin.ext
    obtain ⟨h0, h1⟩ := idx13 ⟨_, ht⟩
    dsimp only at h0 h1
    match a with
    | ⟨0, _⟩ => show R.val = win0_13.index ⟨_, ht⟩ 0 * 1024 + 1 * (R.val % 1024); omega
    | ⟨1, _⟩ => show C.val = win0_13.index ⟨_, ht⟩ 1 * 512 + 1 * (C.val % 512); omega
  · rw [Cert.Kernel3Ideal.Value.flushed13 m c]
    rfl

end Cert.Kernel3Ideal.Hand

namespace Cert.Proof

open Cert.Kernel3Ideal Cert.Kernel3Ideal.Gen

theorem frame_reference3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The kernel's result is the reference's. -/
theorem algebraic3 : Cert.algebraic_Kernel3Ideal_Reference3Ideal := by
  intro m ρ m' ρ' _ hagree
  refine ⟨fun c => (dats m 0 c).arrAt 13 cfg0.N, Cert.Kernel3Ideal.Value.run_blocks (F := Ideal) m ρ, ?_⟩
  refine (θ_run Cert.Reference3Ideal.defs _ _).mono (fun _ h c => ⟨(h c).1.trans ?_, (h c).2⟩)
    (Cert.Reference3Ideal.Value.run (F := Ideal) m' ρ')
  obtain ⟨a0, a1, a2, a3, a4, a5, a6, a7, a8, a9, a10⟩ := hagree c
  funext i
  obtain ⟨R, C, rfl⟩ : ∃ (R : Fin 24576) (C : Fin 2048), i = ix2 R C := ⟨i 0, i 1, eq_ix2 i⟩
  refine Eq.trans ?_ (Cert.Kernel3Ideal.Hand.final_apply m c R C).symm
  rw [a0, a1, a2, a3, a4, a5, a6, a7, a8, a9, a10]
  clean_types
  pointwise
  unfold Cert.Kernel3Ideal.Hand.want Cert.Kernel3Ideal.Hand.merged
  have e0 : 6656 + (0 * 2048 + C.val) = 6656 + C.val := by omega
  have e1 : 6656 + (1 * 2048 + C.val) = 8704 + C.val := by omega
  have e2 : 6656 + (2 * 2048 + C.val) = 10752 + C.val := by omega
  by_cases hR : R.val < 8192
  · simp only [hR, ↓reduceDIte, e0, e1, e2]
  · simp only [hR, ↓reduceDIte, e0, e1, e2]

end Cert.Proof

end
-- ==== Proof.Combine4.lean ====
/-
  The last call of the layer on the context pass: each row is `c * x + gate * ffn` with `ffn` the sum of the four
  routed rows weighted by their probabilities, normalised over its 2048 columns, scaled and shifted. The four routed rows
  come as 32-bit words, two 16-bit numbers a word: the low halves of a row's words are its first 1024 columns, the high
  halves the rest. Each grid point of the kernel makes 512 rows; row `r` of point `t` is row `512 * t + r` of the result.
-/
module

public import proofs.«01_k».proof.Defs
public import proofs.«01_k».proof.Proof.Gen.Kernel4Ideal.Value
public import proofs.«01_k».proof.Proof.Gen.Reference4Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.Kernel4Ideal.Hand

open Cert.Kernel4Ideal Cert.Kernel4Ideal.Gen

/-- A word shifted left by sixteen is the same on the vector unit and on the host. -/
theorem shl_eq (x : BitVec 32) : IntOp.shli ArithUnit.vector x 16#32 = IntOp.shli ArithUnit.host x 16#32 := by
  simp [IntOp.shli]

abbrev RMem := (ℓ : Loc Cert.Reference4Ideal.nD Cert.Reference4Ideal.τ Cert.Reference4Ideal.sig) → Buf (Elt Ideal) ℓ

/-- One row of the block a grid point stores is the reference's row, once the point's blocks hold the rows of the arrays. -/
theorem pay_eq (m' : RMem) (c' : Dev Cert.Reference4Ideal.nD)
    (x : Vec Ideal S512x2048 .f32) (y0 y1 y2 y3 : Vec Ideal S512x1024 .i32) (p : Vec Ideal S512x128 .f32)
    (g : Vec Ideal S1x1x2048 .f32) (lg lb : Vec Ideal S1x2048 .f32) (r : Fin 512) (l : Fin 2048) (R : Fin 8192)
    (hx : ∀ j : Fin 2048, x (ix2 r j) = m' (c'.tc.loc Cert.Reference4Ideal.main_arg0) (ix2 ⟨0 + R.val, by omega⟩ j))
    (hy0 : ∀ j : Fin 1024, y0 (ix2 r j) = m' (c'.tc.loc Cert.Reference4Ideal.main_arg1) (ix2 ⟨0 + R.val, by omega⟩ j))
    (hy1 : ∀ j : Fin 1024, y1 (ix2 r j) = m' (c'.tc.loc Cert.Reference4Ideal.main_arg1) (ix2 ⟨24576 + R.val, by omega⟩ j))
    (hy2 : ∀ j : Fin 1024, y2 (ix2 r j) = m' (c'.tc.loc Cert.Reference4Ideal.main_arg1) (ix2 ⟨49152 + R.val, by omega⟩ j))
    (hy3 : ∀ j : Fin 1024, y3 (ix2 r j) = m' (c'.tc.loc Cert.Reference4Ideal.main_arg1) (ix2 ⟨73728 + R.val, by omega⟩ j))
    (hp : ∀ j : Fin 128, p (ix2 r j) = m' (c'.tc.loc Cert.Reference4Ideal.main_arg2) (ix2 ⟨0 + R.val, by omega⟩ j))
    (hg : ∀ j : Fin 2048, g (ix3 0 0 j) = m' (c'.tc.loc Cert.Reference4Ideal.main_arg3) (ix2 0 ⟨10240 + j.val, by omega⟩))
    (hlg : ∀ j : Fin 2048, lg (ix2 0 j) = m' (c'.tc.loc Cert.Reference4Ideal.main_arg4) (ix1 j))
    (hlb : ∀ j : Fin 2048, lb (ix2 0 j) = m' (c'.tc.loc Cert.Reference4Ideal.main_arg5) (ix1 j)) :
    k0_pay1 p (k0_pay2 p y0 y1 y2) y3 (k0_pay3 y3) k0_pay4 x g lg lb (ix2 r l) = Cert.Reference4Ideal.Value.res_out0 m' c' (ix2 R l) := by
  unfold Cert.Reference4Ideal.Value.res_out0 Cert.Reference4Ideal.Value.res_main_v65
  clean_types
  pointwise [k0_pay1, k0_pay2, k0_pay3, k0_pay4]
  simp only [hx, hy0, hy1, hy2, hy3, hp, hg, hlg, hlb, shl_eq, Nat.zero_add]

variable (m : (ℓ : Loc nD τ sig) → Buf (Elt Ideal) ℓ) (c : Dev nD)

theorem V_gate (b : Fin 16) (l : Fin 2048) : V m c main_v0 (ix3 b 0 ⟨10240 + l.val, by omega⟩)
    = m ((c : Thread nD τ).loc main_arg3) (ix2 b ⟨10240 + l.val, by omega⟩) := by
  unfold V hostOps0
  after_results_simp
  clean_types
  pointwise
theorem V_ln_g (l : Fin 2048) : V m c main_v1 (ix2 0 l) = m ((c : Thread nD τ).loc main_arg4) (ix1 l) := by
  unfold V hostOps0
  after_results_simp
  clean_types
  pointwise
theorem V_ln_b (l : Fin 2048) : V m c main_v2 (ix2 0 l) = m ((c : Thread nD τ).loc main_arg5) (ix1 l) := by
  unfold V hostOps0
  after_results_simp
  clean_types
  pointwise

theorem iblk0_apply (t : Fin cfg0.N) (r : Fin 512) (l : Fin 2048) (R : Fin 8192) (hR : R.val = 512 * t.val + r.val) :
    (iblk m c 0 t : Vec Ideal S512x2048 .f32) (ix2 r l) = m ((c : Thread nD τ).loc main_arg0) (ix2 ⟨0 + R.val, by omega⟩ l) := by
  unfold iblk
  rw [View.read_apply]
  show V m c main_arg0 _ = _
  rw [V_main_arg0]
  congr 1
  funext a
  apply Fin.ext
  have h0 : win0_0.index t 0 = 0 + t.val := (by decide +kernel : ∀ t : Fin grid0.N, win0_0.index t 0 = 0 + t.val) t
  have h1 : win0_0.index t 1 = 0 := (by decide +kernel : ∀ t : Fin grid0.N, win0_0.index t 1 = 0) t
  match a with
  | ⟨0, _⟩ => show win0_0.index t 0 * 512 + 1 * r.val = 0 + R.val; omega
  | ⟨1, _⟩ => show win0_0.index t 1 * 2048 + 1 * l.val = l.val; omega

theorem iblk1_apply (t : Fin cfg0.N) (r : Fin 512) (l : Fin 1024) (R : Fin 8192) (hR : R.val = 512 * t.val + r.val) :
    (iblk m c 1 t : Vec Ideal S512x1024 .i32) (ix2 r l) = m ((c : Thread nD τ).loc main_arg1) (ix2 ⟨0 + R.val, by omega⟩ l) := by
  unfold iblk
  rw [View.read_apply]
  show V m c main_arg1 _ = _
  rw [V_main_arg1]
  congr 1
  funext a
  apply Fin.ext
  have h0 : win0_1.index t 0 = 0 + t.val := (by decide +kernel : ∀ t : Fin grid0.N, win0_1.index t 0 = 0 + t.val) t
  have h1 : win0_1.index t 1 = 0 := (by decide +kernel : ∀ t : Fin grid0.N, win0_1.index t 1 = 0) t
  match a with
  | ⟨0, _⟩ => show win0_1.index t 0 * 512 + 1 * r.val = 0 + R.val; omega
  | ⟨1, _⟩ => show win0_1.index t 1 * 1024 + 1 * l.val = l.val; omega

theorem iblk2_apply (t : Fin cfg0.N) (r : Fin 512) (l : Fin 1024) (R : Fin 8192) (hR : R.val = 512 * t.val + r.val) :
    (iblk m c 2 t : Vec Ideal S512x1024 .i32) (ix2 r l) = m ((c : Thread nD τ).loc main_arg1) (ix2 ⟨24576 + R.val, by omega⟩ l) := by
  unfold iblk
  rw [View.read_apply]
  show V m c main_arg1 _ = _
  rw [V_main_arg1]
  congr 1
  funext a
  apply Fin.ext
  have h0 : win0_2.index t 0 = 48 + t.val := (by decide +kernel : ∀ t : Fin grid0.N, win0_2.index t 0 = 48 + t.val) t
  have h1 : win0_2.index t 1 = 0 := (by decide +kernel : ∀ t : Fin grid0.N, win0_2.index t 1 = 0) t
  match a with
  | ⟨0, _⟩ => show win0_2.index t 0 * 512 + 1 * r.val = 24576 + R.val; omega
  | ⟨1, _⟩ => show win0_2.index t 1 * 1024 + 1 * l.val = l.val; omega

theorem iblk3_apply (t : Fin cfg0.N) (r : Fin 512) (l : Fin 1024) (R : Fin 8192) (hR : R.val = 512 * t.val + r.val) :
    (iblk m c 3 t : Vec Ideal S512x1024 .i32) (ix2 r l) = m ((c : Thread nD τ).loc main_arg1) (ix2 ⟨49152 + R.val, by omega⟩ l) := by
  unfold iblk
  rw [View.read_apply]
  show V m c main_arg1 _ = _
  rw [V_main_arg1]
  congr 1
  funext a
  apply Fin.ext
  have h0 : win0_3.index t 0 = 96 + t.val := (by decide +kernel : ∀ t : Fin grid0.N, win0_3.index t 0 = 96 + t.val) t
  have h1 : win0_3.index t 1 = 0 := (by decide +kernel : ∀ t : Fin grid0.N, win0_3.index t 1 = 0) t
  match a with
  | ⟨0, _⟩ => show win0_3.index t 0 * 512 + 1 * r.val = 49152 + R.val; omega
  | ⟨1, _⟩ => show win0_3.index t 1 * 1024 + 1 * l.val = l.val; omega

theorem iblk4_apply (t : Fin cfg0.N) (r : Fin 512) (l : Fin 1024) (R : Fin 8192) (hR : R.val = 512 * t.val + r.val) :
    (iblk m c 4 t : Vec Ideal S512x1024 .i32) (ix2 r l) = m ((c : Thread nD τ).loc main_arg1) (ix2 ⟨73728 + R.val, by omega⟩ l) := by
  unfold iblk
  rw [View.read_apply]
  show V m c main_arg1 _ = _
  rw [V_main_arg1]
  congr 1
  funext a
  apply Fin.ext
  have h0 : win0_4.index t 0 = 144 + t.val := (by decide +kernel : ∀ t : Fin grid0.N, win0_4.index t 0 = 144 + t.val) t
  have h1 : win0_4.index t 1 = 0 := (by decide +kernel : ∀ t : Fin grid0.N, win0_4.index t 1 = 0) t
  match a with
  | ⟨0, _⟩ => show win0_4.index t 0 * 512 + 1 * r.val = 73728 + R.val; omega
  | ⟨1, _⟩ => show win0_4.index t 1 * 1024 + 1 * l.val = l.val; omega

theorem iblk5_apply (t : Fin cfg0.N) (r : Fin 512) (l : Fin 128) (R : Fin 8192) (hR : R.val = 512 * t.val + r.val) :
    (iblk m c 5 t : Vec Ideal S512x128 .f32) (ix2 r l) = m ((c : Thread nD τ).loc main_arg2) (ix2 ⟨0 + R.val, by omega⟩ l) := by
  unfold iblk
  rw [View.read_apply]
  show V m c main_arg2 _ = _
  rw [V_main_arg2]
  congr 1
  funext a
  apply Fin.ext
  have h0 : win0_5.index t 0 = 0 + t.val := (by decide +kernel : ∀ t : Fin grid0.N, win0_5.index t 0 = 0 + t.val) t
  have h1 : win0_5.index t 1 = 0 := (by decide +kernel : ∀ t : Fin grid0.N, win0_5.index t 1 = 0) t
  match a with
  | ⟨0, _⟩ => show win0_5.index t 0 * 512 + 1 * r.val = 0 + R.val; omega
  | ⟨1, _⟩ => show win0_5.index t 1 * 128 + 1 * l.val = l.val; omega

theorem iblk6_apply (t : Fin cfg0.N) (l : Fin 2048) (b : Fin 16) (hb : b.val = 0) :
    (iblk m c 6 t : Vec Ideal S1x1x2048 .f32) (ix3 0 0 l) = m ((c : Thread nD τ).loc main_arg3) (ix2 b ⟨10240 + l.val, by omega⟩) := by
  rw [← V_gate m c b l]
  unfold iblk
  rw [View.read_apply]
  show V m c main_v0 _ = _
  congr 1
  funext a
  apply Fin.ext
  have h0 : win0_6.index t 0 = 0 := (by decide +kernel : ∀ t : Fin grid0.N, win0_6.index t 0 = 0) t
  have h1 : win0_6.index t 1 = 0 := (by decide +kernel : ∀ t : Fin grid0.N, win0_6.index t 1 = 0) t
  have h2 : win0_6.index t 2 = 5 := (by decide +kernel : ∀ t : Fin grid0.N, win0_6.index t 2 = 5) t
  match a with
  | ⟨0, _⟩ => show win0_6.index t 0 * 1 + 1 * 0 = b.val; omega
  | ⟨1, _⟩ => show win0_6.index t 1 * 1 + 1 * 0 = 0; omega
  | ⟨2, _⟩ => show win0_6.index t 2 * 2048 + 1 * l.val = 10240 + l.val; omega

theorem iblk7_apply (t : Fin cfg0.N) (l : Fin 2048) :
    (iblk m c 7 t : Vec Ideal S1x2048 .f32) (ix2 0 l) = m ((c : Thread nD τ).loc main_arg4) (ix1 l) := by
  rw [← V_ln_g m c l]
  unfold iblk
  rw [View.read_apply]
  show V m c main_v1 _ = _
  congr 1
  funext a
  apply Fin.ext
  have h0 : win0_7.index t 0 = 0 := (by decide +kernel : ∀ t : Fin grid0.N, win0_7.index t 0 = 0) t
  have h1 : win0_7.index t 1 = 0 := (by decide +kernel : ∀ t : Fin grid0.N, win0_7.index t 1 = 0) t
  match a with
  | ⟨0, _⟩ => show win0_7.index t 0 * 1 + 1 * 0 = 0; omega
  | ⟨1, _⟩ => show win0_7.index t 1 * 2048 + 1 * l.val = l.val; omega

theorem iblk8_apply (t : Fin cfg0.N) (l : Fin 2048) :
    (iblk m c 8 t : Vec Ideal S1x2048 .f32) (ix2 0 l) = m ((c : Thread nD τ).loc main_arg5) (ix1 l) := by
  rw [← V_ln_b m c l]
  unfold iblk
  rw [View.read_apply]
  show V m c main_v2 _ = _
  congr 1
  funext a
  apply Fin.ext
  have h0 : win0_8.index t 0 = 0 := (by decide +kernel : ∀ t : Fin grid0.N, win0_8.index t 0 = 0) t
  have h1 : win0_8.index t 1 = 0 := (by decide +kernel : ∀ t : Fin grid0.N, win0_8.index t 1 = 0) t
  match a with
  | ⟨0, _⟩ => show win0_8.index t 0 * 1 + 1 * 0 = 0; omega
  | ⟨1, _⟩ => show win0_8.index t 1 * 2048 + 1 * l.val = l.val; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The block of point `t` at row `r`, column `l`, where the arguments of the two programs agree. -/
theorem out_apply (m' : RMem) (c' : Dev Cert.Reference4Ideal.nD)
    (a0 : m' (c'.tc.loc Cert.Reference4Ideal.main_arg0) = m ((c : Thread nD τ).loc main_arg0))
    (a1 : m' (c'.tc.loc Cert.Reference4Ideal.main_arg1) = m ((c : Thread nD τ).loc main_arg1))
    (a2 : m' (c'.tc.loc Cert.Reference4Ideal.main_arg2) = m ((c : Thread nD τ).loc main_arg2))
    (a3 : m' (c'.tc.loc Cert.Reference4Ideal.main_arg3) = m ((c : Thread nD τ).loc main_arg3))
    (a4 : m' (c'.tc.loc Cert.Reference4Ideal.main_arg4) = m ((c : Thread nD τ).loc main_arg4))
    (a5 : m' (c'.tc.loc Cert.Reference4Ideal.main_arg5) = m ((c : Thread nD τ).loc main_arg5))
    (t : Fin cfg0.N) (r : Fin 512) (l : Fin 2048) (R : Fin 8192) (hR : R.val = 512 * t.val + r.val) :
    out0_9 (iblk m c 0 t) (iblk m c 1 t) (iblk m c 2 t) (iblk m c 3 t) (iblk m c 4 t) (iblk m c 5 t) (iblk m c 6 t) (iblk m c 7 t) (iblk m c 8 t) (ix2 r l)
      = Cert.Reference4Ideal.Value.res_out0 m' c' (ix2 R l) := by
  have ht : t.val < 16 := t.isLt
  unfold out0_9
  rw [View.canon_unit_zero hz2]
  simp only [View.ld_unit_zero (S := S512x2048) hz2, View.ld_unit_zero (S := S512x1024) hz2, View.ld_unit_zero (S := S512x128) hz2,
    View.ld_unit_zero (S := S1x1x2048) hz3, View.ld_unit_zero (S := S1x2048) hz2]
  exact pay_eq m' c' _ _ _ _ _ _ _ _ _ r l R
    (fun j => (iblk0_apply m c t r j R hR).trans (congrFun a0.symm _))
    (fun j => (iblk1_apply m c t r j R hR).trans (congrFun a1.symm _))
    (fun j => (iblk2_apply m c t r j R hR).trans (congrFun a1.symm _))
    (fun j => (iblk3_apply m c t r j R hR).trans (congrFun a1.symm _))
    (fun j => (iblk4_apply m c t r j R hR).trans (congrFun a1.symm _))
    (fun j => (iblk5_apply m c t r j R hR).trans (congrFun a2.symm _))
    (fun j => (iblk6_apply m c t j _ rfl).trans (congrFun a3.symm _))
    (fun j => (iblk7_apply m c t j).trans (congrFun a4.symm _))
    (fun j => (iblk8_apply m c t j).trans (congrFun a5.symm _))

end Cert.Kernel4Ideal.Hand

namespace Cert.Proof

open Cert.Kernel4Ideal Cert.Kernel4Ideal.Gen

theorem frame_reference4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The kernel's result is the reference's. -/
theorem algebraic4 : Cert.algebraic_Kernel4Ideal_Reference4Ideal := by
  intro m ρ m' ρ' _ hagree
  refine ⟨fun c => (dats m 0 c).arrAt 9 cfg0.N, Cert.Kernel4Ideal.Value.run_blocks (F := Ideal) m ρ, ?_⟩
  refine (θ_run Cert.Reference4Ideal.defs _ _).mono (fun _ h c => ⟨(h c).1.trans ?_, (h c).2⟩)
    (Cert.Reference4Ideal.Value.run (F := Ideal) m' ρ')
  obtain ⟨a0, a1, a2, a3, a4, a5⟩ := hagree c
  funext i
  obtain ⟨R, l, rfl⟩ : ∃ (R : Fin 8192) (l : Fin 2048), i = ix2 R l := ⟨i 0, i 1, eq_ix2 i⟩
  have hR : R.val = 512 * (R.val / 512) + R.val % 512 := by omega
  have ht : R.val / 512 < cfg0.N := by show _ < 16; omega
  have e := congrFun (Cert.Kernel4Ideal.Value.blocks9 m c ⟨R.val / 512, ht⟩ (flush0_9 _)) (ix2 (⟨R.val % 512, by omega⟩ : Fin 512) l)
  rw [Cert.Kernel4Ideal.Value.flushed9 m c] at e
  refine (Cert.Kernel4Ideal.Hand.out_apply m c m' c a0 a1 a2 a3 a4 a5 ⟨R.val / 512, ht⟩ ⟨R.val % 512, by omega⟩ l R hR).symm.trans ?_
  refine e.symm.trans ?_
  rw [View.read_apply]
  show (dats m 0 c).arrAt 9 cfg0.N _ = _
  congr 1
  funext a
  apply Fin.ext
  have h0 : win0_9.index ⟨R.val / 512, ht⟩ 0 = R.val / 512 := (by decide +kernel : ∀ t : Fin grid0.N, win0_9.index t 0 = t.val) ⟨R.val / 512, ht⟩
  have h1 : win0_9.index ⟨R.val / 512, ht⟩ 1 = 0 := (by decide +kernel : ∀ t : Fin grid0.N, win0_9.index t 1 = 0) ⟨R.val / 512, ht⟩
  match a with
  | ⟨0, _⟩ => show win0_9.index ⟨R.val / 512, ht⟩ 0 * 512 + 1 * (R.val % 512) = R.val; omega
  | ⟨1, _⟩ => show win0_9.index ⟨R.val / 512, ht⟩ 1 * 2048 + 1 * l.val = l.val; omega

end Cert.Proof

end
-- ==== Proof.Combine5.lean ====
/-
  The last call of the layer on the denoising pass: each row is `c * x + gate * ffn` with `ffn` the sum of the four
  routed rows weighted by their probabilities, normalised over its 2048 columns, scaled and shifted. The four routed rows
  come as 32-bit words, two 16-bit numbers a word: the low halves of a row's words are its first 1024 columns, the high
  halves the rest. Each grid point of the kernel makes 512 rows; row `r` of point `t` is row `512 * t + r` of the result.
-/
module

public import proofs.«01_k».proof.Defs
public import proofs.«01_k».proof.Proof.Gen.Kernel5Ideal.Value
public import proofs.«01_k».proof.Proof.Gen.Reference5Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.Kernel5Ideal.Hand

open Cert.Kernel5Ideal Cert.Kernel5Ideal.Gen

/-- A word shifted left by sixteen is the same on the vector unit and on the host. -/
theorem shl_eq (x : BitVec 32) : IntOp.shli ArithUnit.vector x 16#32 = IntOp.shli ArithUnit.host x 16#32 := by
  simp [IntOp.shli]

abbrev RMem := (ℓ : Loc Cert.Reference5Ideal.nD Cert.Reference5Ideal.τ Cert.Reference5Ideal.sig) → Buf (Elt Ideal) ℓ

/-- One row of the block a grid point stores is the reference's row, once the point's blocks hold the rows of the arrays. -/
theorem pay_eq (m' : RMem) (c' : Dev Cert.Reference5Ideal.nD)
    (x : Vec Ideal S512x2048 .f32) (y0 y1 y2 y3 : Vec Ideal S512x1024 .i32) (p : Vec Ideal S512x128 .f32)
    (g : Vec Ideal S1x1x2048 .f32) (lg lb : Vec Ideal S1x2048 .f32) (r : Fin 512) (l : Fin 2048) (R : Fin 16384)
    (hx : ∀ j : Fin 2048, x (ix2 r j) = m' (c'.tc.loc Cert.Reference5Ideal.main_arg0) (ix2 ⟨8192 + R.val, by omega⟩ j))
    (hy0 : ∀ j : Fin 1024, y0 (ix2 r j) = m' (c'.tc.loc Cert.Reference5Ideal.main_arg1) (ix2 ⟨8192 + R.val, by omega⟩ j))
    (hy1 : ∀ j : Fin 1024, y1 (ix2 r j) = m' (c'.tc.loc Cert.Reference5Ideal.main_arg1) (ix2 ⟨32768 + R.val, by omega⟩ j))
    (hy2 : ∀ j : Fin 1024, y2 (ix2 r j) = m' (c'.tc.loc Cert.Reference5Ideal.main_arg1) (ix2 ⟨57344 + R.val, by omega⟩ j))
    (hy3 : ∀ j : Fin 1024, y3 (ix2 r j) = m' (c'.tc.loc Cert.Reference5Ideal.main_arg1) (ix2 ⟨81920 + R.val, by omega⟩ j))
    (hp : ∀ j : Fin 128, p (ix2 r j) = m' (c'.tc.loc Cert.Reference5Ideal.main_arg2) (ix2 ⟨8192 + R.val, by omega⟩ j))
    (hg : ∀ j : Fin 2048, g (ix3 0 0 j) = m' (c'.tc.loc Cert.Reference5Ideal.main_arg3) (ix2 ⟨1 + R.val / 2048, by omega⟩ ⟨10240 + j.val, by omega⟩))
    (hlg : ∀ j : Fin 2048, lg (ix2 0 j) = m' (c'.tc.loc Cert.Reference5Ideal.main_arg4) (ix1 j))
    (hlb : ∀ j : Fin 2048, lb (ix2 0 j) = m' (c'.tc.loc Cert.Reference5Ideal.main_arg5) (ix1 j)) :
    k0_pay1 p (k0_pay2 p y0 y1 y2) y3 (k0_pay3 y3) k0_pay4 x g lg lb (ix2 r l) = Cert.Reference5Ideal.Value.res_out0 m' c' (ix2 R l) := by
  unfold Cert.Reference5Ideal.Value.res_out0 Cert.Reference5Ideal.Value.res_main_v65
  clean_types
  pointwise [k0_pay1, k0_pay2, k0_pay3, k0_pay4]
  simp only [hx, hy0, hy1, hy2, hy3, hp, hg, hlg, hlb, shl_eq, Nat.add_assoc, Nat.reduceAdd, ← Nat.add_assoc]
  try rfl

variable (m : (ℓ : Loc nD τ sig) → Buf (Elt Ideal) ℓ) (c : Dev nD)

theorem V_gate (b : Fin 16) (l : Fin 2048) : V m c main_v0 (ix3 b 0 ⟨10240 + l.val, by omega⟩)
    = m ((c : Thread nD τ).loc main_arg3) (ix2 b ⟨10240 + l.val, by omega⟩) := by
  unfold V hostOps0
  after_results_simp
  clean_types
  pointwise
theorem V_ln_g (l : Fin 2048) : V m c main_v1 (ix2 0 l) = m ((c : Thread nD τ).loc main_arg4) (ix1 l) := by
  unfold V hostOps0
  after_results_simp
  clean_types
  pointwise
theorem V_ln_b (l : Fin 2048) : V m c main_v2 (ix2 0 l) = m ((c : Thread nD τ).loc main_arg5) (ix1 l) := by
  unfold V hostOps0
  after_results_simp
  clean_types
  pointwise

theorem iblk0_apply (t : Fin cfg0.N) (r : Fin 512) (l : Fin 2048) (R : Fin 16384) (hR : R.val = 512 * t.val + r.val) :
    (iblk m c 0 t : Vec Ideal S512x2048 .f32) (ix2 r l) = m ((c : Thread nD τ).loc main_arg0) (ix2 ⟨8192 + R.val, by omega⟩ l) := by
  unfold iblk
  rw [View.read_apply]
  show V m c main_arg0 _ = _
  rw [V_main_arg0]
  congr 1
  funext a
  apply Fin.ext
  have h0 : win0_0.index t 0 = 16 + t.val := (by decide +kernel : ∀ t : Fin grid0.N, win0_0.index t 0 = 16 + t.val) t
  have h1 : win0_0.index t 1 = 0 := (by decide +kernel : ∀ t : Fin grid0.N, win0_0.index t 1 = 0) t
  match a with
  | ⟨0, _⟩ => show win0_0.index t 0 * 512 + 1 * r.val = 8192 + R.val; omega
  | ⟨1, _⟩ => show win0_0.index t 1 * 2048 + 1 * l.val = l.val; omega

theorem iblk1_apply (t : Fin cfg0.N) (r : Fin 512) (l : Fin 1024) (R : Fin 16384) (hR : R.val = 512 * t.val + r.val) :
    (iblk m c 1 t : Vec Ideal S512x1024 .i32) (ix2 r l) = m ((c : Thread nD τ).loc main_arg1) (ix2 ⟨8192 + R.val, by omega⟩ l) := by
  unfold iblk
  rw [View.read_apply]
  show V m c main_arg1 _ = _
  rw [V_main_arg1]
  congr 1
  funext a
  apply Fin.ext
  have h0 : win0_1.index t 0 = 16 + t.val := (by decide +kernel : ∀ t : Fin grid0.N, win0_1.index t 0 = 16 + t.val) t
  have h1 : win0_1.index t 1 = 0 := (by decide +kernel : ∀ t : Fin grid0.N, win0_1.index t 1 = 0) t
  match a with
  | ⟨0, _⟩ => show win0_1.index t 0 * 512 + 1 * r.val = 8192 + R.val; omega
  | ⟨1, _⟩ => show win0_1.index t 1 * 1024 + 1 * l.val = l.val; omega

theorem iblk2_apply (t : Fin cfg0.N) (r : Fin 512) (l : Fin 1024) (R : Fin 16384) (hR : R.val = 512 * t.val + r.val) :
    (iblk m c 2 t : Vec Ideal S512x1024 .i32) (ix2 r l) = m ((c : Thread nD τ).loc main_arg1) (ix2 ⟨32768 + R.val, by omega⟩ l) := by
  unfold iblk
  rw [View.read_apply]
  show V m c main_arg1 _ = _
  rw [V_main_arg1]
  congr 1
  funext a
  apply Fin.ext
  have h0 : win0_2.index t 0 = 64 + t.val := (by decide +kernel : ∀ t : Fin grid0.N, win0_2.index t 0 = 64 + t.val) t
  have h1 : win0_2.index t 1 = 0 := (by decide +kernel : ∀ t : Fin grid0.N, win0_2.index t 1 = 0) t
  match a with
  | ⟨0, _⟩ => show win0_2.index t 0 * 512 + 1 * r.val = 32768 + R.val; omega
  | ⟨1, _⟩ => show win0_2.index t 1 * 1024 + 1 * l.val = l.val; omega

theorem iblk3_apply (t : Fin cfg0.N) (r : Fin 512) (l : Fin 1024) (R : Fin 16384) (hR : R.val = 512 * t.val + r.val) :
    (iblk m c 3 t : Vec Ideal S512x1024 .i32) (ix2 r l) = m ((c : Thread nD τ).loc main_arg1) (ix2 ⟨57344 + R.val, by omega⟩ l) := by
  unfold iblk
  rw [View.read_apply]
  show V m c main_arg1 _ = _
  rw [V_main_arg1]
  congr 1
  funext a
  apply Fin.ext
  have h0 : win0_3.index t 0 = 112 + t.val := (by decide +kernel : ∀ t : Fin grid0.N, win0_3.index t 0 = 112 + t.val) t
  have h1 : win0_3.index t 1 = 0 := (by decide +kernel : ∀ t : Fin grid0.N, win0_3.index t 1 = 0) t
  match a with
  | ⟨0, _⟩ => show win0_3.index t 0 * 512 + 1 * r.val = 57344 + R.val; omega
  | ⟨1, _⟩ => show win0_3.index t 1 * 1024 + 1 * l.val = l.val; omega

theorem iblk4_apply (t : Fin cfg0.N) (r : Fin 512) (l : Fin 1024) (R : Fin 16384) (hR : R.val = 512 * t.val + r.val) :
    (iblk m c 4 t : Vec Ideal S512x1024 .i32) (ix2 r l) = m ((c : Thread nD τ).loc main_arg1) (ix2 ⟨81920 + R.val, by omega⟩ l) := by
  unfold iblk
  rw [View.read_apply]
  show V m c main_arg1 _ = _
  rw [V_main_arg1]
  congr 1
  funext a
  apply Fin.ext
  have h0 : win0_4.index t 0 = 160 + t.val := (by decide +kernel : ∀ t : Fin grid0.N, win0_4.index t 0 = 160 + t.val) t
  have h1 : win0_4.index t 1 = 0 := (by decide +kernel : ∀ t : Fin grid0.N, win0_4.index t 1 = 0) t
  match a with
  | ⟨0, _⟩ => show win0_4.index t 0 * 512 + 1 * r.val = 81920 + R.val; omega
  | ⟨1, _⟩ => show win0_4.index t 1 * 1024 + 1 * l.val = l.val; omega

theorem iblk5_apply (t : Fin cfg0.N) (r : Fin 512) (l : Fin 128) (R : Fin 16384) (hR : R.val = 512 * t.val + r.val) :
    (iblk m c 5 t : Vec Ideal S512x128 .f32) (ix2 r l) = m ((c : Thread nD τ).loc main_arg2) (ix2 ⟨8192 + R.val, by omega⟩ l) := by
  unfold iblk
  rw [View.read_apply]
  show V m c main_arg2 _ = _
  rw [V_main_arg2]
  congr 1
  funext a
  apply Fin.ext
  have h0 : win0_5.index t 0 = 16 + t.val := (by decide +kernel : ∀ t : Fin grid0.N, win0_5.index t 0 = 16 + t.val) t
  have h1 : win0_5.index t 1 = 0 := (by decide +kernel : ∀ t : Fin grid0.N, win0_5.index t 1 = 0) t
  match a with
  | ⟨0, _⟩ => show win0_5.index t 0 * 512 + 1 * r.val = 8192 + R.val; omega
  | ⟨1, _⟩ => show win0_5.index t 1 * 128 + 1 * l.val = l.val; omega

theorem iblk6_apply (t : Fin cfg0.N) (l : Fin 2048) (b : Fin 16) (hb : b.val = 1 + t.val / 4) :
    (iblk m c 6 t : Vec Ideal S1x1x2048 .f32) (ix3 0 0 l) = m ((c : Thread nD τ).loc main_arg3) (ix2 b ⟨10240 + l.val, by omega⟩) := by
  rw [← V_gate m c b l]
  unfold iblk
  rw [View.read_apply]
  show V m c main_v0 _ = _
  congr 1
  funext a
  apply Fin.ext
  have h0 : win0_6.index t 0 = 1 + t.val / 4 := (by decide +kernel : ∀ t : Fin grid0.N, win0_6.index t 0 = 1 + t.val / 4) t
  have h1 : win0_6.index t 1 = 0 := (by decide +kernel : ∀ t : Fin grid0.N, win0_6.index t 1 = 0) t
  have h2 : win0_6.index t 2 = 5 := (by decide +kernel : ∀ t : Fin grid0.N, win0_6.index t 2 = 5) t
  match a with
  | ⟨0, _⟩ => show win0_6.index t 0 * 1 + 1 * 0 = b.val; omega
  | ⟨1, _⟩ => show win0_6.index t 1 * 1 + 1 * 0 = 0; omega
  | ⟨2, _⟩ => show win0_6.index t 2 * 2048 + 1 * l.val = 10240 + l.val; omega

theorem iblk7_apply (t : Fin cfg0.N) (l : Fin 2048) :
    (iblk m c 7 t : Vec Ideal S1x2048 .f32) (ix2 0 l) = m ((c : Thread nD τ).loc main_arg4) (ix1 l) := by
  rw [← V_ln_g m c l]
  unfold iblk
  rw [View.read_apply]
  show V m c main_v1 _ = _
  congr 1
  funext a
  apply Fin.ext
  have h0 : win0_7.index t 0 = 0 := (by decide +kernel : ∀ t : Fin grid0.N, win0_7.index t 0 = 0) t
  have h1 : win0_7.index t 1 = 0 := (by decide +kernel : ∀ t : Fin grid0.N, win0_7.index t 1 = 0) t
  match a with
  | ⟨0, _⟩ => show win0_7.index t 0 * 1 + 1 * 0 = 0; omega
  | ⟨1, _⟩ => show win0_7.index t 1 * 2048 + 1 * l.val = l.val; omega

theorem iblk8_apply (t : Fin cfg0.N) (l : Fin 2048) :
    (iblk m c 8 t : Vec Ideal S1x2048 .f32) (ix2 0 l) = m ((c : Thread nD τ).loc main_arg5) (ix1 l) := by
  rw [← V_ln_b m c l]
  unfold iblk
  rw [View.read_apply]
  show V m c main_v2 _ = _
  congr 1
  funext a
  apply Fin.ext
  have h0 : win0_8.index t 0 = 0 := (by decide +kernel : ∀ t : Fin grid0.N, win0_8.index t 0 = 0) t
  have h1 : win0_8.index t 1 = 0 := (by decide +kernel : ∀ t : Fin grid0.N, win0_8.index t 1 = 0) t
  match a with
  | ⟨0, _⟩ => show win0_8.index t 0 * 1 + 1 * 0 = 0; omega
  | ⟨1, _⟩ => show win0_8.index t 1 * 2048 + 1 * l.val = l.val; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The block of point `t` at row `r`, column `l`, where the arguments of the two programs agree. -/
theorem out_apply (m' : RMem) (c' : Dev Cert.Reference5Ideal.nD)
    (a0 : m' (c'.tc.loc Cert.Reference5Ideal.main_arg0) = m ((c : Thread nD τ).loc main_arg0))
    (a1 : m' (c'.tc.loc Cert.Reference5Ideal.main_arg1) = m ((c : Thread nD τ).loc main_arg1))
    (a2 : m' (c'.tc.loc Cert.Reference5Ideal.main_arg2) = m ((c : Thread nD τ).loc main_arg2))
    (a3 : m' (c'.tc.loc Cert.Reference5Ideal.main_arg3) = m ((c : Thread nD τ).loc main_arg3))
    (a4 : m' (c'.tc.loc Cert.Reference5Ideal.main_arg4) = m ((c : Thread nD τ).loc main_arg4))
    (a5 : m' (c'.tc.loc Cert.Reference5Ideal.main_arg5) = m ((c : Thread nD τ).loc main_arg5))
    (t : Fin cfg0.N) (r : Fin 512) (l : Fin 2048) (R : Fin 16384) (hR : R.val = 512 * t.val + r.val) :
    out0_9 (iblk m c 0 t) (iblk m c 1 t) (iblk m c 2 t) (iblk m c 3 t) (iblk m c 4 t) (iblk m c 5 t) (iblk m c 6 t) (iblk m c 7 t) (iblk m c 8 t) (ix2 r l)
      = Cert.Reference5Ideal.Value.res_out0 m' c' (ix2 R l) := by
  have ht : t.val < 32 := t.isLt
  unfold out0_9
  rw [View.canon_unit_zero hz2]
  simp only [View.ld_unit_zero (S := S512x2048) hz2, View.ld_unit_zero (S := S512x1024) hz2, View.ld_unit_zero (S := S512x128) hz2,
    View.ld_unit_zero (S := S1x1x2048) hz3, View.ld_unit_zero (S := S1x2048) hz2]
  exact pay_eq m' c' _ _ _ _ _ _ _ _ _ r l R
    (fun j => (iblk0_apply m c t r j R hR).trans (congrFun a0.symm _))
    (fun j => (iblk1_apply m c t r j R hR).trans (congrFun a1.symm _))
    (fun j => (iblk2_apply m c t r j R hR).trans (congrFun a1.symm _))
    (fun j => (iblk3_apply m c t r j R hR).trans (congrFun a1.symm _))
    (fun j => (iblk4_apply m c t r j R hR).trans (congrFun a1.symm _))
    (fun j => (iblk5_apply m c t r j R hR).trans (congrFun a2.symm _))
    (fun j => (iblk6_apply m c t j _ (by dsimp only; omega)).trans (congrFun a3.symm _))
    (fun j => (iblk7_apply m c t j).trans (congrFun a4.symm _))
    (fun j => (iblk8_apply m c t j).trans (congrFun a5.symm _))

end Cert.Kernel5Ideal.Hand

namespace Cert.Proof

open Cert.Kernel5Ideal Cert.Kernel5Ideal.Gen

theorem frame_reference5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The kernel's result is the reference's. -/
theorem algebraic5 : Cert.algebraic_Kernel5Ideal_Reference5Ideal := by
  intro m ρ m' ρ' _ hagree
  refine ⟨fun c => (dats m 0 c).arrAt 9 cfg0.N, Cert.Kernel5Ideal.Value.run_blocks (F := Ideal) m ρ, ?_⟩
  refine (θ_run Cert.Reference5Ideal.defs _ _).mono (fun _ h c => ⟨(h c).1.trans ?_, (h c).2⟩)
    (Cert.Reference5Ideal.Value.run (F := Ideal) m' ρ')
  obtain ⟨a0, a1, a2, a3, a4, a5⟩ := hagree c
  funext i
  obtain ⟨R, l, rfl⟩ : ∃ (R : Fin 16384) (l : Fin 2048), i = ix2 R l := ⟨i 0, i 1, eq_ix2 i⟩
  have hR : R.val = 512 * (R.val / 512) + R.val % 512 := by omega
  have ht : R.val / 512 < cfg0.N := by show _ < 32; omega
  have e := congrFun (Cert.Kernel5Ideal.Value.blocks9 m c ⟨R.val / 512, ht⟩ (flush0_9 _)) (ix2 (⟨R.val % 512, by omega⟩ : Fin 512) l)
  rw [Cert.Kernel5Ideal.Value.flushed9 m c] at e
  refine (Cert.Kernel5Ideal.Hand.out_apply m c m' c a0 a1 a2 a3 a4 a5 ⟨R.val / 512, ht⟩ ⟨R.val % 512, by omega⟩ l R hR).symm.trans ?_
  refine e.symm.trans ?_
  rw [View.read_apply]
  show (dats m 0 c).arrAt 9 cfg0.N _ = _
  congr 1
  funext a
  apply Fin.ext
  have h0 : win0_9.index ⟨R.val / 512, ht⟩ 0 = R.val / 512 := (by decide +kernel : ∀ t : Fin grid0.N, win0_9.index t 0 = t.val) ⟨R.val / 512, ht⟩
  have h1 : win0_9.index ⟨R.val / 512, ht⟩ 1 = 0 := (by decide +kernel : ∀ t : Fin grid0.N, win0_9.index t 1 = 0) ⟨R.val / 512, ht⟩
  match a with
  | ⟨0, _⟩ => show win0_9.index ⟨R.val / 512, ht⟩ 0 * 512 + 1 * (R.val % 512) = R.val; omega
  | ⟨1, _⟩ => show win0_9.index ⟨R.val / 512, ht⟩ 1 * 2048 + 1 * l.val = l.val; omega

end Cert.Proof

end
-- ==== Proof.Fourier.lean ====
/-
  The Fourier call on the tokens being denoised: of each of the eight groups of 2048 rows, 512 columns of the projected rows
  are transformed along both axes and the real part kept, as products with tables of cosines and sines. The kernel runs 8
  groups times 8 blocks of 256 rows: at the first block of a group it multiplies the rows with the 512-point tables into a
  scratch, the cosine product above the sine product, which every block of the group then multiplies with its rows of the
  2048-point tables. The sum over the 4096 rows of the scratch is the reference's two sums over 2048.
-/
module

public import proofs.«01_k».proof.Defs
public import proofs.«01_k».proof.Proof.Gen.Kernel7Ideal.Frame
public import proofs.«01_k».proof.Proof.Gen.Reference7Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.Kernel7Ideal.Hand

open Cert.Kernel7Ideal Cert.Kernel7Ideal.Gen

/-- The divisor of a remainder, 1 in place of 0. -/
def dv (n : BitVec 32) : BitVec 32 := Scalar.select (IntOp.cmpi CmpIPredicate.eq n 0#32) 1#32 n

/-- `k * l` modulo `n`, with the sign of `n`, as integers of 32 bits. -/
def pmod (n : BitVec 32) (k l : ℕ) : BitVec 32 :=
  let r := IntOp.remsi ArithUnit.host (IntOp.muli (BitVec.ofNat 32 k) (BitVec.ofNat 32 l)) (dv n)
  Scalar.select
    (IntOp.andi (IntOp.cmpi CmpIPredicate.ne (IntOp.cmpi CmpIPredicate.slt r 0#32) (IntOp.cmpi CmpIPredicate.slt (dv n) 0#32))
      (IntOp.cmpi CmpIPredicate.ne r 0#32))
    (IntOp.addi r (dv n)) r

/-- The angle of entry `(k, l)` of the `n`-point tables, `w` the bits of `2π / n`. -/
def ang (n w : BitVec 32) (k l : ℕ) : EReal := FloatOps.sitofp (F := Ideal) FTy.f32 (pmod n k l) * Ideal.ofBits FTy.f32 w

/-- The angles along the 2048 rows of a group. -/
def angL (k l : ℕ) : EReal := ang 2048#32 994643931#32 k l

/-- The angles along the 512 columns. -/
def angC (k l : ℕ) : EReal := ang 512#32 1011421147#32 k l

/-- Row `k`, column `l` of group `B`, times the cosines along the columns. -/
def fc (X : S24576x12800.Idx → EReal) (B : Fin 8) (k : Fin 2048) (l : Fin 512) : EReal :=
  ∑ j : Fin 512, X (ix2 ⟨8192 + (B.val * 2048 + k.val), by omega⟩ ⟨5120 + j.val, by omega⟩) * Ideal.cos (angC j.val l.val)

/-- The same with the sines. -/
def fs (X : S24576x12800.Idx → EReal) (B : Fin 8) (k : Fin 2048) (l : Fin 512) : EReal :=
  ∑ j : Fin 512, X (ix2 ⟨8192 + (B.val * 2048 + k.val), by omega⟩ ⟨5120 + j.val, by omega⟩) * Ideal.sin (angC j.val l.val)

/-- Entry `(R, C)` of the result. -/
def want (X : S24576x12800.Idx → EReal) (R : Fin 16384) (C : Fin 512) : EReal :=
  (∑ k : Fin 2048, Ideal.cos (angL (R.val % 2048) k.val) * fc X ⟨R.val / 2048, by omega⟩ k C
    + ∑ k : Fin 2048, -Ideal.sin (angL (R.val % 2048) k.val) * fs X ⟨R.val / 2048, by omega⟩ k C)
    * Ideal.ofBits FTy.f32 981467136#32

abbrev RMem := (ℓ : Loc Cert.Reference7Ideal.nD Cert.Reference7Ideal.τ Cert.Reference7Ideal.sig) → Buf (Elt Ideal) ℓ

section
set_option maxRecDepth 1000000

theorem ref_apply (m' : RMem) (c' : Dev Cert.Reference7Ideal.nD) (R : Fin 16384) (C : Fin 512) :
    Cert.Reference7Ideal.Value.res_out0 m' c' (ix2 R C) = want (m' (c'.tc.loc Cert.Reference7Ideal.main_arg0)) R C := by
  unfold Cert.Reference7Ideal.Value.res_out0 Cert.Reference7Ideal.Value.res_main_v38
  clean_types
  pointwise
  unfold want
  refine congrArg (· * Ideal.ofBits FTy.f32 981467136#32) (congrArg₂ (· + ·) (Finset.sum_congr rfl fun k _ => ?_)
    (Finset.sum_congr rfl fun k _ => ?_))
  · exact mul_comm _ _
  · exact mul_comm _ _
end

variable (m : (ℓ : Loc nD τ sig) → Buf (Elt Ideal) ℓ) (c : Dev nD)

/-! ### The tables, as the host leaves them -/

section
set_option maxRecDepth 1000000

theorem V_cm_lo (k l : Fin 512) : V m c main_v28 (ix2 k (⟨l.val, by omega⟩ : Fin 1024)) = Ideal.cos (angC k.val l.val) := by
  unfold V hostOps0 hostOps0_1 hostOps0_2 hostOps0_3 hostOps0_4
  simp only [StableHlo.TRef.binary, StableHlo.TRef.nullary, StableHlo.TRef.ternary, StableHlo.TRef.unary, StableHlo.TRef.toBuf, StableHlo.TRef.ofBuf, cast_eq, List.flatten_cons, List.flatten_nil, List.append_nil, List.cons_append, List.nil_append]
  after_results_simp
  clean_types
  pointwise
  rfl

theorem V_cm_hi (k l : Fin 512) : V m c main_v28 (ix2 k (⟨512 + l.val, by omega⟩ : Fin 1024)) = Ideal.sin (angC k.val l.val) := by
  unfold V hostOps0 hostOps0_1 hostOps0_2 hostOps0_3 hostOps0_4
  simp only [StableHlo.TRef.binary, StableHlo.TRef.nullary, StableHlo.TRef.ternary, StableHlo.TRef.unary, StableHlo.TRef.toBuf, StableHlo.TRef.ofBuf, cast_eq, List.flatten_cons, List.flatten_nil, List.append_nil, List.cons_append, List.nil_append]
  after_results_simp
  clean_types
  pointwise
  rfl

theorem V_dl_lo (k l : Fin 2048) : V m c main_v26 (ix2 k (⟨l.val, by omega⟩ : Fin 4096)) = Ideal.cos (angL k.val l.val) := by
  unfold V hostOps0 hostOps0_1 hostOps0_2 hostOps0_3 hostOps0_4
  simp only [StableHlo.TRef.binary, StableHlo.TRef.nullary, StableHlo.TRef.ternary, StableHlo.TRef.unary, StableHlo.TRef.toBuf, StableHlo.TRef.ofBuf, cast_eq, List.flatten_cons, List.flatten_nil, List.append_nil, List.cons_append, List.nil_append]
  after_results_simp
  clean_types
  pointwise
  rfl

theorem V_dl_hi (k l : Fin 2048) : V m c main_v26 (ix2 k (⟨2048 + l.val, by omega⟩ : Fin 4096)) = -Ideal.sin (angL k.val l.val) := by
  unfold V hostOps0 hostOps0_1 hostOps0_2 hostOps0_3 hostOps0_4
  simp only [StableHlo.TRef.binary, StableHlo.TRef.nullary, StableHlo.TRef.ternary, StableHlo.TRef.unary, StableHlo.TRef.toBuf, StableHlo.TRef.ofBuf, cast_eq, List.flatten_cons, List.flatten_nil, List.append_nil, List.cons_append, List.nil_append]
  after_results_simp
  clean_types
  pointwise
  rfl
end

theorem pay4_apply (w : Vec Ideal S256x4096 .bf16) (h : Vec Ideal S4096x512 .bf16) (r : Fin 256) (l : Fin 512) :
    k0_pay4 (F := Ideal) w h (ix2 r l) = (∑ k, w (ix2 r k) * h (ix2 k l)) * Ideal.ofBits .f32 981467136#32 := by
  pointwise [k0_pay4]

theorem pay6_apply (u : Vec Ideal S256x512 .bf16) (w : Vec Ideal S512x1024 .bf16) (r : Fin 256) (l : Fin 512) :
    k0_pay6 (F := Ideal) u w (ix2 r l) = ∑ j, u (ix2 r j) * w (ix2 j ⟨l.val, by omega⟩) := by
  pointwise [k0_pay6, k0_pay5]

theorem pay7_apply (u : Vec Ideal S256x512 .bf16) (w : Vec Ideal S512x1024 .bf16) (r : Fin 256) (l : Fin 512) :
    k0_pay7 (F := Ideal) u w (ix2 r l) = ∑ j, u (ix2 r j) * w (ix2 j ⟨512 + l.val, by omega⟩) := by
  pointwise [k0_pay7, k0_pay5]

/-- The scratch of a group from its rows and the 512-point tables: the cosine product, then the sine product. -/
def stack (U : Vec Ideal S2048x512 .bf16) (W : Vec Ideal S512x1024 .bf16) : Vec Ideal S4096x512 .bf16 := fun y =>
  if h : (y 0).val < 2048 then
    ∑ j : Fin 512, U (ix2 (⟨(y 0).val, h⟩ : Fin 2048) j) * W (ix2 j (⟨(y 1).val, lt_trans (y 1).isLt (by decide)⟩ : Fin 1024))
  else
    ∑ j : Fin 512, U (ix2 (⟨(y 0).val - 2048, by have : (y 0).val < 4096 := (y 0).isLt; omega⟩ : Fin 2048) j)
      * W (ix2 j (⟨512 + (y 1).val, by have : (y 1).val < 512 := (y 1).isLt; omega⟩ : Fin 1024))

theorem hz2 : (![0, 0] : Fin 2 → Nat) = fun _ => 0 := funext fun a => by fin_cases a <;> rfl

theorem ld_rows (U : Vec Ideal S2048x512 .bf16) (o : ℕ) (inb : ∀ a, (![o, 0] : Fin 2 → ℕ) a + (![256, 512] : Fin 2 → ℕ) a ≤ S2048x512.size a)
    (r : Fin 256) (j : Fin 512) (R : Fin 2048) (hR : R.val = o + r.val) :
    View.ld (Val := Elt Ideal) (e' := .bf16) U (Rect.unit ![o, 0] ![256, 512] inb) (ix2 r j) = U (ix2 R j) := by
  show U _ = U _
  congr 1
  funext a
  apply Fin.ext
  match a with
  | ⟨0, _⟩ => show o + 1 * r.val = R.val; omega
  | ⟨1, _⟩ => show 0 + 1 * j.val = j.val; omega

theorem lo_piece (U : Vec Ideal S2048x512 .bf16) (W : Vec Ideal S512x1024 .bf16) (o : ℕ)
    (inb : ∀ a, (![o, 0] : Fin 2 → ℕ) a + (![256, 512] : Fin 2 → ℕ) a ≤ S2048x512.size a) (inb0 : ∀ a, (![0, 0] : Fin 2 → ℕ) a + (![512, 1024] : Fin 2 → ℕ) a ≤ S512x1024.size a)
    (inb' : ∀ a, (![o, 0] : Fin 2 → ℕ) a + (![256, 512] : Fin 2 → ℕ) a ≤ S4096x512.size a) (x : S256x512.Idx) :
    k0_pay6 (F := Ideal) (View.ld (Val := Elt Ideal) (e' := .bf16) U (Rect.unit ![o, 0] ![256, 512] inb)) (View.ld (Val := Elt Ideal) (e' := .bf16) W (Rect.unit ![0, 0] ![512, 1024] inb0)) x
      = stack U W ((Rect.unit ![o, 0] ![256, 512] inb' : Rect S4096x512).emb x) := by
  obtain ⟨r, l, rfl⟩ : ∃ (r : Fin 256) (l : Fin 512), x = ix2 r l := ⟨x 0, x 1, eq_ix2 x⟩
  have ho : o + 256 ≤ 2048 := inb 0
  rw [pay6_apply, View.ld_unit_zero (S := S512x1024) hz2]
  have e0 : ((Rect.unit (s := S4096x512) ![o, 0] ![256, 512] inb').emb (ix2 r l) 0).val = o + r.val := (by show o + 1 * r.val = _; omega)
  have e1 : ((Rect.unit (s := S4096x512) ![o, 0] ![256, 512] inb').emb (ix2 r l) 1).val = l.val := (by show 0 + 1 * l.val = _; omega)
  unfold stack
  rw [dif_pos (by rw [e0]; omega)]
  refine Finset.sum_congr rfl fun j _ => congrArg₂ (· * ·) (ld_rows U o inb r j _ e0) (congrArg W ?_)
  exact congrArg (ix2 j) (Fin.ext e1.symm)

theorem hi_piece (U : Vec Ideal S2048x512 .bf16) (W : Vec Ideal S512x1024 .bf16) (o o' : ℕ) (ho' : o' = 2048 + o)
    (inb : ∀ a, (![o, 0] : Fin 2 → ℕ) a + (![256, 512] : Fin 2 → ℕ) a ≤ S2048x512.size a) (inb0 : ∀ a, (![0, 0] : Fin 2 → ℕ) a + (![512, 1024] : Fin 2 → ℕ) a ≤ S512x1024.size a)
    (inb' : ∀ a, (![o', 0] : Fin 2 → ℕ) a + (![256, 512] : Fin 2 → ℕ) a ≤ S4096x512.size a) (x : S256x512.Idx) :
    k0_pay7 (F := Ideal) (View.ld (Val := Elt Ideal) (e' := .bf16) U (Rect.unit ![o, 0] ![256, 512] inb)) (View.ld (Val := Elt Ideal) (e' := .bf16) W (Rect.unit ![0, 0] ![512, 1024] inb0)) x
      = stack U W ((Rect.unit ![o', 0] ![256, 512] inb' : Rect S4096x512).emb x) := by
  obtain ⟨r, l, rfl⟩ : ∃ (r : Fin 256) (l : Fin 512), x = ix2 r l := ⟨x 0, x 1, eq_ix2 x⟩
  have ho : o + 256 ≤ 2048 := inb 0
  rw [pay7_apply, View.ld_unit_zero (S := S512x1024) hz2]
  have e0 : ((Rect.unit (s := S4096x512) ![o', 0] ![256, 512] inb').emb (ix2 r l) 0).val = o' + r.val := (by show o' + 1 * r.val = _; omega)
  have e1 : ((Rect.unit (s := S4096x512) ![o', 0] ![256, 512] inb').emb (ix2 r l) 1).val = l.val := (by show 0 + 1 * l.val = _; omega)
  unfold stack
  rw [dif_neg (by rw [e0]; omega)]
  refine Finset.sum_congr rfl fun j _ => congrArg₂ (· * ·) (ld_rows U o inb r j _ (by dsimp only; rw [e0]; omega)) (congrArg W ?_)
  exact congrArg (ix2 j) (Fin.ext (by show 512 + l.val = 512 + _; rw [e1]))

/-! ### What a point leaves in the scratch and in its output block -/

theorem scratch_A (t : Fin cfg0.N) (h0 : t.val % 8 = 0) :
    (outsAt0 m c t.val t.isLt).2 = stack (iblk m c 0 t) (iblk m c 1 t) := by
  rw [outsAt0_A m c t h0]
  dsimp only
  unfold sout0_A_0
  rw [View.read_writes_junk_eq_canon]
  funext y
  refine View.canon_apply_of_pieces _ _ ?_ y (scover0_A_0 c (grid0.coords t) _ _ _ _ _ _ _ _ _ _ _ _ _ _ y)
  unfold kernelRun0_A
  dsimp only
  sl_unfold_words
  simp only [View.readAt_eq_ld, Memref.IsWhole.read_unread, List.forall_mem_cons]
  refine ⟨?_, ?_, ?_, ?_, ?_, ?_, ?_, ?_, ?_, ?_, ?_, ?_, ?_, ?_, ?_, ?_, ?_⟩
  · exact fun x => hi_piece _ _ 1792 3840 rfl _ _ _ x
  · exact fun x => lo_piece _ _ 1792 _ _ _ x
  · exact fun x => hi_piece _ _ 1536 3584 rfl _ _ _ x
  · exact fun x => lo_piece _ _ 1536 _ _ _ x
  · exact fun x => hi_piece _ _ 1280 3328 rfl _ _ _ x
  · exact fun x => lo_piece _ _ 1280 _ _ _ x
  · exact fun x => hi_piece _ _ 1024 3072 rfl _ _ _ x
  · exact fun x => lo_piece _ _ 1024 _ _ _ x
  · exact fun x => hi_piece _ _ 768 2816 rfl _ _ _ x
  · exact fun x => lo_piece _ _ 768 _ _ _ x
  · exact fun x => hi_piece _ _ 512 2560 rfl _ _ _ x
  · exact fun x => lo_piece _ _ 512 _ _ _ x
  · exact fun x => hi_piece _ _ 256 2304 rfl _ _ _ x
  · exact fun x => lo_piece _ _ 256 _ _ _ x
  · exact fun x => hi_piece _ _ 0 2048 rfl _ _ _ x
  · exact fun x => lo_piece _ _ 0 _ _ _ x
  · exact fun p hp => absurd hp (List.not_mem_nil)

theorem out_A (t : Fin cfg0.N) (h0 : t.val % 8 = 0) :
    (outsAt0 m c t.val t.isLt).1 = k0_pay4 (F := Ideal) (iblk m c 2 t) (outsAt0 m c t.val t.isLt).2 := by
  rw [outsAt0_A m c t h0]
  dsimp only
  unfold out0_A_3 sout0_A_0
  rw [View.read_writes_junk_eq_canon, View.read_writes_junk_eq_canon]
  unfold kernelRun0_A
  dsimp only
  sl_unfold_words
  rw [View.canon_unit_zero (S := S256x512) hz2]
  simp only [View.readCov_eq_canon', View.readAt_eq_ld, Memref.IsWhole.read_unread, View.ld_unit_zero (S := S256x4096) hz2]
  refine congrArg (k0_pay4 (F := Ideal) (iblk m c 2 t)) ?_
  funext y
  congr 1
  funext a
  apply Fin.ext
  match a with
  | ⟨0, _⟩ => show 0 + 1 * (y 0).val = (y 0).val; omega
  | ⟨1, _⟩ => show 0 + 1 * (y 1).val = (y 1).val; omega

theorem scratch_B (t : Fin cfg0.N) (h0 : ¬ t.val % 8 = 0) :
    (outsAt0 m c t.val t.isLt).2 = (outsAt0 m c (t.val - 1) (Nat.lt_of_le_of_lt (Nat.sub_le _ _) t.isLt)).2 := by
  rw [outsAt0_B m c t h0]
  rfl

theorem out_B (t : Fin cfg0.N) (h0 : ¬ t.val % 8 = 0) :
    (outsAt0 m c t.val t.isLt).1 = k0_pay4 (F := Ideal) (iblk m c 2 t) (outsAt0 m c t.val t.isLt).2 := by
  rw [scratch_B m c t h0, outsAt0_B m c t h0]
  dsimp only
  unfold out0_B_3
  rw [View.read_writes_junk_eq_canon]
  unfold kernelRun0_B
  dsimp only
  sl_unfold_words
  rw [View.canon_unit_zero (S := S256x512) hz2]
  simp only [View.readAt_eq_ld, Memref.IsWhole.read_unread, View.ld_unit_zero (S := S256x4096) hz2, View.ld_unit_zero (S := S4096x512) hz2]
  exact congrArg (k0_pay4 (F := Ideal) (iblk m c 2 t)) ((Memref.isWhole_whole cc0_scratch0).read_unread _)

/-! ### The blocks a point reads -/

theorem iblk0_apply (t : Fin cfg0.N) (k : Fin 2048) (j : Fin 512) (B : Fin 8) (hB : B.val = t.val / 8) :
    (iblk m c 0 t : Vec Ideal S2048x512 .bf16) (ix2 k j) = m ((c : Thread nD τ).loc main_arg0)
      (ix2 (⟨8192 + (B.val * 2048 + k.val), by omega⟩ : Fin 24576) (⟨5120 + j.val, by omega⟩ : Fin 12800)) := by
  rw [← V_main_arg0 m c]
  unfold iblk
  rw [View.read_apply]
  show V m c main_arg0 _ = _
  congr 1
  funext a
  apply Fin.ext
  have h0 : win0_0.index t 0 = 4 + t.val / 8 := (by decide +kernel : ∀ t : Fin grid0.N, win0_0.index t 0 = 4 + t.val / 8) t
  have h1 : win0_0.index t 1 = 10 := (by decide +kernel : ∀ t : Fin grid0.N, win0_0.index t 1 = 10) t
  match a with
  | ⟨0, _⟩ => show win0_0.index t 0 * 2048 + 1 * k.val = 8192 + (B.val * 2048 + k.val); omega
  | ⟨1, _⟩ => show win0_0.index t 1 * 512 + 1 * j.val = 5120 + j.val; omega

theorem iblk1_apply (t : Fin cfg0.N) (k : Fin 512) (l : Fin 1024) :
    (iblk m c 1 t : Vec Ideal S512x1024 .bf16) (ix2 k l) = V m c main_v28 (ix2 k l) := by
  unfold iblk
  rw [View.read_apply]
  show V m c main_v28 _ = _
  congr 1
  funext a
  apply Fin.ext
  have h0 : win0_1.index t 0 = 0 := (by decide +kernel : ∀ t : Fin grid0.N, win0_1.index t 0 = 0) t
  have h1 : win0_1.index t 1 = 0 := (by decide +kernel : ∀ t : Fin grid0.N, win0_1.index t 1 = 0) t
  match a with
  | ⟨0, _⟩ => show win0_1.index t 0 * 512 + 1 * k.val = k.val; omega
  | ⟨1, _⟩ => show win0_1.index t 1 * 1024 + 1 * l.val = l.val; omega

theorem iblk2_apply (t : Fin cfg0.N) (r : Fin 256) (l : Fin 4096) (K : Fin 2048) (hK : K.val = 256 * (t.val % 8) + r.val) :
    (iblk m c 2 t : Vec Ideal S256x4096 .bf16) (ix2 r l) = V m c main_v26 (ix2 K l) := by
  unfold iblk
  rw [View.read_apply]
  show V m c main_v26 _ = _
  congr 1
  funext a
  apply Fin.ext
  have h0 : win0_2.index t 0 = t.val % 8 := (by decide +kernel : ∀ t : Fin grid0.N, win0_2.index t 0 = t.val % 8) t
  have h1 : win0_2.index t 1 = 0 := (by decide +kernel : ∀ t : Fin grid0.N, win0_2.index t 1 = 0) t
  match a with
  | ⟨0, _⟩ => show win0_2.index t 0 * 256 + 1 * r.val = K.val; omega
  | ⟨1, _⟩ => show win0_2.index t 1 * 4096 + 1 * l.val = l.val; omega

/-! ### The scratch and the result, entry by entry -/

theorem stack_lo (t : Fin cfg0.N) (B : Fin 8) (hB : B.val = t.val / 8) (k : Fin 2048) (l : Fin 512) :
    stack (iblk m c 0 t) (iblk m c 1 t) (ix2 (⟨k.val, by omega⟩ : Fin 4096) l) = fc (m ((c : Thread nD τ).loc main_arg0)) B k l := by
  unfold stack fc
  refine (dif_pos (show k.val < 2048 from k.isLt)).trans ?_
  exact Finset.sum_congr rfl fun j _ => congrArg₂ (· * ·) (iblk0_apply m c t k j B hB) ((iblk1_apply m c t j _).trans (V_cm_lo m c j l))

theorem stack_hi (t : Fin cfg0.N) (B : Fin 8) (hB : B.val = t.val / 8) (k : Fin 2048) (l : Fin 512) :
    stack (iblk m c 0 t) (iblk m c 1 t) (ix2 (⟨2048 + k.val, by omega⟩ : Fin 4096) l) = fs (m ((c : Thread nD τ).loc main_arg0)) B k l := by
  unfold stack fs
  refine (dif_neg (show ¬ 2048 + k.val < 2048 by omega)).trans ?_
  refine Finset.sum_congr rfl fun j _ => congrArg₂ (· * ·) ?_ ((iblk1_apply m c t j _).trans (V_cm_hi m c j l))
  refine Eq.trans ?_ (iblk0_apply m c t k j B hB)
  exact congrArg (fun z => (iblk m c 0 t : Vec Ideal S2048x512 .bf16) (ix2 z j)) (Fin.ext (Nat.add_sub_cancel_left 2048 k.val))

/-- After every point the scratch holds the two products of the point's group. -/
theorem scratch_apply (n : ℕ) (hn : n < cfg0.N) (B : Fin 8) (hB : B.val = n / 8) (k : Fin 2048) (l : Fin 512) :
    (outsAt0 m c n hn).2 (ix2 (⟨k.val, by omega⟩ : Fin 4096) l) = fc (m ((c : Thread nD τ).loc main_arg0)) B k l
      ∧ (outsAt0 m c n hn).2 (ix2 (⟨2048 + k.val, by omega⟩ : Fin 4096) l) = fs (m ((c : Thread nD τ).loc main_arg0)) B k l := by
  induction n with
  | zero =>
    rw [scratch_A m c ⟨0, hn⟩ rfl]
    exact ⟨stack_lo m c ⟨0, hn⟩ B hB k l, stack_hi m c ⟨0, hn⟩ B hB k l⟩
  | succ n ih =>
    by_cases h0 : (n + 1) % 8 = 0
    · rw [scratch_A m c ⟨n + 1, hn⟩ h0]
      exact ⟨stack_lo m c ⟨n + 1, hn⟩ B hB k l, stack_hi m c ⟨n + 1, hn⟩ B hB k l⟩
    · rw [scratch_B m c ⟨n + 1, hn⟩ h0]
      exact ih (Nat.lt_of_succ_lt hn) (by omega)

/-- A sum over 4096 is the sums over its halves. -/
theorem sum_halves (f : Fin 4096 → EReal) :
    ∑ k, f k = ∑ k : Fin 2048, f ⟨k.val, by omega⟩ + ∑ k : Fin 2048, f ⟨2048 + k.val, by omega⟩ :=
  Fin.sum_univ_add (a := 2048) (b := 2048) f

theorem out_apply (t : Fin cfg0.N) (r : Fin 256) (C : Fin 512) (R : Fin 16384) (hR : R.val = 256 * t.val + r.val) :
    (outsAt0 m c t.val t.isLt).1 (ix2 r C) = want (m ((c : Thread nD τ).loc main_arg0)) R C := by
  have e : (outsAt0 m c t.val t.isLt).1 = k0_pay4 (F := Ideal) (iblk m c 2 t) (outsAt0 m c t.val t.isLt).2 := by
    by_cases h0 : t.val % 8 = 0
    · exact out_A m c t h0
    · exact out_B m c t h0
  have hB : R.val / 2048 = t.val / 8 := by omega
  have hK : R.val % 2048 = 256 * (t.val % 8) + r.val := by omega
  have hs := fun k => scratch_apply m c t.val t.isLt ⟨R.val / 2048, by omega⟩ hB k C
  refine (congrFun e _).trans ((pay4_apply _ _ r C).trans ?_)
  rw [sum_halves]
  unfold want
  refine congrArg (· * Ideal.ofBits FTy.f32 981467136#32) (congrArg₂ (· + ·) (Finset.sum_congr rfl fun k _ => ?_)
    (Finset.sum_congr rfl fun k _ => ?_))
  · exact congrArg₂ (· * ·) ((iblk2_apply m c t r _ ⟨R.val % 2048, by omega⟩ hK).trans (V_dl_lo m c ⟨R.val % 2048, by omega⟩ k)) (hs k).1
  · exact congrArg₂ (· * ·) ((iblk2_apply m c t r _ ⟨R.val % 2048, by omega⟩ hK).trans (V_dl_hi m c ⟨R.val % 2048, by omega⟩ k)) (hs k).2

theorem idx3 (t : Fin cfg0.N) : win0_3.index t 0 = t.val ∧ win0_3.index t 1 = 0 :=
  (by decide +kernel : ∀ t : Fin grid0.N, win0_3.index t 0 = t.val ∧ win0_3.index t 1 = 0) t

/-- Different points write different blocks of the result. -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (Fin.ext (by
    have e0 : win0_3.index t 0 = win0_3.index t' 0 := congrFun h 0
    rw [(idx3 t).1, (idx3 t').1] at e0
    exact e0))

/-- What the run leaves in the result, at row `R`, column `C`. -/
theorem final_apply (R : Fin 16384) (C : Fin 512) :
    (dats m 0 c).arrAt 3 cfg0.N (ix2 R C) = want (m ((c : Thread nD τ).loc main_arg0)) R C := by
  have ht : R.val / 256 < cfg0.N := lt_of_lt_of_eq (by omega : _ < 64) (show cfg0.N = 64 from N_0).symm
  have hx := out_apply m c ⟨_, ht⟩ (⟨R.val % 256, by omega⟩ : Fin 256) C R (by dsimp only; omega)
  refine Eq.trans ?_ hx
  have e := congrFun ((dats m 0 c).read_blk_arrAt_eq_flushed 3 disjoint3 cfg0.N ⟨_, ht⟩ ht (flush0_3 _))
    (ix2 (⟨R.val % 256, by omega⟩ : Fin 256) C)
  refine Eq.trans ?_ (e.trans ?_)
  · rw [View.read_apply]
    show _ = (dats m 0 c).arrAt 3 cfg0.N _
    congr 1
    funext a
    apply Fin.ext
    obtain ⟨h0, h1⟩ := idx3 ⟨_, ht⟩
    dsimp only at h0 h1
    match a with
    | ⟨0, _⟩ => show R.val = win0_3.index ⟨_, ht⟩ 0 * 256 + 1 * (R.val % 256); omega
    | ⟨1, _⟩ => show C.val = win0_3.index ⟨_, ht⟩ 1 * 512 + 1 * C.val; omega
  · show (cfg0.win 3).cut (grid0.coords ⟨_, ht⟩) ((dats m 0 c).after 3 ⟨_, ht⟩) _ = _
    rw [after0_3]
    rfl

/-- The run, its result named and its argument as launched. -/
theorem run_named (ρ : Dev nD → PrngReg) : θ_run defs (onTc (τ := τ) (main (F := Ideal))) ⟨m, fun _ => 0, ρ⟩ fun r => ∀ c : Dev nD,
    r.2.mem ((c : Thread nD τ).loc main_v29) = (dats m 0 c).arrAt 3 cfg0.N
      ∧ r.2.mem ((c : Thread nD τ).loc main_arg0) = m ((c : Thread nD τ).loc main_arg0) :=
  (θ_run defs _ _).mono (fun r h c => ⟨(h c).1 3,
      ((h c).1 0).trans (((dats m 0 c).arrAt_in 0 rfl _).trans ((A_eq m c 0).trans (V_main_arg0 m c)))⟩)
    (run_main m ρ)

end Cert.Kernel7Ideal.Hand

namespace Cert.Proof

open Cert.Kernel7Ideal Cert.Kernel7Ideal.Gen

theorem frame_reference7 : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- The kernel's result is the reference's. -/
theorem algebraic7 : Cert.algebraic_Kernel7Ideal_Reference7Ideal := by
  intro m ρ m' ρ' _ hagree
  refine ⟨fun c => (dats m 0 c).arrAt 3 cfg0.N, Cert.Kernel7Ideal.Hand.run_named m ρ, ?_⟩
  refine (θ_run Cert.Reference7Ideal.defs _ _).mono (fun _ h c => ⟨(h c).1.trans ?_, (h c).2⟩)
    (Cert.Reference7Ideal.Value.run (F := Ideal) m' ρ')
  have a0 := hagree c
  funext i
  obtain ⟨R, C, rfl⟩ : ∃ (R : Fin 16384) (C : Fin 512), i = ix2 R C := ⟨i 0, i 1, eq_ix2 i⟩
  refine (Cert.Kernel7Ideal.Hand.ref_apply m' c R C).trans ?_
  rw [a0]
  exact (Cert.Kernel7Ideal.Hand.final_apply m c R C).symm

end Cert.Proof

end
-- ==== Proof.FourierP.lean ====
/-
  The Fourier call on the context tokens: the same transform as in Fourier.lean for 32 groups of 256 rows. A group is one
  point, so every point fills the scratch and reads it.
-/
module

public import proofs.«01_k».proof.Defs
public import proofs.«01_k».proof.Proof.Gen.Kernel8Ideal.Frame
public import proofs.«01_k».proof.Proof.Gen.Reference8Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.Kernel8Ideal.Hand

open Cert.Kernel8Ideal Cert.Kernel8Ideal.Gen

/-- The divisor of a remainder, 1 in place of 0. -/
def dv (n : BitVec 32) : BitVec 32 := Scalar.select (IntOp.cmpi CmpIPredicate.eq n 0#32) 1#32 n

/-- `k * l` modulo `n`, with the sign of `n`, as integers of 32 bits. -/
def pmod (n : BitVec 32) (k l : ℕ) : BitVec 32 :=
  let r := IntOp.remsi ArithUnit.host (IntOp.muli (BitVec.ofNat 32 k) (BitVec.ofNat 32 l)) (dv n)
  Scalar.select
    (IntOp.andi (IntOp.cmpi CmpIPredicate.ne (IntOp.cmpi CmpIPredicate.slt r 0#32) (IntOp.cmpi CmpIPredicate.slt (dv n) 0#32))
      (IntOp.cmpi CmpIPredicate.ne r 0#32))
    (IntOp.addi r (dv n)) r

/-- The angle of entry `(k, l)` of the `n`-point tables, `w` the bits of `2π / n`. -/
def ang (n w : BitVec 32) (k l : ℕ) : EReal := FloatOps.sitofp (F := Ideal) FTy.f32 (pmod n k l) * Ideal.ofBits FTy.f32 w

/-- The angles along the 256 rows of a group. -/
def angL (k l : ℕ) : EReal := ang 256#32 1019809755#32 k l

/-- The angles along the 512 columns. -/
def angC (k l : ℕ) : EReal := ang 512#32 1011421147#32 k l

/-- Row `k`, column `l` of group `B`, times the cosines along the columns. -/
def fc (X : S24576x12800.Idx → EReal) (B : Fin 32) (k : Fin 256) (l : Fin 512) : EReal :=
  ∑ j : Fin 512, X (ix2 ⟨B.val * 256 + k.val, by omega⟩ ⟨5120 + j.val, by omega⟩) * Ideal.cos (angC j.val l.val)

/-- The same with the sines. -/
def fs (X : S24576x12800.Idx → EReal) (B : Fin 32) (k : Fin 256) (l : Fin 512) : EReal :=
  ∑ j : Fin 512, X (ix2 ⟨B.val * 256 + k.val, by omega⟩ ⟨5120 + j.val, by omega⟩) * Ideal.sin (angC j.val l.val)

/-- Entry `(R, C)` of the result. -/
def want (X : S24576x12800.Idx → EReal) (R : Fin 8192) (C : Fin 512) : EReal :=
  (∑ k : Fin 256, Ideal.cos (angL (R.val % 256) k.val) * fc X ⟨R.val / 256, by omega⟩ k C
    + ∑ k : Fin 256, -Ideal.sin (angL (R.val % 256) k.val) * fs X ⟨R.val / 256, by omega⟩ k C)
    * Ideal.ofBits FTy.f32 993330419#32

abbrev RMem := (ℓ : Loc Cert.Reference8Ideal.nD Cert.Reference8Ideal.τ Cert.Reference8Ideal.sig) → Buf (Elt Ideal) ℓ

section
set_option maxRecDepth 1000000

theorem ref_apply (m' : RMem) (c' : Dev Cert.Reference8Ideal.nD) (R : Fin 8192) (C : Fin 512) :
    Cert.Reference8Ideal.Value.res_out0 m' c' (ix2 R C) = want (m' (c'.tc.loc Cert.Reference8Ideal.main_arg0)) R C := by
  unfold Cert.Reference8Ideal.Value.res_out0 Cert.Reference8Ideal.Value.res_main_v38
  clean_types
  pointwise
  unfold want
  refine congrArg (· * Ideal.ofBits FTy.f32 993330419#32) (congrArg₂ (· + ·) (Finset.sum_congr rfl fun k _ => ?_)
    (Finset.sum_congr rfl fun k _ => ?_))
  · exact mul_comm _ _
  · exact mul_comm _ _
end

variable (m : (ℓ : Loc nD τ sig) → Buf (Elt Ideal) ℓ) (c : Dev nD)

/-! ### The tables, as the host leaves them -/

section
set_option maxRecDepth 1000000

theorem V_cm_lo (k l : Fin 512) : V m c main_v28 (ix2 k (⟨l.val, by omega⟩ : Fin 1024)) = Ideal.cos (angC k.val l.val) := by
  unfold V hostOps0 hostOps0_1 hostOps0_2 hostOps0_3 hostOps0_4
  simp only [StableHlo.TRef.binary, StableHlo.TRef.nullary, StableHlo.TRef.ternary, StableHlo.TRef.unary, StableHlo.TRef.toBuf, StableHlo.TRef.ofBuf, cast_eq, List.flatten_cons, List.flatten_nil, List.append_nil, List.cons_append, List.nil_append]
  after_results_simp
  clean_types
  pointwise
  rfl

theorem V_cm_hi (k l : Fin 512) : V m c main_v28 (ix2 k (⟨512 + l.val, by omega⟩ : Fin 1024)) = Ideal.sin (angC k.val l.val) := by
  unfold V hostOps0 hostOps0_1 hostOps0_2 hostOps0_3 hostOps0_4
  simp only [StableHlo.TRef.binary, StableHlo.TRef.nullary, StableHlo.TRef.ternary, StableHlo.TRef.unary, StableHlo.TRef.toBuf, StableHlo.TRef.ofBuf, cast_eq, List.flatten_cons, List.flatten_nil, List.append_nil, List.cons_append, List.nil_append]
  after_results_simp
  clean_types
  pointwise
  rfl

theorem V_dl_lo (k l : Fin 256) : V m c main_v26 (ix2 k (⟨l.val, by omega⟩ : Fin 512)) = Ideal.cos (angL k.val l.val) := by
  unfold V hostOps0 hostOps0_1 hostOps0_2 hostOps0_3 hostOps0_4
  simp only [StableHlo.TRef.binary, StableHlo.TRef.nullary, StableHlo.TRef.ternary, StableHlo.TRef.unary, StableHlo.TRef.toBuf, StableHlo.TRef.ofBuf, cast_eq, List.flatten_cons, List.flatten_nil, List.append_nil, List.cons_append, List.nil_append]
  after_results_simp
  clean_types
  pointwise
  rfl

theorem V_dl_hi (k l : Fin 256) : V m c main_v26 (ix2 k (⟨256 + l.val, by omega⟩ : Fin 512)) = -Ideal.sin (angL k.val l.val) := by
  unfold V hostOps0 hostOps0_1 hostOps0_2 hostOps0_3 hostOps0_4
  simp only [StableHlo.TRef.binary, StableHlo.TRef.nullary, StableHlo.TRef.ternary, StableHlo.TRef.unary, StableHlo.TRef.toBuf, StableHlo.TRef.ofBuf, cast_eq, List.flatten_cons, List.flatten_nil, List.append_nil, List.cons_append, List.nil_append]
  after_results_simp
  clean_types
  pointwise
  rfl
end

theorem pay4_apply (w : Vec Ideal S256x512 .bf16) (h : Vec Ideal S512x512 .bf16) (r : Fin 256) (l : Fin 512) :
    k0_pay4 (F := Ideal) w h (ix2 r l) = (∑ k, w (ix2 r k) * h (ix2 k l)) * Ideal.ofBits .f32 993330419#32 := by
  pointwise [k0_pay4]

theorem pay2_apply (u : Vec Ideal S256x512 .bf16) (w : Vec Ideal S512x1024 .bf16) (r : Fin 256) (l : Fin 512) :
    k0_pay2 (F := Ideal) u w (ix2 r l) = ∑ j, u (ix2 r j) * w (ix2 j ⟨l.val, by omega⟩) := by
  pointwise [k0_pay2, k0_pay1]

theorem pay3_apply (u : Vec Ideal S256x512 .bf16) (w : Vec Ideal S512x1024 .bf16) (r : Fin 256) (l : Fin 512) :
    k0_pay3 (F := Ideal) u w (ix2 r l) = ∑ j, u (ix2 r j) * w (ix2 j ⟨512 + l.val, by omega⟩) := by
  pointwise [k0_pay3, k0_pay1]

/-- The scratch of a group from its rows and the 512-point tables: the cosine product, then the sine product. -/
def stack (U : Vec Ideal S256x512 .bf16) (W : Vec Ideal S512x1024 .bf16) : Vec Ideal S512x512 .bf16 := fun y =>
  if h : (y 0).val < 256 then
    ∑ j : Fin 512, U (ix2 (⟨(y 0).val, h⟩ : Fin 256) j) * W (ix2 j (⟨(y 1).val, lt_trans (y 1).isLt (by decide)⟩ : Fin 1024))
  else
    ∑ j : Fin 512, U (ix2 (⟨(y 0).val - 256, by have : (y 0).val < 512 := (y 0).isLt; omega⟩ : Fin 256) j)
      * W (ix2 j (⟨512 + (y 1).val, by have : (y 1).val < 512 := (y 1).isLt; omega⟩ : Fin 1024))

theorem hz2 : (![0, 0] : Fin 2 → Nat) = fun _ => 0 := funext fun a => by fin_cases a <;> rfl

theorem ld_rows (U : Vec Ideal S256x512 .bf16) (o : ℕ) (inb : ∀ a, (![o, 0] : Fin 2 → ℕ) a + (![256, 512] : Fin 2 → ℕ) a ≤ S256x512.size a)
    (r : Fin 256) (j : Fin 512) (R : Fin 256) (hR : R.val = o + r.val) :
    View.ld (Val := Elt Ideal) (e' := .bf16) U (Rect.unit ![o, 0] ![256, 512] inb) (ix2 r j) = U (ix2 R j) := by
  show U _ = U _
  congr 1
  funext a
  apply Fin.ext
  match a with
  | ⟨0, _⟩ => show o + 1 * r.val = R.val; omega
  | ⟨1, _⟩ => show 0 + 1 * j.val = j.val; omega

theorem lo_piece (U : Vec Ideal S256x512 .bf16) (W : Vec Ideal S512x1024 .bf16) (o : ℕ)
    (inb : ∀ a, (![o, 0] : Fin 2 → ℕ) a + (![256, 512] : Fin 2 → ℕ) a ≤ S256x512.size a) (inb0 : ∀ a, (![0, 0] : Fin 2 → ℕ) a + (![512, 1024] : Fin 2 → ℕ) a ≤ S512x1024.size a)
    (inb' : ∀ a, (![o, 0] : Fin 2 → ℕ) a + (![256, 512] : Fin 2 → ℕ) a ≤ S512x512.size a) (x : S256x512.Idx) :
    k0_pay2 (F := Ideal) (View.ld (Val := Elt Ideal) (e' := .bf16) U (Rect.unit ![o, 0] ![256, 512] inb)) (View.ld (Val := Elt Ideal) (e' := .bf16) W (Rect.unit ![0, 0] ![512, 1024] inb0)) x
      = stack U W ((Rect.unit ![o, 0] ![256, 512] inb' : Rect S512x512).emb x) := by
  obtain ⟨r, l, rfl⟩ : ∃ (r : Fin 256) (l : Fin 512), x = ix2 r l := ⟨x 0, x 1, eq_ix2 x⟩
  have ho : o + 256 ≤ 256 := inb 0
  rw [pay2_apply, View.ld_unit_zero (S := S512x1024) hz2]
  have e0 : ((Rect.unit (s := S512x512) ![o, 0] ![256, 512] inb').emb (ix2 r l) 0).val = o + r.val := (by show o + 1 * r.val = _; omega)
  have e1 : ((Rect.unit (s := S512x512) ![o, 0] ![256, 512] inb').emb (ix2 r l) 1).val = l.val := (by show 0 + 1 * l.val = _; omega)
  unfold stack
  rw [dif_pos (by rw [e0]; omega)]
  refine Finset.sum_congr rfl fun j _ => congrArg₂ (· * ·) (ld_rows U o inb r j _ e0) (congrArg W ?_)
  exact congrArg (ix2 j) (Fin.ext e1.symm)

theorem hi_piece (U : Vec Ideal S256x512 .bf16) (W : Vec Ideal S512x1024 .bf16) (o o' : ℕ) (ho' : o' = 256 + o)
    (inb : ∀ a, (![o, 0] : Fin 2 → ℕ) a + (![256, 512] : Fin 2 → ℕ) a ≤ S256x512.size a) (inb0 : ∀ a, (![0, 0] : Fin 2 → ℕ) a + (![512, 1024] : Fin 2 → ℕ) a ≤ S512x1024.size a)
    (inb' : ∀ a, (![o', 0] : Fin 2 → ℕ) a + (![256, 512] : Fin 2 → ℕ) a ≤ S512x512.size a) (x : S256x512.Idx) :
    k0_pay3 (F := Ideal) (View.ld (Val := Elt Ideal) (e' := .bf16) U (Rect.unit ![o, 0] ![256, 512] inb)) (View.ld (Val := Elt Ideal) (e' := .bf16) W (Rect.unit ![0, 0] ![512, 1024] inb0)) x
      = stack U W ((Rect.unit ![o', 0] ![256, 512] inb' : Rect S512x512).emb x) := by
  obtain ⟨r, l, rfl⟩ : ∃ (r : Fin 256) (l : Fin 512), x = ix2 r l := ⟨x 0, x 1, eq_ix2 x⟩
  have ho : o + 256 ≤ 256 := inb 0
  rw [pay3_apply, View.ld_unit_zero (S := S512x1024) hz2]
  have e0 : ((Rect.unit (s := S512x512) ![o', 0] ![256, 512] inb').emb (ix2 r l) 0).val = o' + r.val := (by show o' + 1 * r.val = _; omega)
  have e1 : ((Rect.unit (s := S512x512) ![o', 0] ![256, 512] inb').emb (ix2 r l) 1).val = l.val := (by show 0 + 1 * l.val = _; omega)
  unfold stack
  rw [dif_neg (by rw [e0]; omega)]
  refine Finset.sum_congr rfl fun j _ => congrArg₂ (· * ·) (ld_rows U o inb r j _ (by dsimp only; rw [e0]; omega)) (congrArg W ?_)
  exact congrArg (ix2 j) (Fin.ext (by show 512 + l.val = 512 + _; rw [e1]))

/-! ### What a point leaves in its output block -/

theorem out_A (t : Fin cfg0.N) :
    outsAt0 m c t = k0_pay4 (F := Ideal) (iblk m c 2 t) (stack (iblk m c 0 t) (iblk m c 1 t)) := by
  unfold outsAt0 out0_A_3
  rw [View.read_writes_junk_eq_canon]
  unfold kernelRun0_A
  dsimp only
  sl_unfold_words
  rw [View.canon_unit_zero (S := S256x512) hz2]
  rw [View.readCov_eq_canon']
  simp only [View.readAt_eq_ld, Memref.IsWhole.read_unread]
  rw [View.ld_unit_zero (S := S256x512) hz2 _ (iblk m c 2 t : Vec Ideal S256x512 .bf16)]
  refine congrArg (k0_pay4 (F := Ideal) (iblk m c 2 t)) ?_
  funext y
  obtain ⟨k, l, rfl⟩ : ∃ (k l : Fin 512), y = ix2 k l := ⟨y 0, y 1, eq_ix2 y⟩
  have e : (Rect.unit ![0, 0] ![512, 512] inb_S512x512_S512x512_0_0 : Rect S512x512).toLoadRect.idx (ix2 k l) = ix2 k l := by
    funext a
    apply Fin.ext
    match a with
    | ⟨0, _⟩ => show 0 + 1 * k.val = k.val; omega
    | ⟨1, _⟩ => show 0 + 1 * l.val = l.val; omega
  refine (congrArg _ e).trans ?_
  refine View.canon_apply_of_pieces _ _ ?_ _ ?_
  · simp only [List.forall_mem_cons]
    refine ⟨?_, ?_, ?_⟩
    · exact fun x => hi_piece _ _ 0 256 rfl _ _ _ x
    · exact fun x => lo_piece _ _ 0 _ _ _ x
    · exact fun p hp => absurd hp (List.not_mem_nil)
  · exact View.cover_of_tiledL (s := S512x512) _ (S256x512.size : Fin 2 → ℕ) (by sl_kernel_rfl) _

/-! ### The blocks a point reads -/

theorem iblk0_apply (t : Fin cfg0.N) (k : Fin 256) (j : Fin 512) (B : Fin 32) (hB : B.val = t.val) :
    (iblk m c 0 t : Vec Ideal S256x512 .bf16) (ix2 k j) = m ((c : Thread nD τ).loc main_arg0)
      (ix2 (⟨B.val * 256 + k.val, by omega⟩ : Fin 24576) (⟨5120 + j.val, by omega⟩ : Fin 12800)) := by
  rw [← V_main_arg0 m c]
  unfold iblk
  rw [View.read_apply]
  show V m c main_arg0 _ = _
  congr 1
  funext a
  apply Fin.ext
  have h0 : win0_0.index t 0 = t.val := (by decide +kernel : ∀ t : Fin grid0.N, win0_0.index t 0 = t.val) t
  have h1 : win0_0.index t 1 = 10 := (by decide +kernel : ∀ t : Fin grid0.N, win0_0.index t 1 = 10) t
  match a with
  | ⟨0, _⟩ => show win0_0.index t 0 * 256 + 1 * k.val = B.val * 256 + k.val; omega
  | ⟨1, _⟩ => show win0_0.index t 1 * 512 + 1 * j.val = 5120 + j.val; omega

theorem iblk1_apply (t : Fin cfg0.N) (k : Fin 512) (l : Fin 1024) :
    (iblk m c 1 t : Vec Ideal S512x1024 .bf16) (ix2 k l) = V m c main_v28 (ix2 k l) := by
  unfold iblk
  rw [View.read_apply]
  show V m c main_v28 _ = _
  congr 1
  funext a
  apply Fin.ext
  have h0 : win0_1.index t 0 = 0 := (by decide +kernel : ∀ t : Fin grid0.N, win0_1.index t 0 = 0) t
  have h1 : win0_1.index t 1 = 0 := (by decide +kernel : ∀ t : Fin grid0.N, win0_1.index t 1 = 0) t
  match a with
  | ⟨0, _⟩ => show win0_1.index t 0 * 512 + 1 * k.val = k.val; omega
  | ⟨1, _⟩ => show win0_1.index t 1 * 1024 + 1 * l.val = l.val; omega

theorem iblk2_apply (t : Fin cfg0.N) (r : Fin 256) (l : Fin 512) (K : Fin 256) (hK : K.val = r.val) :
    (iblk m c 2 t : Vec Ideal S256x512 .bf16) (ix2 r l) = V m c main_v26 (ix2 K l) := by
  unfold iblk
  rw [View.read_apply]
  show V m c main_v26 _ = _
  congr 1
  funext a
  apply Fin.ext
  have h0 : win0_2.index t 0 = 0 := (by decide +kernel : ∀ t : Fin grid0.N, win0_2.index t 0 = 0) t
  have h1 : win0_2.index t 1 = 0 := (by decide +kernel : ∀ t : Fin grid0.N, win0_2.index t 1 = 0) t
  match a with
  | ⟨0, _⟩ => show win0_2.index t 0 * 256 + 1 * r.val = K.val; omega
  | ⟨1, _⟩ => show win0_2.index t 1 * 512 + 1 * l.val = l.val; omega

/-! ### The scratch and the result, entry by entry -/

theorem stack_lo (t : Fin cfg0.N) (B : Fin 32) (hB : B.val = t.val) (k : Fin 256) (l : Fin 512) :
    stack (iblk m c 0 t) (iblk m c 1 t) (ix2 (⟨k.val, by omega⟩ : Fin 512) l) = fc (m ((c : Thread nD τ).loc main_arg0)) B k l := by
  unfold stack fc
  refine (dif_pos (show k.val < 256 from k.isLt)).trans ?_
  exact Finset.sum_congr rfl fun j _ => congrArg₂ (· * ·) (iblk0_apply m c t k j B hB) ((iblk1_apply m c t j _).trans (V_cm_lo m c j l))

theorem stack_hi (t : Fin cfg0.N) (B : Fin 32) (hB : B.val = t.val) (k : Fin 256) (l : Fin 512) :
    stack (iblk m c 0 t) (iblk m c 1 t) (ix2 (⟨256 + k.val, by omega⟩ : Fin 512) l) = fs (m ((c : Thread nD τ).loc main_arg0)) B k l := by
  unfold stack fs
  refine (dif_neg (show ¬ 256 + k.val < 256 by omega)).trans ?_
  refine Finset.sum_congr rfl fun j _ => congrArg₂ (· * ·) ?_ ((iblk1_apply m c t j _).trans (V_cm_hi m c j l))
  refine Eq.trans ?_ (iblk0_apply m c t k j B hB)
  exact congrArg (fun z => (iblk m c 0 t : Vec Ideal S256x512 .bf16) (ix2 z j)) (Fin.ext (Nat.add_sub_cancel_left 256 k.val))

/-- A sum over 512 is the sums over its halves. -/
theorem sum_halves (f : Fin 512 → EReal) :
    ∑ k, f k = ∑ k : Fin 256, f ⟨k.val, by omega⟩ + ∑ k : Fin 256, f ⟨256 + k.val, by omega⟩ :=
  Fin.sum_univ_add (a := 256) (b := 256) f

theorem out_apply (t : Fin cfg0.N) (r : Fin 256) (C : Fin 512) (R : Fin 8192) (hR : R.val = 256 * t.val + r.val) :
    (outsAt0 m c t) (ix2 r C) = want (m ((c : Thread nD τ).loc main_arg0)) R C := by
  have e := out_A m c t
  have hB : R.val / 256 = t.val := by omega
  have hK : R.val % 256 = r.val := by omega
  refine (congrFun e _).trans ((pay4_apply _ _ r C).trans ?_)
  rw [sum_halves]
  unfold want
  refine congrArg (· * Ideal.ofBits FTy.f32 993330419#32) (congrArg₂ (· + ·) (Finset.sum_congr rfl fun k _ => ?_)
    (Finset.sum_congr rfl fun k _ => ?_))
  · exact congrArg₂ (· * ·) ((iblk2_apply m c t r _ ⟨R.val % 256, by omega⟩ hK).trans (V_dl_lo m c ⟨R.val % 256, by omega⟩ k)) (stack_lo m c t ⟨R.val / 256, by omega⟩ hB k C)
  · exact congrArg₂ (· * ·) ((iblk2_apply m c t r _ ⟨R.val % 256, by omega⟩ hK).trans (V_dl_hi m c ⟨R.val % 256, by omega⟩ k)) (stack_hi m c t ⟨R.val / 256, by omega⟩ hB k C)

theorem idx3 (t : Fin cfg0.N) : win0_3.index t 0 = t.val ∧ win0_3.index t 1 = 0 :=
  (by decide +kernel : ∀ t : Fin grid0.N, win0_3.index t 0 = t.val ∧ win0_3.index t 1 = 0) t

/-- Different points write different blocks of the result. -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (Fin.ext (by
    have e0 : win0_3.index t 0 = win0_3.index t' 0 := congrFun h 0
    rw [(idx3 t).1, (idx3 t').1] at e0
    exact e0))

/-- What the run leaves in the result, at row `R`, column `C`. -/
theorem final_apply (R : Fin 8192) (C : Fin 512) :
    (dats m 0 c).arrAt 3 cfg0.N (ix2 R C) = want (m ((c : Thread nD τ).loc main_arg0)) R C := by
  have ht : R.val / 256 < cfg0.N := lt_of_lt_of_eq (by omega : _ < 32) (show cfg0.N = 32 from N_0).symm
  have hx := out_apply m c ⟨_, ht⟩ (⟨R.val % 256, by omega⟩ : Fin 256) C R (by dsimp only; omega)
  refine Eq.trans ?_ hx
  have e := congrFun ((dats m 0 c).read_blk_arrAt_eq_flushed 3 disjoint3 cfg0.N ⟨_, ht⟩ ht (flush0_3 _))
    (ix2 (⟨R.val % 256, by omega⟩ : Fin 256) C)
  refine Eq.trans ?_ (e.trans ?_)
  · rw [View.read_apply]
    show _ = (dats m 0 c).arrAt 3 cfg0.N _
    congr 1
    funext a
    apply Fin.ext
    obtain ⟨h0, h1⟩ := idx3 ⟨_, ht⟩
    dsimp only at h0 h1
    match a with
    | ⟨0, _⟩ => show R.val = win0_3.index ⟨_, ht⟩ 0 * 256 + 1 * (R.val % 256); omega
    | ⟨1, _⟩ => show C.val = win0_3.index ⟨_, ht⟩ 1 * 512 + 1 * C.val; omega
  · show (cfg0.win 3).cut (grid0.coords ⟨_, ht⟩) ((dats m 0 c).after 3 ⟨_, ht⟩) _ = _
    rw [after0_3]
    rfl

/-- The run, its result named and its argument as launched. -/
theorem run_named (ρ : Dev nD → PrngReg) : θ_run defs (onTc (τ := τ) (main (F := Ideal))) ⟨m, fun _ => 0, ρ⟩ fun r => ∀ c : Dev nD,
    r.2.mem ((c : Thread nD τ).loc main_v29) = (dats m 0 c).arrAt 3 cfg0.N
      ∧ r.2.mem ((c : Thread nD τ).loc main_arg0) = m ((c : Thread nD τ).loc main_arg0) :=
  (θ_run defs _ _).mono (fun r h c => ⟨(h c).1 3,
      ((h c).1 0).trans (((dats m 0 c).arrAt_in 0 rfl _).trans ((A_eq m c 0).trans (V_main_arg0 m c)))⟩)
    (run_main m ρ)

end Cert.Kernel8Ideal.Hand

namespace Cert.Proof

open Cert.Kernel8Ideal Cert.Kernel8Ideal.Gen

theorem frame_reference8 : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

/-- The kernel's result is the reference's. -/
theorem algebraic8 : Cert.algebraic_Kernel8Ideal_Reference8Ideal := by
  intro m ρ m' ρ' _ hagree
  refine ⟨fun c => (dats m 0 c).arrAt 3 cfg0.N, Cert.Kernel8Ideal.Hand.run_named m ρ, ?_⟩
  refine (θ_run Cert.Reference8Ideal.defs _ _).mono (fun _ h c => ⟨(h c).1.trans ?_, (h c).2⟩)
    (Cert.Reference8Ideal.Value.run (F := Ideal) m' ρ')
  have a0 := hagree c
  funext i
  obtain ⟨R, C, rfl⟩ : ∃ (R : Fin 8192) (C : Fin 512), i = ix2 R C := ⟨i 0, i 1, eq_ix2 i⟩
  refine (Cert.Kernel8Ideal.Hand.ref_apply m' c R C).trans ?_
  rw [a0]
  exact (Cert.Kernel8Ideal.Hand.final_apply m c R C).symm

end Cert.Proof

end
-- ==== Proof.Router.lean ====
/-
  The call after the branches: the merged branches times the output weights, gated and added to the tokens, normalised,
  scaled and shifted, which is the first result; that normalised again and modulated, which is the second. The gate, the
  shift and the scale of a token are in the row of the modulation table that belongs to its pass or sequence. Each of the 48
  points of the kernel makes 512 rows of each result.
-/
module

public import proofs.«01_k».proof.Defs
public import proofs.«01_k».proof.Proof.Gen.Kernel9Ideal.Frame
public import proofs.«01_k».proof.Proof.Gen.Reference9Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.Router

open Cert.Kernel9Ideal

/-- One normalised entry of a row `x`. -/
def normed (x : Fin 2048 → EReal) (k : Fin 2048) : EReal :=
  (x k - Ideal.div (∑ j, x j) (Ideal.ofBits FTy.f32 1157627904#32)) *
    Ideal.rsqrt
      (Ideal.div
          (∑ i, (x i - Ideal.div (∑ j, x j) (Ideal.ofBits FTy.f32 1157627904#32)) *
              (x i - Ideal.div (∑ j, x j) (Ideal.ofBits FTy.f32 1157627904#32)))
          (Ideal.ofBits FTy.f32 1157627904#32) +
        Ideal.ofBits FTy.f32 925353388#32)

/-- The row of the modulation table that token `R` takes. -/
def modRow (R : ℕ) : ℕ := if R < 8192 then 0 else 1 + (R - 8192) / 2048

theorem modRow_lt (R : Fin 24576) : modRow R.val < 16 := by unfold modRow; split <;> omega

/-- Entry `j` of row `R` before the first normalisation. -/
def mixed (X Y : S24576x2048.Idx → EReal) (M : S16x12288.Idx → EReal) (W : S2048x2048.Idx → EReal) (B : S2048.Idx → EReal)
    (R : Fin 24576) (j : Fin 2048) : EReal :=
  Ideal.ofBits FTy.f32 1068827891#32 * X (ix2 R j) +
    M (ix2 ⟨modRow R.val, modRow_lt R⟩ ⟨4096 + j.val, by omega⟩) * (∑ i, Y (ix2 R i) * W (ix2 i j) + B (ix1 j))

/-- Entry `(R, k)` of the first result. -/
def first (X Y : S24576x2048.Idx → EReal) (M : S16x12288.Idx → EReal) (W : S2048x2048.Idx → EReal) (B G H : S2048.Idx → EReal)
    (R : Fin 24576) (k : Fin 2048) : EReal :=
  normed (mixed X Y M W B R) k * G (ix1 k) + H (ix1 k)

/-- Entry `(R, k)` of the second result, from the first. -/
def second (M : S16x12288.Idx → EReal) (x1 : Fin 2048 → EReal) (R : Fin 24576) (k : Fin 2048) : EReal :=
  normed x1 k * (1 + M (ix2 ⟨modRow R.val, modRow_lt R⟩ ⟨8192 + k.val, by omega⟩)) +
    M (ix2 ⟨modRow R.val, modRow_lt R⟩ ⟨6144 + k.val, by omega⟩)

end Cert.Router

open Cert.Router

namespace Cert.Reference9Ideal.Hand

open Cert.Reference9Ideal Cert.Reference9Ideal.Gen

/-- The reference's second result from its first: the rows normalised and modulated. -/
def again (M : FVec Ideal S16x12288 .f32) (y : FVec Ideal S24576x2048 .f32) : FVec Ideal S24576x2048 .bf16 :=
  truncf .bf16 (addf (mulf (mulf (subf y (broadcastInDim S24576x2048 ![0, 1] bcast_S24576x1_S24576x2048_0_1 (Host.divf (broadcastInDim S24576x1 ![0] bcast_S24576_S24576x1_0 (Host.reduceAdd y (constant S_ .f32 0x00000000#32) reducesTo_S24576x2048_S24576_d1 h_S_)) (broadcastInDim S24576x1 ![] bcast_S_S24576x1 (constant S_ .f32 0x45000000#32))))) (broadcastInDim S24576x2048 ![0, 1] bcast_S24576x1_S24576x2048_0_1 (Host.rsqrt (addf (Host.divf (broadcastInDim S24576x1 ![0] bcast_S24576_S24576x1_0 (Host.reduceAdd (mulf (subf y (broadcastInDim S24576x2048 ![0, 1] bcast_S24576x1_S24576x2048_0_1 (Host.divf (broadcastInDim S24576x1 ![0] bcast_S24576_S24576x1_0 (Host.reduceAdd y (constant S_ .f32 0x00000000#32) reducesTo_S24576x2048_S24576_d1 h_S_)) (broadcastInDim S24576x1 ![] bcast_S_S24576x1 (constant S_ .f32 0x45000000#32))))) (subf y (broadcastInDim S24576x2048 ![0, 1] bcast_S24576x1_S24576x2048_0_1 (Host.divf (broadcastInDim S24576x1 ![0] bcast_S24576_S24576x1_0 (Host.reduceAdd y (constant S_ .f32 0x00000000#32) reducesTo_S24576x2048_S24576_d1 h_S_)) (broadcastInDim S24576x1 ![] bcast_S_S24576x1 (constant S_ .f32 0x45000000#32)))))) (constant S_ .f32 0x00000000#32) reducesTo_S24576x2048_S24576_d1 h_S_)) (broadcastInDim S24576x1 ![] bcast_S_S24576x1 (constant S_ .f32 0x45000000#32))) (broadcastInDim S24576x1 ![] bcast_S_S24576x1 (constant S_ .f32 0x3727C5AC#32)))))) (addf (broadcastInDim S24576x2048 ![] bcast_S_S24576x2048 (constant S_ .f32 0x3F800000#32)) (concatenate S24576x2048 0 [⟨S8192x2048, (broadcastInDim S8192x2048 ![1] bcast_S2048_S8192x2048_1 (shapeCast _ (extractStridedSlice S1x2048 ![0, 0] (extractStridedSlice S16x2048 ![0, 8192] M slices_S16x12288_S16x2048_0_8192) slices_S16x2048_S1x2048_0_0) shapeCasts_S1x2048_S2048))⟩, ⟨S16384x2048, (shapeCast _ (broadcastInDim S8x2048x2048 ![0, 1, 2] bcast_S8x1x2048_S8x2048x2048_0_1_2 (broadcastInDim S8x1x2048 ![0, 2] bcast_S8x2048_S8x1x2048_0_2 (extractStridedSlice S8x2048 ![1, 0] (extractStridedSlice S16x2048 ![0, 8192] M slices_S16x12288_S16x2048_0_8192) slices_S16x2048_S8x2048_1_0))) shapeCasts_S8x2048x2048_S16384x2048)⟩] concatenates_S8192x2048_S16384x2048_S24576x2048_d0))) (concatenate S24576x2048 0 [⟨S8192x2048, (broadcastInDim S8192x2048 ![1] bcast_S2048_S8192x2048_1 (shapeCast _ (extractStridedSlice S1x2048 ![0, 0] (extractStridedSlice S16x2048 ![0, 6144] M slices_S16x12288_S16x2048_0_6144) slices_S16x2048_S1x2048_0_0) shapeCasts_S1x2048_S2048))⟩, ⟨S16384x2048, (shapeCast _ (broadcastInDim S8x2048x2048 ![0, 1, 2] bcast_S8x1x2048_S8x2048x2048_0_1_2 (broadcastInDim S8x1x2048 ![0, 2] bcast_S8x2048_S8x1x2048_0_2 (extractStridedSlice S8x2048 ![1, 0] (extractStridedSlice S16x2048 ![0, 6144] M slices_S16x12288_S16x2048_0_6144) slices_S16x2048_S8x2048_1_0))) shapeCasts_S8x2048x2048_S16384x2048)⟩] concatenates_S8192x2048_S16384x2048_S24576x2048_d0)) bitsLt_bf16_f32

section
set_option maxRecDepth 1000000

theorem res1_eq (m' : (ℓ : Loc nD τ sig) → Buf (Elt Ideal) ℓ) (c' : Dev nD) : Cert.Reference9Ideal.Value.res_out1 m' c'
    = again (m' (c'.tc.loc main_arg2)) (Cert.Reference9Ideal.Value.res_out0 m' c') := rfl

theorem again_apply (M : FVec Ideal S16x12288 .f32) (y : FVec Ideal S24576x2048 .f32) (R : Fin 24576) (k : Fin 2048) :
    again M y (ix2 R k) = second M (fun j => y (ix2 R j)) R k := by
  pointwise [again]
  unfold second normed
  by_cases hR : R.val < 8192
  · have e2 : modRow R.val = 0 := by unfold modRow; rw [if_pos hR]
    simp only [hR, ↓reduceDIte, e2]
    rfl
  · have e2 : modRow R.val = 1 + (R.val - 8192) / 2048 := by unfold modRow; rw [if_neg hR]
    simp only [hR, ↓reduceDIte, e2]

end

end Cert.Reference9Ideal.Hand

namespace Cert.Kernel9Ideal.Hand

open Cert.Kernel9Ideal Cert.Kernel9Ideal.Gen

abbrev RMem := (ℓ : Loc Cert.Reference9Ideal.nD Cert.Reference9Ideal.τ Cert.Reference9Ideal.sig) → Buf (Elt Ideal) ℓ

section
set_option maxRecDepth 1000000

theorem ref0_apply (m' : RMem) (c' : Dev Cert.Reference9Ideal.nD) (R : Fin 24576) (k : Fin 2048) :
    Cert.Reference9Ideal.Value.res_out0 m' c' (ix2 R k) = first (m' (c'.tc.loc Cert.Reference9Ideal.main_arg0)) (m' (c'.tc.loc Cert.Reference9Ideal.main_arg1)) (m' (c'.tc.loc Cert.Reference9Ideal.main_arg2)) (m' (c'.tc.loc Cert.Reference9Ideal.main_arg3)) (m' (c'.tc.loc Cert.Reference9Ideal.main_arg4)) (m' (c'.tc.loc Cert.Reference9Ideal.main_arg5)) (m' (c'.tc.loc Cert.Reference9Ideal.main_arg6)) R k := by
  unfold Cert.Reference9Ideal.Value.res_out0 Cert.Reference9Ideal.Value.res_main_v59
  clean_types
  pointwise
  unfold first normed mixed
  by_cases hR : R.val < 8192
  · have e2 : modRow R.val = 0 := by unfold modRow; rw [if_pos hR]
    simp only [hR, ↓reduceDIte, e2]
    rfl
  · have e2 : modRow R.val = 1 + (R.val - 8192) / 2048 := by unfold modRow; rw [if_neg hR]
    simp only [hR, ↓reduceDIte, e2]

end

/-- The reference's second result, from its first. -/
theorem ref1_apply (m' : RMem) (c' : Dev Cert.Reference9Ideal.nD) (R : Fin 24576) (k : Fin 2048) :
    Cert.Reference9Ideal.Value.res_out1 m' c' (ix2 R k) = second (m' (c'.tc.loc Cert.Reference9Ideal.main_arg2))
      (fun j => Cert.Reference9Ideal.Value.res_out0 m' c' (ix2 R j)) R k :=
  (congrFun (Cert.Reference9Ideal.Hand.res1_eq m' c') _).trans (Cert.Reference9Ideal.Hand.again_apply _ _ R k)

theorem pay2_apply (v0 : Vec Ideal S512x2048 .bf16) (v1 : Vec Ideal S2048x2048 .bf16) (v4 : Vec Ideal S1x2048 .f32)
    (v8 : Vec Ideal S512x2048 .f32) (v11 : Vec Ideal S1x1x2048 .f32) (v32 : Vec Ideal S1x2048 .f32) (r : Fin 512) (k : Fin 2048) :
    k0_pay2 (F := Ideal) v0 v1 v4 v8 v11 v32 (ix2 r k) = normed (fun j => Ideal.ofBits FTy.f32 1068827891#32 * v8 (ix2 r j) +
      v11 (ix3 0 0 j) * (∑ i, v0 (ix2 r i) * v1 (ix2 i j) + v4 (ix2 0 j))) k * v32 (ix2 0 k) := by
  pointwise [k0_pay2]
  rfl

theorem pay3_apply (v35 : FVec Ideal S512x2048 .f32) (v36 : Vec Ideal S1x2048 .f32) (r : Fin 512) (k : Fin 2048) :
    k0_pay3 (F := Ideal) v35 v36 (ix2 r k) = v35 (ix2 r k) + v36 (ix2 0 k) := by
  pointwise [k0_pay3]

theorem pay5_apply (v35 : FVec Ideal S512x2048 .f32) (v36 : Vec Ideal S1x2048 .f32) (v57 v63 : Vec Ideal S1x1x2048 .f32)
    (r : Fin 512) (k : Fin 2048) :
    k0_pay5 (F := Ideal) v35 v36 v57 v63 (ix2 r k)
      = normed (fun j => v35 (ix2 r j) + v36 (ix2 0 j)) k * (1 + v57 (ix3 0 0 k)) + v63 (ix3 0 0 k) := by
  pointwise [k0_pay5, k0_pay4, k0_pay3]
  rfl

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (c : Dev nD)

/-! ### The arrays the call reads, as the host leaves them -/

theorem V_mod (b : Fin 16) (l : Fin 12288) : V m c main_v9 (ix3 b 0 l) = m ((c : Thread nD τ).loc main_arg2) (ix2 b l) := by
  unfold V hostOps0
  after_results_simp
  clean_types
  pointwise
theorem V_w_o (k l : Fin 2048) : V m c main_v10 (ix2 k l) = m ((c : Thread nD τ).loc main_arg3) (ix2 k l) := by
  unfold V hostOps0
  after_results_simp
  clean_types
  pointwise
theorem V_b_o (l : Fin 2048) : V m c main_v11 (ix2 0 l) = m ((c : Thread nD τ).loc main_arg4) (ix1 l) := by
  unfold V hostOps0
  after_results_simp
  clean_types
  pointwise
theorem V_ln_g (l : Fin 2048) : V m c main_v12 (ix2 0 l) = m ((c : Thread nD τ).loc main_arg5) (ix1 l) := by
  unfold V hostOps0
  after_results_simp
  clean_types
  pointwise
theorem V_ln_b (l : Fin 2048) : V m c main_v13 (ix2 0 l) = m ((c : Thread nD τ).loc main_arg6) (ix1 l) := by
  unfold V hostOps0
  after_results_simp
  clean_types
  pointwise

/-! ### The blocks a point reads -/

theorem iblk0_apply (t : Fin cfg0.N) (r : Fin 512) (k : Fin 2048) (R : Fin 24576) (hR : R.val = 512 * t.val + r.val) :
    (iblk m c 0 t : Vec Ideal S512x2048 .f32) (ix2 r k) = m ((c : Thread nD τ).loc main_arg0) (ix2 R k) := by
  rw [← V_main_arg0 m c]
  unfold iblk
  rw [View.read_apply]
  show V m c main_arg0 _ = _
  congr 1
  funext a
  apply Fin.ext
  have h0 : win0_0.index t 0 = t.val := (by decide +kernel : ∀ t : Fin grid0.N, win0_0.index t 0 = t.val) t
  have h1 : win0_0.index t 1 = 0 := (by decide +kernel : ∀ t : Fin grid0.N, win0_0.index t 1 = 0) t
  match a with
  | ⟨0, _⟩ => show win0_0.index t 0 * 512 + 1 * r.val = R.val; omega
  | ⟨1, _⟩ => show win0_0.index t 1 * 2048 + 1 * k.val = k.val; omega

theorem iblk1_apply (t : Fin cfg0.N) (r : Fin 512) (k : Fin 2048) (R : Fin 24576) (hR : R.val = 512 * t.val + r.val) :
    (iblk m c 1 t : Vec Ideal S512x2048 .bf16) (ix2 r k) = m ((c : Thread nD τ).loc main_arg1) (ix2 R k) := by
  rw [← V_main_arg1 m c]
  unfold iblk
  rw [View.read_apply]
  show V m c main_arg1 _ = _
  congr 1
  funext a
  apply Fin.ext
  have h0 : win0_1.index t 0 = t.val := (by decide +kernel : ∀ t : Fin grid0.N, win0_1.index t 0 = t.val) t
  have h1 : win0_1.index t 1 = 0 := (by decide +kernel : ∀ t : Fin grid0.N, win0_1.index t 1 = 0) t
  match a with
  | ⟨0, _⟩ => show win0_1.index t 0 * 512 + 1 * r.val = R.val; omega
  | ⟨1, _⟩ => show win0_1.index t 1 * 2048 + 1 * k.val = k.val; omega

theorem iblk2_apply (t : Fin cfg0.N) (k : Fin 2048) (b : Fin 16) (hb : b.val = if t.val < 16 then 0 else 1 + (t.val - 16) / 4) :
    (iblk m c 2 t : Vec Ideal S1x1x2048 .f32) (ix3 0 0 k) = m ((c : Thread nD τ).loc main_arg2) (ix2 b ⟨4096 + k.val, by omega⟩) := by
  rw [← V_mod m c]
  unfold iblk
  rw [View.read_apply]
  show V m c main_v9 _ = _
  congr 1
  funext a
  apply Fin.ext
  have h0 : win0_2.index t 0 = if t.val < 16 then 0 else 1 + (t.val - 16) / 4 := (by decide +kernel : ∀ t : Fin grid0.N, win0_2.index t 0 = if t.val < 16 then 0 else 1 + (t.val - 16) / 4) t
  have h1 : win0_2.index t 1 = 0 := (by decide +kernel : ∀ t : Fin grid0.N, win0_2.index t 1 = 0) t
  have h2 : win0_2.index t 2 = 2 := (by decide +kernel : ∀ t : Fin grid0.N, win0_2.index t 2 = 2) t
  match a with
  | ⟨0, _⟩ => show win0_2.index t 0 * 1 + 1 * 0 = b.val; omega
  | ⟨1, _⟩ => show win0_2.index t 1 * 1 + 1 * 0 = 0; omega
  | ⟨2, _⟩ => show win0_2.index t 2 * 2048 + 1 * k.val = 4096 + k.val; omega

theorem iblk3_apply (t : Fin cfg0.N) (k : Fin 2048) (b : Fin 16) (hb : b.val = if t.val < 16 then 0 else 1 + (t.val - 16) / 4) :
    (iblk m c 3 t : Vec Ideal S1x1x2048 .f32) (ix3 0 0 k) = m ((c : Thread nD τ).loc main_arg2) (ix2 b ⟨6144 + k.val, by omega⟩) := by
  rw [← V_mod m c]
  unfold iblk
  rw [View.read_apply]
  show V m c main_v9 _ = _
  congr 1
  funext a
  apply Fin.ext
  have h0 : win0_3.index t 0 = if t.val < 16 then 0 else 1 + (t.val - 16) / 4 := (by decide +kernel : ∀ t : Fin grid0.N, win0_3.index t 0 = if t.val < 16 then 0 else 1 + (t.val - 16) / 4) t
  have h1 : win0_3.index t 1 = 0 := (by decide +kernel : ∀ t : Fin grid0.N, win0_3.index t 1 = 0) t
  have h2 : win0_3.index t 2 = 3 := (by decide +kernel : ∀ t : Fin grid0.N, win0_3.index t 2 = 3) t
  match a with
  | ⟨0, _⟩ => show win0_3.index t 0 * 1 + 1 * 0 = b.val; omega
  | ⟨1, _⟩ => show win0_3.index t 1 * 1 + 1 * 0 = 0; omega
  | ⟨2, _⟩ => show win0_3.index t 2 * 2048 + 1 * k.val = 6144 + k.val; omega

theorem iblk4_apply (t : Fin cfg0.N) (k : Fin 2048) (b : Fin 16) (hb : b.val = if t.val < 16 then 0 else 1 + (t.val - 16) / 4) :
    (iblk m c 4 t : Vec Ideal S1x1x2048 .f32) (ix3 0 0 k) = m ((c : Thread nD τ).loc main_arg2) (ix2 b ⟨8192 + k.val, by omega⟩) := by
  rw [← V_mod m c]
  unfold iblk
  rw [View.read_apply]
  show V m c main_v9 _ = _
  congr 1
  funext a
  apply Fin.ext
  have h0 : win0_4.index t 0 = if t.val < 16 then 0 else 1 + (t.val - 16) / 4 := (by decide +kernel : ∀ t : Fin grid0.N, win0_4.index t 0 = if t.val < 16 then 0 else 1 + (t.val - 16) / 4) t
  have h1 : win0_4.index t 1 = 0 := (by decide +kernel : ∀ t : Fin grid0.N, win0_4.index t 1 = 0) t
  have h2 : win0_4.index t 2 = 4 := (by decide +kernel : ∀ t : Fin grid0.N, win0_4.index t 2 = 4) t
  match a with
  | ⟨0, _⟩ => show win0_4.index t 0 * 1 + 1 * 0 = b.val; omega
  | ⟨1, _⟩ => show win0_4.index t 1 * 1 + 1 * 0 = 0; omega
  | ⟨2, _⟩ => show win0_4.index t 2 * 2048 + 1 * k.val = 8192 + k.val; omega

theorem iblk5_apply (t : Fin cfg0.N) (k l : Fin 2048) :
    (iblk m c 5 t : Vec Ideal S2048x2048 .bf16) (ix2 k l) = m ((c : Thread nD τ).loc main_arg3) (ix2 k l) := by
  rw [← V_w_o m c]
  unfold iblk
  rw [View.read_apply]
  show V m c main_v10 _ = _
  congr 1
  funext a
  apply Fin.ext
  have h0 : win0_5.index t 0 = 0 := (by decide +kernel : ∀ t : Fin grid0.N, win0_5.index t 0 = 0) t
  have h1 : win0_5.index t 1 = 0 := (by decide +kernel : ∀ t : Fin grid0.N, win0_5.index t 1 = 0) t
  match a with
  | ⟨0, _⟩ => show win0_5.index t 0 * 2048 + 1 * k.val = k.val; omega
  | ⟨1, _⟩ => show win0_5.index t 1 * 2048 + 1 * l.val = l.val; omega

theorem iblk6_apply (t : Fin cfg0.N) (l : Fin 2048) :
    (iblk m c 6 t : Vec Ideal S1x2048 .f32) (ix2 0 l) = m ((c : Thread nD τ).loc main_arg4) (ix1 l) := by
  rw [← V_b_o m c]
  unfold iblk
  rw [View.read_apply]
  show V m c main_v11 _ = _
  congr 1
  funext a
  apply Fin.ext
  have h0 : win0_6.index t 0 = 0 := (by decide +kernel : ∀ t : Fin grid0.N, win0_6.index t 0 = 0) t
  have h1 : win0_6.index t 1 = 0 := (by decide +kernel : ∀ t : Fin grid0.N, win0_6.index t 1 = 0) t
  match a with
  | ⟨0, _⟩ => show win0_6.index t 0 * 1 + 1 * 0 = 0; omega
  | ⟨1, _⟩ => show win0_6.index t 1 * 2048 + 1 * l.val = l.val; omega

theorem iblk7_apply (t : Fin cfg0.N) (l : Fin 2048) :
    (iblk m c 7 t : Vec Ideal S1x2048 .f32) (ix2 0 l) = m ((c : Thread nD τ).loc main_arg5) (ix1 l) := by
  rw [← V_ln_g m c]
  unfold iblk
  rw [View.read_apply]
  show V m c main_v12 _ = _
  congr 1
  funext a
  apply Fin.ext
  have h0 : win0_7.index t 0 = 0 := (by decide +kernel : ∀ t : Fin grid0.N, win0_7.index t 0 = 0) t
  have h1 : win0_7.index t 1 = 0 := (by decide +kernel : ∀ t : Fin grid0.N, win0_7.index t 1 = 0) t
  match a with
  | ⟨0, _⟩ => show win0_7.index t 0 * 1 + 1 * 0 = 0; omega
  | ⟨1, _⟩ => show win0_7.index t 1 * 2048 + 1 * l.val = l.val; omega

theorem iblk8_apply (t : Fin cfg0.N) (l : Fin 2048) :
    (iblk m c 8 t : Vec Ideal S1x2048 .f32) (ix2 0 l) = m ((c : Thread nD τ).loc main_arg6) (ix1 l) := by
  rw [← V_ln_b m c]
  unfold iblk
  rw [View.read_apply]
  show V m c main_v13 _ = _
  congr 1
  funext a
  apply Fin.ext
  have h0 : win0_8.index t 0 = 0 := (by decide +kernel : ∀ t : Fin grid0.N, win0_8.index t 0 = 0) t
  have h1 : win0_8.index t 1 = 0 := (by decide +kernel : ∀ t : Fin grid0.N, win0_8.index t 1 = 0) t
  match a with
  | ⟨0, _⟩ => show win0_8.index t 0 * 1 + 1 * 0 = 0; omega
  | ⟨1, _⟩ => show win0_8.index t 1 * 2048 + 1 * l.val = l.val; omega

/-! ### What a point leaves in its output blocks -/

theorem row_eq (t : Fin cfg0.N) (r : Fin 512) (R : Fin 24576) (hR : R.val = 512 * t.val + r.val) :
    modRow R.val = if t.val < 16 then 0 else 1 + (t.val - 16) / 4 := by
  have := r.isLt
  unfold modRow
  split <;> split <;> omega

/-- The first result of a point, before its last shift, and with it. -/
theorem pay_first (t : Fin cfg0.N) (r : Fin 512) (k : Fin 2048) (R : Fin 24576) (hR : R.val = 512 * t.val + r.val) :
    k0_pay2 (F := Ideal) (iblk m c 1 t) (iblk m c 5 t) (iblk m c 6 t) (iblk m c 0 t) (iblk m c 2 t) (iblk m c 7 t) (ix2 r k)
        + (iblk m c 8 t : Vec Ideal S1x2048 .f32) (ix2 0 k)
      = first (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) R k := by
  have hb := row_eq t r R hR
  refine (congrArg (· + _) (pay2_apply _ _ _ _ _ _ r k)).trans ?_
  unfold first
  rw [iblk8_apply m c t k, iblk7_apply m c t k]
  refine congrArg (fun z => normed z k * _ + _) (funext fun j => ?_)
  unfold mixed
  exact congrArg₂ (· + ·) (congrArg (_ * ·) (iblk0_apply m c t r j R hR)) (congrArg₂ (· * ·)
    (iblk2_apply m c t j ⟨modRow R.val, modRow_lt R⟩ hb) (congrArg₂ (· + ·) (Finset.sum_congr rfl fun i _ => congrArg₂ (· * ·)
      (iblk1_apply m c t r i R hR) (iblk5_apply m c t i j)) (iblk6_apply m c t j)))

theorem out11_apply (t : Fin cfg0.N) (r : Fin 512) (k : Fin 2048) (R : Fin 24576) (hR : R.val = 512 * t.val + r.val) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k)
      = first (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) R k := by
  unfold out0_11 k0_pay29
  rw [View.canon_unit_zero hz2]
  simp only [View.ld_unit_zero (S := S512x2048) hz2, View.ld_unit_zero (S := S2048x2048) hz2,
    View.ld_unit_zero (S := S1x1x2048) hz3, View.ld_unit_zero (S := S1x2048) hz2]
  exact (pay3_apply _ _ r k).trans (pay_first m c t r k R hR)

theorem out12_apply (t : Fin cfg0.N) (r : Fin 512) (k : Fin 2048) (R : Fin 24576) (hR : R.val = 512 * t.val + r.val) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k)
      = second (m ((c : Thread nD τ).loc main_arg2)) (first (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) R) R k := by
  have hb := row_eq t r R hR
  unfold out0_12 k0_pay29
  rw [View.canon_unit_zero hz2]
  simp only [View.ld_unit_zero (S := S512x2048) hz2, View.ld_unit_zero (S := S2048x2048) hz2,
    View.ld_unit_zero (S := S1x1x2048) hz3, View.ld_unit_zero (S := S1x2048) hz2]
  refine (pay5_apply _ _ _ _ r k).trans ?_
  unfold second
  rw [iblk4_apply m c t k ⟨modRow R.val, modRow_lt R⟩ hb, iblk3_apply m c t k ⟨modRow R.val, modRow_lt R⟩ hb]
  exact congrArg (fun z => normed z k * _ + _) (funext fun j => pay_first m c t r j R hR)

theorem idx11 (t : Fin cfg0.N) : win0_11.index t 0 = t.val ∧ win0_11.index t 1 = 0 :=
  (by decide +kernel : ∀ t : Fin grid0.N, win0_11.index t 0 = t.val ∧ win0_11.index t 1 = 0) t

/-- Different points write different blocks of the result. -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (Fin.ext (by
    obtain ⟨a0, a1⟩ := idx11 t
    obtain ⟨b0, b1⟩ := idx11 t'
    have e0 : win0_11.index t 0 = win0_11.index t' 0 := congrFun h 0
    omega))

/-- What the run leaves in the result, at row `R`, column `k`. -/
theorem final11_apply (R : Fin 24576) (k : Fin 2048) : (dats m 0 c).arrAt 11 cfg0.N (ix2 R k)
    = first (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) R k := by
  have ht : R.val / 512 < cfg0.N := lt_of_lt_of_eq (by omega : _ < 48) (show cfg0.N = 48 from N_0).symm
  have hx := out11_apply m c ⟨_, ht⟩ (⟨R.val % 512, by omega⟩ : Fin 512) k R (by dsimp only; omega)
  refine Eq.trans ?_ hx
  have e := congrFun ((dats m 0 c).read_blk_arrAt_eq_flushed 11 disjoint11 cfg0.N ⟨_, ht⟩ ht (flush0_11 _))
    (ix2 (⟨R.val % 512, by omega⟩ : Fin 512) k)
  refine Eq.trans ?_ (e.trans ?_)
  · rw [View.read_apply]
    refine congrArg ((dats m 0 c).arrAt 11 cfg0.N) ?_
    funext a
    apply Fin.ext
    obtain ⟨h0, h1⟩ := idx11 ⟨_, ht⟩
    dsimp only at h0 h1
    match a with
    | ⟨0, _⟩ => show R.val = win0_11.index ⟨_, ht⟩ 0 * 512 + 1 * (R.val % 512); omega
    | ⟨1, _⟩ => show k.val = win0_11.index ⟨_, ht⟩ 1 * 2048 + 1 * k.val; omega
  · show (cfg0.win 11).cut (grid0.coords ⟨_, ht⟩) ((dats m 0 c).after 11 ⟨_, ht⟩) _ = _
    rw [after0_11]
    rfl

theorem idx12 (t : Fin cfg0.N) : win0_12.index t 0 = t.val ∧ win0_12.index t 1 = 0 :=
  (by decide +kernel : ∀ t : Fin grid0.N, win0_12.index t 0 = t.val ∧ win0_12.index t 1 = 0) t

/-- Different points write different blocks of the result. -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (Fin.ext (by
    obtain ⟨a0, a1⟩ := idx12 t
    obtain ⟨b0, b1⟩ := idx12 t'
    have e0 : win0_12.index t 0 = win0_12.index t' 0 := congrFun h 0
    omega))

/-- What the run leaves in the result, at row `R`, column `k`. -/
theorem final12_apply (R : Fin 24576) (k : Fin 2048) : (dats m 0 c).arrAt 12 cfg0.N (ix2 R k)
    = second (m ((c : Thread nD τ).loc main_arg2)) (first (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) R) R k := by
  have ht : R.val / 512 < cfg0.N := lt_of_lt_of_eq (by omega : _ < 48) (show cfg0.N = 48 from N_0).symm
  have hx := out12_apply m c ⟨_, ht⟩ (⟨R.val % 512, by omega⟩ : Fin 512) k R (by dsimp only; omega)
  refine Eq.trans ?_ hx
  have e := congrFun ((dats m 0 c).read_blk_arrAt_eq_flushed 12 disjoint12 cfg0.N ⟨_, ht⟩ ht (flush0_12 _))
    (ix2 (⟨R.val % 512, by omega⟩ : Fin 512) k)
  refine Eq.trans ?_ (e.trans ?_)
  · rw [View.read_apply]
    refine congrArg ((dats m 0 c).arrAt 12 cfg0.N) ?_
    funext a
    apply Fin.ext
    obtain ⟨h0, h1⟩ := idx12 ⟨_, ht⟩
    dsimp only at h0 h1
    match a with
    | ⟨0, _⟩ => show R.val = win0_12.index ⟨_, ht⟩ 0 * 512 + 1 * (R.val % 512); omega
    | ⟨1, _⟩ => show k.val = win0_12.index ⟨_, ht⟩ 1 * 2048 + 1 * k.val; omega
  · show (cfg0.win 12).cut (grid0.coords ⟨_, ht⟩) ((dats m 0 c).after 12 ⟨_, ht⟩) _ = _
    rw [after0_12]
    rfl

/-- The run, its results named and its arguments as launched. -/
theorem run_named (ρ : Dev nD → PrngReg) : θ_run defs (onTc (τ := τ) (main (F := Ideal))) ⟨m, fun _ => 0, ρ⟩ fun r => ∀ c : Dev nD,
    r.2.mem ((c : Thread nD τ).loc main_v14_0) = (dats m 0 c).arrAt 11 cfg0.N
      ∧ r.2.mem ((c : Thread nD τ).loc main_v14_1) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1 11, (h c).1 12,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.Kernel9Ideal.Hand

namespace Cert.Proof

open Cert.Kernel9Ideal Cert.Kernel9Ideal.Gen

theorem frame_reference9 : Cert.quiescent_Reference9Ideal := fun m ρ _ =>
  (θ_run Cert.Reference9Ideal.defs _ _).mono (fun r h => ⟨fun c => (h c).2.2,
      Idealize.ShloMosaic.sem_eq_zero_of_no_sems (by decide) r.2⟩)
    (Cert.Reference9Ideal.Value.run (F := Ideal) m ρ)

/-- The kernel's results are the reference's. -/
theorem algebraic9 : Cert.algebraic_Kernel9Ideal_Reference9Ideal := by
  intro m ρ m' ρ' _ hagree
  refine ⟨fun c => (dats m 0 c).arrAt 11 cfg0.N, fun c => (dats m 0 c).arrAt 12 cfg0.N, Cert.Kernel9Ideal.Hand.run_named m ρ, ?_⟩
  refine (θ_run Cert.Reference9Ideal.defs _ _).mono (fun _ h c => ⟨(h c).1.trans ?_, (h c).2.1.trans ?_, (h c).2.2⟩)
    (Cert.Reference9Ideal.Value.run (F := Ideal) m' ρ')
  · obtain ⟨a0, a1, a2, a3, a4, a5, a6, a7, a8⟩ := hagree c
    funext i
    obtain ⟨R, k, rfl⟩ : ∃ (R : Fin 24576) (k : Fin 2048), i = ix2 R k := ⟨i 0, i 1, eq_ix2 i⟩
    refine (Cert.Kernel9Ideal.Hand.ref0_apply m' c R k).trans ?_
    rw [a0, a1, a2, a3, a4, a5, a6]
    exact (Cert.Kernel9Ideal.Hand.final11_apply m c R k).symm
  · obtain ⟨a0, a1, a2, a3, a4, a5, a6, a7, a8⟩ := hagree c
    funext i
    obtain ⟨R, k, rfl⟩ : ∃ (R : Fin 24576) (k : Fin 2048), i = ix2 R k := ⟨i 0, i 1, eq_ix2 i⟩
    refine (Cert.Kernel9Ideal.Hand.ref1_apply m' c R k).trans ?_
    refine (congrArg (fun z => Cert.Router.second _ z R k) (funext fun j =>
      Cert.Kernel9Ideal.Hand.ref0_apply m' c R j)).trans ?_
    rw [a0, a1, a2, a3, a4, a5, a6]
    exact (Cert.Kernel9Ideal.Hand.final12_apply m c R k).symm

end Cert.Proof

end
-- ==== Proof.UpKit.lean ====
/-
  The expert product (gate and up): the launch set-up its run is stated over. What the buffers hold when the region is
  entered, the tables the blocks are chosen by, the windows' blocks and staging buffers. The pipeline's body comes in the
  next module.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Up

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 0 (fun _ => rfl) (by decide)) (P := 1) (m := 0) (by decide) rfl t).mpr (Nat.mod_one _) : ∀ t : Fin grid0.N, Pipeline.Window.flushOf grid0 true cc0_transform_5 t = true)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

abbrev bodyAt0 (a : (pcfg0 (F := F)).Adm) (t : Fin (cfg0 a).N) : Prog (TpuEff nD τ sig (Elt F) Λ₀ .tc) PUnit :=
  cc0_moe_up (grid0.coords t) (Memref.whole main_v30) (Memref.isWhole_whole _) (Memref.whole main_v34) (Memref.isWhole_whole _) (Memref.whole main_v51) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-! ## @main up to the region -/

abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

def tbl : pre0.Contents (Elt F) := fun j => V m (0 : Dev nD) (pre0.ref j)
theorem V_pre (c : Dev nD) (j : Fin 3) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S224 .i32 := Memref.whole main_v30
abbrev htbM0_0 : tbM0_0.IsWhole := Memref.isWhole_whole _
abbrev tbM0_1 : Memref sig .tc .smem S1 .i32 := Memref.whole main_v34
abbrev htbM0_1 : tbM0_1.IsWhole := Memref.isWhole_whole _
abbrev tbM0_2 : Memref sig .tc .smem S224 .i32 := Memref.whole main_v51
abbrev htbM0_2 : tbM0_2.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## Staging memrefs and scratches -/

/-- One staging buffer of the output window. -/
abbrev VO0_5 : View sig .tc .vmem S512x1024 .bf16 := (Memref.whole cc0_stg5_0 : Memref sig .tc .vmem S512x1024 .bf16).view
abbrev ms0_0 (hO : Ok m) (t : Fin (cfgM m hO).N) : Memref sig .tc .vmem S512x1024 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x2048x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x1024 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev scM0_0 : Memref sig .tc .vmem S2048x1024 .bf16 := Memref.whole cc0_scratch0
abbrev scM0_1 : Memref sig .tc .vmem S2048x1024 .bf16 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The frame claim's post from the frame run's -/

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).1 2).trans (((dats 0 c).arrAt_in 2 rfl _).trans ((hA c 2).trans (V_main_arg2 m c))),
      ((h c).2 main_arg3 (by decide : main_arg3 ∈ Pipeline.restRefs sig spec0)).trans (V_main_arg3 m c)⟩) h

end Cert.KernelIdeal.Up

end
-- ==== Proof.UpBody.lean ====
/-
  The expert product (gate and up): one run of the body at a point. Where the block's expert is not the one before's it
  fills the two scratches with the expert's gate and up weights, and where the block holds rows it multiplies them by the
  scratches and stores the activation; where it holds none it stores zeros.
-/
module

public import proofs.«01_k».proof.Proof.UpKit
public import Idealize.ShloMosaic.Lib.Pipeline.Value

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz4 : (![0, 0, 0, 0] : Fin 4 → ℕ) = fun _ => 0 := by funext a; fin_cases a <;> rfl

/-- A whole load of a buffer held at `x` reads `x`. -/
theorem load_whole {sp : Space} {S : Shape} {e : EltTy} (arg : Memref sig .tc sp S e) (h : arg.IsWhole) (x : S.Idx → Elt F e)
    {off : Fin S.rank → ℕ} (hz : off = fun _ => 0) (inb : ∀ a, off a + S.size a ≤ S.size a) :
    View.readAt (Elt F) arg.view (Rect.unit off S.size inb).toLoadRect (h.unread x) = x := by
  rw [View.readAt_eq_ld, h.read_unread, View.ld_unit_zero hz]

/-- A whole store leaves the value stored. -/
theorem read_store_whole {sp : Space} {S : Shape} {e : EltTy} (v : View sig .tc sp S e) (f : v.ty.Contents (Elt F)) (x : S.Idx → Elt F e)
    {off : Fin S.rank → ℕ} (hz : off = fun _ => 0) (inb : ∀ a, off a + S.size a ≤ S.size a) :
    View.read (Elt F) v (v.writes (Elt F) f [⟨Rect.unit off S.size inb, x⟩]) = x := by
  subst hz
  rw [View.read_writes_eq_canon v f _ (fun y => ⟨_, List.mem_singleton_self _, View.mem_set_unit_zero rfl inb y⟩), View.canon_unit_zero rfl]

/-- A whole store under a condition leaves the value stored where it holds, and what was there before elsewhere. -/
theorem read_store_if {sp : Space} {S : Shape} {e : EltTy} (v : View sig .tc sp S e) (f : v.ty.Contents (Elt F)) (x s : S.Idx → Elt F e)
    (hs : View.read (Elt F) v f = s) (C : Prop) [Decidable C]
    {off : Fin S.rank → ℕ} (hz : off = fun _ => 0) (inb : ∀ a, off a + S.size a ≤ S.size a) :
    View.read (Elt F) v (if _h : C then v.writes (Elt F) f [⟨Rect.unit off S.size inb, x⟩] else f) = if C then x else s := by
  by_cases h : C
  · rw [dif_pos h, if_pos h, read_store_whole v f x hz]
  · rw [dif_neg h, if_neg h, hs]

/-! ## What one point computes -/

/-- The word of a table of 224 at an offset. -/
def word224 (x : S224.Idx → BitVec 32) (off : Fin 1 → ℕ) (h : ∀ a, off a + S1.size a ≤ S224.size a) : BitVec 32 :=
  x ((Rect.unit (s := S224) off S1.size h).emb (Shape.Idx.first (Nat.lt_of_lt_of_eq Nat.one_pos numel1_S1.symm)))

/-- The count of blocks that hold rows. -/
def wordNv (x : S1.Idx → BitVec 32) : BitVec 32 :=
  x ((Rect.unit (s := S1) ![0] S1.size inb_S1_S1_0).emb (Shape.Idx.first (Nat.lt_of_lt_of_eq Nat.one_pos numel1_S1.symm)))

/-- Whether the weights held are another expert's: at the first block, or where the block's expert is not the one before's. -/
def fresh (i : grid0.Coords) (be : S224.Idx → BitVec 32) : BitVec 1 :=
  Scalar.cmpi .ne (Scalar.extui (Scalar.ori (Scalar.cmpi .eq (BitVec.ofNat 32 (i 1).val) 0#32)
    (Scalar.cmpi .ne (word224 be (k0_off1 i) (k0_off1_inb i)) (word224 be (k0_off2 i) (k0_off2_inb i)))) : BitVec 32) 0#32

/-- The top and the bottom half of a weight block, the rows a word's low and high half meet. -/
def topW (w : Vec F S2048x1024 .bf16) : Vec F S1024x1024 .bf16 := View.ld w (Rect.unit (s := S2048x1024) ![0, 0] S1024x1024.size inb_S2048x1024_S1024x1024_0_0)
def botW (w : Vec F S2048x1024 .bf16) : Vec F S1024x1024 .bf16 := View.ld w (Rect.unit (s := S2048x1024) ![1024, 0] S1024x1024.size inb_S2048x1024_S1024x1024_1024_0)

/-- The block a point computes where it holds rows: the rows `x0`, `rv` of them live, against the held gate and up weights. -/
def outVal (x0 : Vec F S512x1024 .i32) (w0 w1 : Vec F S2048x1024 .bf16) (x3 x4 : Vec F S1x1x1x1024 .f32) (rv : BitVec 32) : Vec F S512x1024 .bf16 :=
  k0_pay3 (k0_pay8 x0 rv (topW w0) (botW w0) x3) (k0_pay9 x0 rv (topW w1) (botW w1)) (k0_pay10 x4)

theorem cond_compl (i : grid0.Coords) (w : BitVec 32) : k0_cond3 i w = 1#1 ↔ ¬ k0_cond2 i w = 1#1 := by
  unfold k0_cond2 k0_cond3
  dsimp only
  generalize (BitVec.ofNat 32 (i 1).val) = a
  have e1 : Scalar.cmpi .slt a w = BitVec.ofBool (a.slt w) := rfl
  have e2 : Scalar.cmpi .sge a w = BitVec.ofBool (w.sle a) := rfl
  rw [e1, e2]
  have e3 : w.sle a = !(a.slt w) := by
    simp only [BitVec.sle_eq_decide, BitVec.slt_eq_decide, ← decide_not, not_lt]
  rw [e3]
  cases a.slt w <;> decide

theorem pay8_congr {a a' : Vec F S512x1024 .i32} {r r' : Elt F .i32} {t t' b b' : Vec F S1024x1024 .bf16} {x x' : Vec F S1x1x1x1024 .f32}
    (ha : a = a') (hr : r = r') (ht : t = t') (hb : b = b') (hx : x = x') : k0_pay8 a r t b x = k0_pay8 a' r' t' b' x' := by
  subst ha hr ht hb hx; rfl
theorem pay9_congr {a a' : Vec F S512x1024 .i32} {r r' : Elt F .i32} {t t' b b' : Vec F S1024x1024 .bf16}
    (ha : a = a') (hr : r = r') (ht : t = t') (hb : b = b') : k0_pay9 a r t b = k0_pay9 a' r' t' b' := by
  subst ha hr ht hb; rfl

set_option maxHeartbeats 1000000 in
theorem body_run (c : Dev nD) (i : grid0.Coords) (arg5 : Memref sig .tc .vmem S512x1024 .i32) (harg5 : arg5.IsWhole) (arg6 : Memref sig .tc .vmem S1x1x2048x1024 .f32) (harg6 : arg6.IsWhole) (arg7 : Memref sig .tc .vmem S1x1x2048x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S512x1024 .bf16) (harg10 : arg10.IsWhole)
    (x0 : Vec F S512x1024 .i32) (x1 : Vec F S1x1x2048x1024 .f32) (x2 : Vec F S1x1x2048x1024 .f32) (x3 : Vec F S1x1x1x1024 .f32) (x4 : Vec F S1x1x1x1024 .f32) (s0 s1 : Vec F S2048x1024 .bf16) (xt0 : TbBuf0 (F := F) c tbM0_0) (xt1 : TbBuf0 (F := F) c tbM0_1) (xt2 : TbBuf0 (F := F) c tbM0_2)
    (E : Set ℕ) (K : PUnit → sProp 𝕄) :
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ (∃ d, owns (c : Thread nD τ) arg10 fullShare d) ∗ owns (c : Thread nD τ) scM0_0 fullShare s0 ∗ owns (c : Thread nD τ) scM0_1 fullShare s1 ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare
                  (if k0_cond2 i (wordNv xt1) = 1#1 then
                    outVal x0 (if fresh i xt0 = 1#1 then k0_pay1 x1 else s0) (if fresh i xt0 = 1#1 then k0_pay2 x2 else s1) x3 x4 (word224 xt2 (k0_off3 i) (k0_off3_inb i))
                  else k0_pay4) ∗ owns (c : Thread nD τ) scM0_0 fullShare (if fresh i xt0 = 1#1 then k0_pay1 x1 else s0) ∗ owns (c : Thread nD τ) scM0_1 fullShare (if fresh i xt0 = 1#1 then k0_pay2 x2 else s1) ∗ tbPt0 c tbM0_0 xt0 ∗ tbPt0 c tbM0_1 xt1 ∗ tbPt0 c tbM0_2 xt2) -∗ K ⟨⟩))
          ⊢ wp frame (wpE (defs₀ (F := F)) Variants.none c none) E (cc0_moe_up i tbM0_0 htbM0_0 tbM0_1 htbM0_1 tbM0_2 htbM0_2 arg5 harg5 arg6 harg6 arg7 harg7 arg8 harg8 arg9 harg9 arg10 harg10 scM0_0 (Memref.isWhole_whole _) scM0_1 (Memref.isWhole_whole _)) K := by
  simp only [cc0_moe_up_eq_skeleton]; unfold cc0_moe_up_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, HT2, Hk⟩
  obtain rfl := harg5.eq_unread hf0; obtain rfl := harg6.eq_unread hf1; obtain rfl := harg7.eq_unread hf2; obtain rfl := harg8.eq_unread hf3; obtain rfl := harg9.eq_unread hf4
  have e0 : View.read (Elt F) scM0_0.view (if _h : fresh i xt0 = 1#1 then scM0_0.view.writes (Elt F) fs0
      [⟨Rect.unit ![0, 0] S2048x1024.size inb_S2048x1024_S2048x1024_0_0,
        k0_pay1 (View.readAt (Elt F) arg6.view (Rect.unit ![0, 0, 0, 0] S1x1x2048x1024.size inb_S1x1x2048x1024_S1x1x2048x1024_0_0_0_0).toLoadRect (harg6.unread x1))⟩] else fs0)
      = if fresh i xt0 = 1#1 then k0_pay1 x1 else s0 := by
    rw [load_whole arg6 harg6 x1 hz4]
    exact read_store_if scM0_0.view fs0 _ s0 hs0 _ hz2 _
  have e1 : View.read (Elt F) scM0_1.view (if _h : fresh i xt0 = 1#1 then scM0_1.view.writes (Elt F) fs1
      [⟨Rect.unit ![0, 0] S2048x1024.size inb_S2048x1024_S2048x1024_0_0,
        k0_pay2 (View.readAt (Elt F) arg7.view (Rect.unit ![0, 0, 0, 0] S1x1x2048x1024.size inb_S1x1x2048x1024_S1x1x2048x1024_0_0_0_0).toLoadRect (harg7.unread x2))⟩] else fs1)
      = if fresh i xt0 = 1#1 then k0_pay2 x2 else s1 := by
    rw [load_whole arg7 harg7 x2 hz4]
    exact read_store_if scM0_1.view fs1 _ s1 hs1 _ hz2 _
  sl_exec
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  isplitl [H5]
  · iexists _; isplitr
    swap; · iexact H5
    ipureintro
    by_cases h2 : k0_cond2 i (wordNv xt1) = 1#1
    · have h3 : ¬ k0_cond3 i (wordNv xt1) = 1#1 := fun h => (cond_compl i _).mp h h2
      refine (congrArg (View.read (Elt F) arg10.view) ((dif_neg h3).trans (dif_pos h2))).trans ?_
      rw [if_pos h2]
      refine (read_store_whole arg10.view f5 _ hz2 inb_S512x1024_S512x1024_0_0).trans ?_
      sl_unfold_words
      unfold outVal topW botW
      refine congr (congrArg₂ k0_pay3 ?_ ?_) (congrArg k0_pay10 (load_whole arg9 harg9 x4 hz4 _))
      · refine pay8_congr (load_whole arg5 harg5 x0 hz2 _) rfl ?_ ?_ (load_whole arg8 harg8 x3 hz4 _)
        · exact congrArg (fun w => View.ld w (Rect.unit (s := S2048x1024) ![0, 0] S1024x1024.size inb_S2048x1024_S1024x1024_0_0)) e0
        · exact congrArg (fun w => View.ld w (Rect.unit (s := S2048x1024) ![1024, 0] S1024x1024.size inb_S2048x1024_S1024x1024_1024_0)) e0
      · refine pay9_congr (load_whole arg5 harg5 x0 hz2 _) rfl ?_ ?_
        · exact congrArg (fun w => View.ld w (Rect.unit (s := S2048x1024) ![0, 0] S1024x1024.size inb_S2048x1024_S1024x1024_0_0)) e1
        · exact congrArg (fun w => View.ld w (Rect.unit (s := S2048x1024) ![1024, 0] S1024x1024.size inb_S2048x1024_S1024x1024_1024_0)) e1
    · have h3 : k0_cond3 i (wordNv xt1) = 1#1 := (cond_compl i _).mpr h2
      refine (congrArg (View.read (Elt F) arg10.view) (dif_pos h3)).trans ?_
      rw [if_neg h2]
      exact read_store_whole arg10.view _ _ hz2 inb_S512x1024_S512x1024_0_0
  isplitl [HS0]
  · iexists _; isplitr
    swap; · iexact HS0
    ipureintro; exact e0
  isplitl [HS1]
  · iexists _; isplitr
    swap; · iexact HS1
    ipureintro; exact e1
  isplitl [HT0]; · iexact HT0
  isplitl [HT1]; · iexact HT1
  iexact HT2

end Cert.KernelIdeal.Up

end
-- ==== Proof.UpFrame.lean ====
/-
  The expert product (gate and up): its run. A point finds the weights of its expert in the two scratches, rounded, where
  the block before was the same expert's, and puts them there where it was not; so after every point the scratches hold
  the point's own weight blocks rounded, and that is what is carried from point to point.
-/
module

public import proofs.«01_k».proof.Proof.UpBody
public import Idealize.ShloMosaic.Lib.Claim

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points, and the words the blocks are chosen by -/

theorem coord0 (t : Fin grid0.N) : ((grid0.coords t) 0).val = t.val / 224 :=
  (by decide +kernel : ∀ t : Fin grid0.N, ((grid0.coords t) 0).val = t.val / 224) t
theorem coord1 (t : Fin grid0.N) : ((grid0.coords t) 1).val = t.val % 224 :=
  (by decide +kernel : ∀ t : Fin grid0.N, ((grid0.coords t) 1).val = t.val % 224) t
theorem off1_at (t : Fin grid0.N) : k0_off1 (grid0.coords t) 0 = t.val % 224 :=
  (by decide +kernel : ∀ t : Fin grid0.N, k0_off1 (grid0.coords t) 0 = t.val % 224) t
theorem off2_at (t : Fin grid0.N) : k0_off2 (grid0.coords t) 0 = t.val % 224 - 1 :=
  (by decide +kernel : ∀ t : Fin grid0.N, k0_off2 (grid0.coords t) 0 = t.val % 224 - 1) t
theorem off3_at (t : Fin grid0.N) : k0_off3 (grid0.coords t) 0 = t.val % 224 :=
  (by decide +kernel : ∀ t : Fin grid0.N, k0_off3 (grid0.coords t) 0 = t.val % 224) t
theorem first_block (t : Fin grid0.N) (h : t.val % 224 = 0) : Scalar.cmpi .eq (BitVec.ofNat 32 ((grid0.coords t) 1).val) 0#32 = 1#1 :=
  (by decide +kernel : ∀ t : Fin grid0.N, t.val % 224 = 0 → Scalar.cmpi .eq (BitVec.ofNat 32 ((grid0.coords t) 1).val) 0#32 = 1#1) t h

/-- A table's word at an offset is its entry there. -/
theorem word224_eq (x : S224.Idx → BitVec 32) (off : Fin 1 → ℕ) (h : ∀ a, off a + S1.size a ≤ S224.size a) (b : S224.Idx) (hb : (b 0).val = off 0) :
    word224 x off h = x b := by
  unfold word224
  congr 1
  funext a
  apply Fin.ext
  match a with
  | ⟨0, _⟩ => show off 0 + 1 * 0 = (b 0).val; omega

/-- The index `k` of a table. -/
def at224 (k : ℕ) (h : k < 224) : S224.Idx := fun a => match a with | ⟨0, _⟩ => (⟨k, h⟩ : Fin 224)

/-- The word of point `t` in a table `be`: its expert. -/
abbrev expW (be : S224.Idx → BitVec 32) (t : Fin grid0.N) : BitVec 32 := word224 be (k0_off1 (grid0.coords t)) (k0_off1_inb (grid0.coords t))

/-- Where the held weights are kept, the block is not the first and the one before is the same expert's. -/
theorem kept (be : S224.Idx → BitVec 32) (n : ℕ) (hn : n + 1 < grid0.N) (h : ¬ fresh (grid0.coords ⟨n + 1, hn⟩) be = 1#1) :
    (n + 1) % 224 ≠ 0 ∧ expW be ⟨n + 1, hn⟩ = expW be ⟨n, Nat.lt_of_succ_lt hn⟩ := by
  have key : ∀ (a b : BitVec 1), ¬ Scalar.cmpi .ne (Scalar.extui (Scalar.ori a b) : BitVec 32) 0#32 = 1#1 → a = 0#1 ∧ b = 0#1 := by decide
  obtain ⟨ha, hb⟩ := key _ _ h
  have h0 : (n + 1) % 224 ≠ 0 := fun h0 => by
    have := first_block ⟨n + 1, hn⟩ h0
    rw [this] at ha
    exact absurd ha (by decide)
  refine ⟨h0, ?_⟩
  have e : word224 be (k0_off1 (grid0.coords ⟨n + 1, hn⟩)) (k0_off1_inb _) = word224 be (k0_off2 (grid0.coords ⟨n + 1, hn⟩)) (k0_off2_inb _) := by
    by_contra hne
    have : Scalar.cmpi .ne (word224 be (k0_off1 (grid0.coords ⟨n + 1, hn⟩)) (k0_off1_inb _)) (word224 be (k0_off2 (grid0.coords ⟨n + 1, hn⟩)) (k0_off2_inb _)) = 1#1 := by
      show BitVec.ofBool (_ != _) = 1#1
      rw [bne_iff_ne.mpr hne]; rfl
    rw [this] at hb
    exact absurd hb (by decide)
  refine e.trans ?_
  have hlt : n % 224 < 224 := Nat.mod_lt _ (by decide)
  rw [word224_eq be _ _ (at224 (n % 224) hlt) (by rw [off2_at]; show n % 224 = (n + 1) % 224 - 1; omega)]
  exact (word224_eq be _ _ (at224 (n % 224) hlt) (off1_at ⟨n, Nat.lt_of_succ_lt hn⟩).symm).symm

/-! ## The weight blocks -/

theorem read1_eq (a : (pcfg0 (F := F)).Adm) (t : Fin grid0.N) (f : S2x32x2048x4096.Idx → Elt F .f32) (y : S1x1x2048x1024.Idx) (z : S2x32x2048x4096.Idx)
    (hz : ∀ d, (z d).val = cc0_transform_1 k0_off1_inb numel1_S1 a.1 (grid0.coords t) d * S1x1x2048x1024.size d + (y d).val) :
    (((cfg0 a).win 1).blk t).view.read (Elt F) f y = f z := by
  show f _ = f z
  congr 1
  funext d
  apply Fin.ext
  rw [hz d]
  show cc0_transform_1 k0_off1_inb numel1_S1 a.1 (grid0.coords t) d * S1x1x2048x1024.size d + 1 * (y d).val = _
  rw [Nat.one_mul]
/-- A point's gate weights: the block of its expert. -/
theorem iblk1_eq (hO : Ok m) (c : Dev nD) (t : Fin grid0.N) (y : S1x1x2048x1024.Idx) (z : S2x32x2048x4096.Idx)
    (hz : ∀ a, (z a).val = cc0_transform_1 k0_off1_inb numel1_S1 (tbl m) (grid0.coords t) a * S1x1x2048x1024.size a + (y a).val) :
    (iblk m hO c 1 t : Vec F S1x1x2048x1024 .f32) y = V m c main_arg2 z :=
  read1_eq (adm m hO) t (V m c main_arg2) y z hz
theorem read2_eq (a : (pcfg0 (F := F)).Adm) (t : Fin grid0.N) (f : S2x32x2048x4096.Idx → Elt F .f32) (y : S1x1x2048x1024.Idx) (z : S2x32x2048x4096.Idx)
    (hz : ∀ d, (z d).val = cc0_transform_2 k0_off1_inb numel1_S1 a.1 (grid0.coords t) d * S1x1x2048x1024.size d + (y d).val) :
    (((cfg0 a).win 2).blk t).view.read (Elt F) f y = f z := by
  show f _ = f z
  congr 1
  funext d
  apply Fin.ext
  rw [hz d]
  show cc0_transform_2 k0_off1_inb numel1_S1 a.1 (grid0.coords t) d * S1x1x2048x1024.size d + 1 * (y d).val = _
  rw [Nat.one_mul]
/-- A point's up weights. -/
theorem iblk2_eq (hO : Ok m) (c : Dev nD) (t : Fin grid0.N) (y : S1x1x2048x1024.Idx) (z : S2x32x2048x4096.Idx)
    (hz : ∀ a, (z a).val = cc0_transform_2 k0_off1_inb numel1_S1 (tbl m) (grid0.coords t) a * S1x1x2048x1024.size a + (y a).val) :
    (iblk m hO c 2 t : Vec F S1x1x2048x1024 .f32) y = V m c main_arg2 z :=
  read2_eq (adm m hO) t (V m c main_arg2) y z hz

/-- The block of the weights a point reads. -/
theorem ix1_at (t : Fin grid0.N) : ∀ pf : pre0.Contents (Elt F), cc0_transform_1 k0_off1_inb numel1_S1 pf (grid0.coords t)
    = ![1, (word224 (pf 0) (k0_off1 (grid0.coords t)) (k0_off1_inb (grid0.coords t))).toNat, 0, (BitVec.ofNat 32 ((grid0.coords t) 0).val).toNat] := fun _ => rfl
theorem ix2_at (t : Fin grid0.N) : ∀ pf : pre0.Contents (Elt F), cc0_transform_2 k0_off1_inb numel1_S1 pf (grid0.coords t)
    = ![1, (word224 (pf 0) (k0_off1 (grid0.coords t)) (k0_off1_inb (grid0.coords t))).toNat, 0, (Scalar.addi 2#32 (BitVec.ofNat 32 ((grid0.coords t) 0).val)).toNat] := fun _ => rfl
theorem ix1_congr (pf : pre0.Contents (Elt F)) (n : ℕ) (hn : n + 1 < grid0.N) (h0 : (n + 1) % 224 ≠ 0)
    (he : expW (pf 0) ⟨n + 1, hn⟩ = expW (pf 0) ⟨n, Nat.lt_of_succ_lt hn⟩) :
    cc0_transform_1 k0_off1_inb numel1_S1 pf (grid0.coords ⟨n + 1, hn⟩) = cc0_transform_1 k0_off1_inb numel1_S1 pf (grid0.coords ⟨n, Nat.lt_of_succ_lt hn⟩) := by
  have hc : ((grid0.coords ⟨n + 1, hn⟩) 0).val = ((grid0.coords ⟨n, Nat.lt_of_succ_lt hn⟩) 0).val :=
    (coord0 ⟨n + 1, hn⟩).trans ((show (n + 1) / 224 = n / 224 by omega).trans (coord0 ⟨n, Nat.lt_of_succ_lt hn⟩).symm)
  refine (ix1_at ⟨n + 1, hn⟩ _).trans (Eq.trans ?_ (ix1_at ⟨n, Nat.lt_of_succ_lt hn⟩ _).symm)
  rw [hc]
  exact congrArg (fun w : BitVec 32 => ![1, w.toNat, 0, _]) he
theorem ix2_congr (pf : pre0.Contents (Elt F)) (n : ℕ) (hn : n + 1 < grid0.N) (h0 : (n + 1) % 224 ≠ 0)
    (he : expW (pf 0) ⟨n + 1, hn⟩ = expW (pf 0) ⟨n, Nat.lt_of_succ_lt hn⟩) :
    cc0_transform_2 k0_off1_inb numel1_S1 pf (grid0.coords ⟨n + 1, hn⟩) = cc0_transform_2 k0_off1_inb numel1_S1 pf (grid0.coords ⟨n, Nat.lt_of_succ_lt hn⟩) := by
  have hc : ((grid0.coords ⟨n + 1, hn⟩) 0).val = ((grid0.coords ⟨n, Nat.lt_of_succ_lt hn⟩) 0).val :=
    (coord0 ⟨n + 1, hn⟩).trans ((show (n + 1) / 224 = n / 224 by omega).trans (coord0 ⟨n, Nat.lt_of_succ_lt hn⟩).symm)
  refine (ix2_at ⟨n + 1, hn⟩ _).trans (Eq.trans ?_ (ix2_at ⟨n, Nat.lt_of_succ_lt hn⟩ _).symm)
  rw [hc]
  exact congrArg (fun w : BitVec 32 => ![1, w.toNat, 0, _]) he

/-- A point's index into the weights, inside them. -/
def wIdx1 (hO : Ok m) (t : Fin grid0.N) (y : S1x1x2048x1024.Idx) : S2x32x2048x4096.Idx := fun a =>
  ⟨cc0_transform_1 k0_off1_inb numel1_S1 (tbl m) (grid0.coords t) a * S1x1x2048x1024.size a + (y a).val, by
    have h := (hO.1 (grid0.coords t)).elim fun h _ => h a
    have := (y a).isLt
    rw [Nat.add_mul, Nat.one_mul] at h
    omega⟩
def wIdx2 (hO : Ok m) (t : Fin grid0.N) (y : S1x1x2048x1024.Idx) : S2x32x2048x4096.Idx := fun a =>
  ⟨cc0_transform_2 k0_off1_inb numel1_S1 (tbl m) (grid0.coords t) a * S1x1x2048x1024.size a + (y a).val, by
    have h := (hO.2.1 (grid0.coords t)).elim fun h _ => h a
    have := (y a).isLt
    rw [Nat.add_mul, Nat.one_mul] at h
    omega⟩

/-- The gate and up weights a point multiplies by, rounded. -/
def gateW (hO : Ok m) (c : Dev nD) (t : Fin grid0.N) : Vec F S2048x1024 .bf16 := k0_pay1 (iblk m hO c 1 t : Vec F S1x1x2048x1024 .f32)
def upW (hO : Ok m) (c : Dev nD) (t : Fin grid0.N) : Vec F S2048x1024 .bf16 := k0_pay2 (iblk m hO c 2 t : Vec F S1x1x2048x1024 .f32)

/-- Where they are kept they are the point's own. -/
theorem gateW_kept (hO : Ok m) (c : Dev nD) (n : ℕ) (hn : n + 1 < grid0.N) (h : ¬ fresh (grid0.coords ⟨n + 1, hn⟩) (tbl m 0) = 1#1) :
    gateW m hO c ⟨n, Nat.lt_of_succ_lt hn⟩ = gateW m hO c ⟨n + 1, hn⟩ := by
  obtain ⟨h0, he⟩ := kept (tbl m 0) n hn h
  unfold gateW
  refine congrArg k0_pay1 (funext fun y => ?_)
  rw [iblk1_eq m hO c ⟨n + 1, hn⟩ y (wIdx1 m hO ⟨n + 1, hn⟩ y) (fun _ => rfl)]
  exact iblk1_eq m hO c ⟨n, Nat.lt_of_succ_lt hn⟩ y _ (fun a => congrArg (fun g : Fin 4 → ℕ => g a * S1x1x2048x1024.size a + (y a).val) (ix1_congr (tbl m) n hn h0 he))
theorem upW_kept (hO : Ok m) (c : Dev nD) (n : ℕ) (hn : n + 1 < grid0.N) (h : ¬ fresh (grid0.coords ⟨n + 1, hn⟩) (tbl m 0) = 1#1) :
    upW m hO c ⟨n, Nat.lt_of_succ_lt hn⟩ = upW m hO c ⟨n + 1, hn⟩ := by
  obtain ⟨h0, he⟩ := kept (tbl m 0) n hn h
  unfold upW
  refine congrArg k0_pay2 (funext fun y => ?_)
  rw [iblk2_eq m hO c ⟨n + 1, hn⟩ y (wIdx2 m hO ⟨n + 1, hn⟩ y) (fun _ => rfl)]
  exact iblk2_eq m hO c ⟨n, Nat.lt_of_succ_lt hn⟩ y _ (fun a => congrArg (fun g : Fin 4 → ℕ => g a * S1x1x2048x1024.size a + (y a).val) (ix2_congr (tbl m) n hn h0 he))

/-! ## The proof data -/

/-- What a point leaves in the output block. -/
def outAt (hO : Ok m) (c : Dev nD) (t : Fin grid0.N) : Vec F S512x1024 .bf16 :=
  if k0_cond2 (grid0.coords t) (wordNv (tbl m 1)) = 1#1 then
    outVal (iblk m hO c 0 t) (gateW m hO c t) (upW m hO c t) (iblk m hO c 3 t) (iblk m hO c 4 t)
      (word224 (tbl m 2) (k0_off3 (grid0.coords t)) (k0_off3_inb (grid0.coords t)))
  else k0_pay4

/-- What is carried: before the first point nothing, after a point its weights in the two scratches; and the tables. -/
def PhiS (hO : Ok m) (c : Dev nD) : (n : ℕ) → n ≤ grid0.N → sProp 𝕄
  | 0, _ => iprop(Pipeline.ΦA spec0 c ∗ Pipeline.ΦT pre0 (tbl m) c)
  | n + 1, hn => iprop(iprop(iprop(owns (c : Thread nD τ) scM0_0 fullShare (gateW m hO c ⟨n, hn⟩) ∗ owns (c : Thread nD τ) scM0_1 fullShare (upW m hO c ⟨n, hn⟩)) ∗ (∃ r, prngReg c r)) ∗ Pipeline.ΦT pre0 (tbl m) c)

/-- The proof data: the arrays as the region finds them, the blocks a point leaves, and what is carried. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := PhiS m hO c t.val (Nat.le_of_lt_succ t.isLt)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-- A body that leaves each block as the data say, at points that write back what they may leave alone, meets its
    obligation. -/
theorem obligation_of {cfg : Cfg sig Λ₀} {c : Dev nD} (dat : Dat τ (Elt F) Unit ℕ (UR sig nD τ) ℕ cfg c)
    (hl : ∀ w t, cfg.idle w (cfg.grid.coords t) = true → (cfg.win w).flush t = true)
    (h : ∀ t : Fin cfg.N, iprop(dat.Φ t.castSucc ∗ dat.owesAt () t.castSucc
        ∗ bigSep Finset.univ fun w : Fin cfg.W => iprop(∃ d, owns c ((cfg.win w).stage (cfg.slots t w)) fullShare (dat.before w t d)))
      ⊢ wp frame (wpE (defs₀ (F := F)) Variants.none c none) Set.univ ((defs₀ (F := F)) .tc cfg.body (cfg.bodyArgs t (cfg.slots t))) fun _ =>
          iprop(dat.Φ t.succ ∗ dat.owesAt () t.succ
            ∗ bigSep Finset.univ fun w : Fin cfg.W => owns c ((cfg.win w).stage (cfg.slots t w)) fullShare (dat.after w t))) :
    BodyObligation dat (defs₀ (F := F)) Variants.none () Set.univ := fun t => by
  have e : ∀ w, dat.leavesExact w t = owns c ((cfg.win w).stage (cfg.slots t w)) fullShare (dat.after w t) := fun w => by
    unfold Dat.leavesExact
    split
    · rename_i hi; rw [hl w t hi]
    · rfl
  exact triple_restated (h t) rfl .rfl fun _ => by rw [← funext e]

/-- The only block a point may leave alone is the output's, which is written back at every point. -/
theorem idle_flush (a : (pcfg0 (F := F)).Adm) : ∀ (w : Fin 6) (t : Fin (cfg0 a).N), (cfg0 a).idle w ((cfg0 a).grid.coords t) = true → ((cfg0 a).win w).flush t = true
  | ⟨0, _⟩, _, h => absurd (show false = true from h) (by decide)
  | ⟨1, _⟩, _, h => absurd (show false = true from h) (by decide)
  | ⟨2, _⟩, _, h => absurd (show false = true from h) (by decide)
  | ⟨3, _⟩, _, h => absurd (show false = true from h) (by decide)
  | ⟨4, _⟩, _, h => absurd (show false = true from h) (by decide)
  | ⟨5, _⟩, t, _ => flush0_5 a t

theorem PhiS_zero (hO : Ok m) (c : Dev nD) (n : ℕ) (h : n ≤ grid0.N) (hz : n = 0) :
    PhiS m hO c n h = iprop(Pipeline.ΦA spec0 c ∗ Pipeline.ΦT pre0 (tbl m) c) := by subst hz; rfl
theorem PhiS_succ (hO : Ok m) (c : Dev nD) (n : ℕ) (hn : n < grid0.N) :
    PhiS m hO c (n + 1) hn = iprop(iprop(iprop(owns (c : Thread nD τ) scM0_0 fullShare (gateW m hO c ⟨n, hn⟩) ∗ owns (c : Thread nD τ) scM0_1 fullShare (upW m hO c ⟨n, hn⟩)) ∗ (∃ r, prngReg c r)) ∗ Pipeline.ΦT pre0 (tbl m) c) := rfl

/-! ## The body at a point -/

/-- What the body is called with at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

/-- From scratches `s0`, `s1` that are the point's weights wherever they are kept. -/
theorem sound_from (hO : Ok m) (c : Dev nD) (t : Fin (cfgM m hO).N) (s0 s1 : Vec F S2048x1024 .bf16)
    (h0 : ¬ fresh (grid0.coords t) (tbl m 0) = 1#1 → s0 = gateW m hO c t) (h1 : ¬ fresh (grid0.coords t) (tbl m 0) = 1#1 → s1 = upW m hO c t) :
    iprop((iprop(iprop(owns (c : Thread nD τ) scM0_0 fullShare s0 ∗ owns (c : Thread nD τ) scM0_1 fullShare s1) ∗ (∃ r, prngReg c r)) ∗ Pipeline.ΦT pre0 (tbl m) c)
      ∗ (dats m hO 0 c).owesAt () t.castSucc
      ∗ (∃ d, owns (c : Thread nD τ) (ms0_0 m hO t) fullShare ((dats m hO 0 c).before 0 t d))
      ∗ (∃ d, owns (c : Thread nD τ) (ms0_1 m hO t) fullShare ((dats m hO 0 c).before 1 t d))
      ∗ (∃ d, owns (c : Thread nD τ) (ms0_2 m hO t) fullShare ((dats m hO 0 c).before 2 t d))
      ∗ (∃ d, owns (c : Thread nD τ) (ms0_3 m hO t) fullShare ((dats m hO 0 c).before 3 t d))
      ∗ (∃ d, owns (c : Thread nD τ) (ms0_4 m hO t) fullShare ((dats m hO 0 c).before 4 t d))
      ∗ (∃ d, owns (c : Thread nD τ) (ms0_5 m hO t) fullShare ((dats m hO 0 c).before 5 t d)))
      ⊢ wp frame (wpE (defs₀ (F := F)) Variants.none c none) Set.univ (bodyAt0 (adm m hO) t) (fun _ => bodyPost m hO c t) := by
  have g0 : (if fresh (grid0.coords t) (tbl m 0) = 1#1 then k0_pay1 (iblk m hO c 1 t : Vec F S1x1x2048x1024 .f32) else s0) = gateW m hO c t := by
    by_cases h : fresh (grid0.coords t) (tbl m 0) = 1#1
    · rw [if_pos h]; rfl
    · rw [if_neg h]; exact h0 h
  have g1 : (if fresh (grid0.coords t) (tbl m 0) = 1#1 then k0_pay2 (iblk m hO c 2 t : Vec F S1x1x2048x1024 .f32) else s1) = upW m hO c t := by
    by_cases h : fresh (grid0.coords t) (tbl m 0) = 1#1
    · rw [if_pos h]; rfl
    · rw [if_neg h]; exact h1 h
  unfold bodyPost bodyAt0
  rw [after0_5]
  unfold outAt
  simp only [before0_0, before0_1, before0_2, before0_3, before0_4]
  rw [show (dats m hO 0 c).Φ t.succ = PhiS m hO c (t.val + 1) t.isLt from rfl, PhiS_succ m hO c t.val t.isLt,
    show (dats m hO 0 c).owesAt () t.succ = (dats m hO 0 c).owesAt () t.castSucc from rfl,
    after0_0, after0_1, after0_2, after0_3, after0_4, PhiT0_eq]
  rw [show gateW m hO c ⟨t.val, t.isLt⟩ = gateW m hO c t from rfl, show upW m hO c ⟨t.val, t.isLt⟩ = upW m hO c t from rfl, ← g0, ← g1]
  iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ (iblk m hO c 0 t) (iblk m hO c 1 t) (iblk m hO c 2 t) (iblk m hO c 3 t) (iblk m hO c 4 t) s0 s1 (tbl m 0) (tbl m 1) (tbl m 2) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  isplitl [HT1]; · iexact HT1
  isplitl [HT2]; · iexact HT2
  iintro ⟨H0, H1, H2, H3, H4, H5, HS0, HS1, HT0, HT1, HT2⟩
  isplitl [HS0 HS1 Hg HT0 HT1 HT2]
  · isplitl [HS0 HS1 Hg]
    · isplitl [HS0 HS1]
      · isplitl [HS0]
        · iexact HS0
        iexact HS1
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  iexact H5

/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre
  rcases t with ⟨n, hn⟩
  cases n with
  | zero =>
    have hf : fresh (grid0.coords (⟨0, hn⟩ : Fin grid0.N)) (tbl m 0) = 1#1 := by
      unfold fresh
      rw [first_block ⟨0, hn⟩ rfl]
      exact (by decide : ∀ b : BitVec 1, Scalar.cmpi .ne (Scalar.extui (Scalar.ori 1#1 b) : BitVec 32) 0#32 = 1#1) _
    rw [show (dats m hO 0 c).Φ (Fin.castSucc ⟨0, hn⟩) = PhiS m hO c 0 (Nat.zero_le _) from rfl, PhiS_zero m hO c 0 _ rfl, PhiA0_eq]
    iintro ⟨⟨⟨⟨⟨%s0, HS0⟩, ⟨%s1, HS1⟩⟩, Hg⟩, HT⟩, H⟩
    iapply (sound_from m hO c ⟨0, hn⟩ s0 s1 (fun h => absurd hf h) (fun h => absurd hf h))
    isplitr [H]
    · isplitr [HT]
      · isplitr [Hg]
        · isplitl [HS0]
          · iexact HS0
          iexact HS1
        iexact Hg
      iexact HT
    iexact H
  | succ n =>
    rw [show (dats m hO 0 c).Φ (Fin.castSucc ⟨n + 1, hn⟩) = PhiS m hO c (n + 1) (Nat.le_of_lt hn) from rfl, PhiS_succ m hO c n (Nat.lt_of_succ_lt hn)]
    exact sound_from m hO c ⟨n + 1, hn⟩ _ _ (gateW_kept m hO c n hn) (upW_kept m hO c n hn)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 2000000 in
theorem body_obligation (hO : Ok m) (c : Dev nD) : BodyObligation (dats (F := F) m hO 0 c) (defs₀ (F := F)) Variants.none () Set.univ := obligation_of _ (idle_flush (adm m hO)) fun t => by
  rw [bigSep_W0, bigSep_W0, defs₀_row m hO]
  exact triple_restated (sound_body m hO c t) rfl .rfl fun _ => .rfl

/-- What the launch hands over is what is carried before the first point, -/
theorem hin (hO : Ok m) (c : Dev nD) : iprop(Pipeline.ΦA spec0 c ∗ Pipeline.ΦT pre0 (tbl m) c) ⊢ (dats m hO 0 c).Φ 0 :=
  Idealize.SL.BI.Entails.refl _

/-- and after the last point the scratches are given back. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (447 + 1) (by decide) from rfl, PhiS_succ m hO c 447 (by decide), PhiA0_eq]
  iintro ⟨⟨⟨HS0, HS1⟩, Hg⟩, -⟩
  isplitr [Hg]
  · isplitl [HS0]
    · iexists _; iexact HS0
    iexists _; iexact HS1
  iexact Hg

/-! ## The run and the frame -/

set_option maxHeartbeats 2000000 in
set_option backward.isDefEq.respectTransparency.types false in
/-- From any memory the program runs to its end, each array of the pipeline as the proof data say, the counters at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.KernelIdeal.Up

end
-- ==== Proof.UpRef.lean ====
/-
  The expert product (gate and up): its reference. The counts of tokens per expert give where each expert's padded rows
  end; of these come, for each block of 512 rows, the expert whose rows it holds and how many of them are tokens, and the
  number of blocks in use. Each block is multiplied by the weights of its expert.
-/
module

public import proofs.«01_k».proof.Defs
public import proofs.«01_k».proof.Proof.Gen.ReferenceIdeal.Run
public import Idealize.ShloMosaic.Lib.Pointwise
public import Idealize.ShloMosaic.Lib.Routing.Ops
public import Idealize.ShloMosaic.Lib.Tactic.CleanTypes

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen

variable {F : FTy → Type} [FloatOps F]

/-! ## The tables, of the counts -/

def up511 (n : IVec S32 32) : IVec S32 32 := subi (addi n (broadcastInDim S32 ![] bcast_S_S32 (constantI S_ 32 512#32))) (broadcastInDim S32 ![] bcast_S_S32 (constantI S_ 32 1#32))
/-- The blocks each expert's tokens take: the count divided by 512, rounded up. -/
def blocks (n : IVec S32 32) : IVec S32 32 := select (andi (cmpi .ne (signi (up511 n)) (broadcastInDim S32 ![] bcast_S_S32 (signi (id (constantI S_ 32 512#32))))) (cmpi .ne (Host.remsi (up511 n) (broadcastInDim S32 ![] bcast_S_S32 (id (constantI S_ 32 512#32)))) (broadcastInDim S32 ![] bcast_S_S32 (constantI S_ 32 0#32)))) (subi (Host.divsi (up511 n) (broadcastInDim S32 ![] bcast_S_S32 (id (constantI S_ 32 512#32)))) (broadcastInDim S32 ![] bcast_S_S32 (constantI S_ 32 1#32))) (Host.divsi (up511 n) (broadcastInDim S32 ![] bcast_S_S32 (id (constantI S_ 32 512#32))))
/-- The rows they take. -/
def padded (n : IVec S32 32) : IVec S32 32 := muli (blocks n) (broadcastInDim S32 ![] bcast_S_S32 (constantI S_ 32 512#32))
/-- Where each expert's rows end. -/
def padEnd (n : IVec S32 32) : IVec S32 32 := Host.reduceWindow IntOp.addi ![32] ![1] ![31] ![0] (padded n) (broadcastInDim S_ ![] bcast_S_S_ (constantI S_ 32 0#32)) reduceWindows_S32_S32_w32s1p31_0 h_S_
def lastEnd (n : IVec S32 32) : IVec S_ 32 := shapeCast _ (extractStridedSlice S1 ![31] (padEnd n) slices_S32_S1_31) shapeCasts_S1_S_
/-- The number of blocks in use. -/
def nvOf (n : IVec S32 32) : IVec S1 32 := shapeCast _ (select (andi (cmpi .ne (signi (lastEnd n)) (signi (id (constantI S_ 32 512#32)))) (cmpi .ne (Host.remsi (lastEnd n) (id (constantI S_ 32 512#32))) (constantI S_ 32 0#32))) (subi (Host.divsi (lastEnd n) (id (constantI S_ 32 512#32))) (constantI S_ 32 1#32)) (Host.divsi (lastEnd n) (id (constantI S_ 32 512#32)))) shapeCasts_S_S1
/-- The expert of each block. -/
def beOf (n : IVec S32 32) : IVec S224 32 := minsi (Host.reduce IntOp.addi (extui 32 (cmpi .sge (broadcastInDim S224x32 ![0, 1] bcast_S224x1_S224x32_0_1 (broadcastInDim S224x1 ![0] bcast_S224_S224x1_0 (muli (iotaInDim S224 32 0) (broadcastInDim S224 ![] bcast_S_S224 (constantI S_ 32 512#32))))) (broadcastInDim S224x32 ![0, 1] bcast_S1x32_S224x32_0_1 (broadcastInDim S1x32 ![1] bcast_S32_S1x32_1 (padEnd n)))) natLt_1_32) (constantI S_ 32 0#32) reducesTo_S224x32_S224_d1 h_S_) (broadcastInDim S224 ![] bcast_S_S224 (constantI S_ 32 31#32))
/-- An expert's number as the gathers read it. -/
def wrapped (be : IVec S224 32) : IVec S224x1 32 := broadcastInDim S224x1 ![0] bcast_S224_S224x1_0 (select (cmpi .slt be (broadcastInDim S224 ![] bcast_S_S224 (constantI S_ 32 0#32))) (addi be (broadcastInDim S224 ![] bcast_S_S224 (constantI S_ 32 32#32))) be)
/-- The tokens of each block. -/
def rvOf (n : IVec S32 32) (be : IVec S224 32) : IVec S224 32 := minsi (broadcastInDim S224 ![] bcast_S_S224 (id (constantI S_ 32 512#32))) (maxsi (broadcastInDim S224 ![] bcast_S_S224 (id (constantI S_ 32 0#32))) (subi (addi (Host.gather gather_S32_S224x1_S224_n_0_n_n_0_1_1 (subi (padEnd n) (padded n)) (wrapped be)) (Host.gather gather_S32_S224x1_S224_n_0_n_n_0_1_1 n (wrapped be))) (muli (iotaInDim S224 32 0) (broadcastInDim S224 ![] bcast_S_S224 (constantI S_ 32 512#32)))))

/-! ## The result, of the arguments and the tables -/

/-- A block's rows: the words as numbers, the rows that are no tokens zero. -/
def rowsOf (xs : Vec F S114688x1024 .i32) (rv : IVec S224 32) : Vec F S224x512x2048 .f32 := select (broadcastInDim S224x512x2048 ![0, 1, 2] bcast_S224x512x1_S224x512x2048_0_1_2 (broadcastInDim S224x512x1 ![0, 1] bcast_S224x512_S224x512x1_0_1 (cmpi .slt (broadcastInDim S224x512 ![0, 1] bcast_S1x512_S224x512_0_1 (broadcastInDim S1x512 ![1] bcast_S512_S1x512_1 (iotaInDim S512 32 0))) (broadcastInDim S224x512 ![0, 1] bcast_S224x1_S224x512_0_1 (broadcastInDim S224x1 ![0] bcast_S224_S224x1_0 rv))))) (shapeCast _ (concatenate S114688x2048 1 [⟨S114688x1024, (bitcastToFloat (F := F) .f32 (Host.shli xs (broadcastInDim S114688x1024 ![] bcast_S_S114688x1024 (constantI S_ 32 16#32))))⟩, ⟨S114688x1024, (bitcastToFloat (F := F) .f32 (andi xs (broadcastInDim S114688x1024 ![] bcast_S_S114688x1024 (constantI S_ 32 4294901760#32))))⟩] concatenates_S114688x1024_S114688x1024_S114688x2048_d1) shapeCasts_S114688x2048_S224x512x2048) (broadcastInDim S224x512x2048 ![] bcast_S_S224x512x2048 (id (constant S_ .f32 0x00000000#32)))
/-- A block's rows by its expert's weights, and the bias. -/
def gateUp (xs : Vec F S114688x1024 .i32) (be rv : IVec S224 32) (wgu : Vec F S2x32x2048x4096 .f32) (bgu : Vec F S2x32x4096 .f32) : Vec F S224x512x4096 .f32 := addf (Host.dotGeneral dot_S224x512x2048_S224x2048x4096_S224x512x4096_2_1_1_2_0_0 none (rowsOf xs rv) (Host.gather gather_S32x2048x4096_S224x1_S224x2048x4096_12_0_n_n_0_1_120484096 (shapeCast _ (extractStridedSlice S1x32x2048x4096 ![1, 0, 0, 0] wgu slices_S2x32x2048x4096_S1x32x2048x4096_1_0_0_0) shapeCasts_S1x32x2048x4096_S32x2048x4096) (wrapped be))) (broadcastInDim S224x512x4096 ![0, 1, 2] bcast_S224x1x4096_S224x512x4096_0_1_2 (broadcastInDim S224x1x4096 ![0, 2] bcast_S224x4096_S224x1x4096_0_2 (Host.gather gather_S32x4096_S224x1_S224x4096_1_0_n_n_0_1_14096 (shapeCast _ (extractStridedSlice S1x32x4096 ![1, 0, 0] bgu slices_S2x32x4096_S1x32x4096_1_0_0) shapeCasts_S1x32x4096_S32x4096) (wrapped be))))
/-- Its gate half, limited. -/
def gateOf (xs : Vec F S114688x1024 .i32) (be rv : IVec S224 32) (wgu : Vec F S2x32x2048x4096 .f32) (bgu : Vec F S2x32x4096 .f32) : Vec F S224x512x2048 .f32 := minimumf (extractStridedSlice S224x512x2048 ![0, 0, 0] (gateUp xs be rv wgu bgu) slices_S224x512x4096_S224x512x2048_0_0_0) (broadcastInDim S224x512x2048 ![] bcast_S_S224x512x2048 (constant S_ .f32 0x40E00000#32))
def outOf (xs : Vec F S114688x1024 .i32) (be : IVec S224 32) (nv : IVec S1 32) (rv : IVec S224 32) (wgu : Vec F S2x32x2048x4096 .f32) (bgu : Vec F S2x32x4096 .f32) : Vec F S114688x2048 .bf16 := truncf .bf16 (shapeCast _ (select (broadcastInDim S224x512x2048 ![0, 1, 2] bcast_S224x1x1_S224x512x2048_0_1_2 (broadcastInDim S224x1x1 ![0] bcast_S224_S224x1x1_0 (cmpi .slt (iotaInDim S224 32 0) (broadcastInDim S224 ![] bcast_S_S224 (shapeCast _ nv shapeCasts_S1_S_))))) (mulf (addf (minimumf (broadcastInDim S224x512x2048 ![] bcast_S_S224x512x2048 (id (constant S_ .f32 0x40E00000#32))) (maximumf (broadcastInDim S224x512x2048 ![] bcast_S_S224x512x2048 (id (constant S_ .f32 0xC0E00000#32))) (extractStridedSlice S224x512x2048 ![0, 0, 2048] (gateUp xs be rv wgu bgu) slices_S224x512x4096_S224x512x2048_0_0_2048))) (broadcastInDim S224x512x2048 ![] bcast_S_S224x512x2048 (constant S_ .f32 0x3F800000#32))) (mulf (gateOf xs be rv wgu bgu) (Host.divf (broadcastInDim S224x512x2048 ![] bcast_S_S224x512x2048 (constant S_ .f32 0x3F800000#32)) (addf (broadcastInDim S224x512x2048 ![] bcast_S_S224x512x2048 (constant S_ .f32 0x3F800000#32)) (Host.exp (Host.negf (mulf (broadcastInDim S224x512x2048 ![] bcast_S_S224x512x2048 (constant S_ .f32 0x3FD9DB23#32)) (gateOf xs be rv wgu bgu)))))))) (broadcastInDim S224x512x2048 ![] bcast_S_S224x512x2048 (id (constant S_ .f32 0x00000000#32)))) shapeCasts_S224x512x2048_S114688x2048) bitsLt_bf16_f32

section
set_option maxRecDepth 1000000

/-- The reference's result is that function of its arguments. -/
theorem res_eq (m : (ℓ : Loc nD τ sig) → Buf (Elt F) ℓ) (c : Dev nD) :
    Cert.ReferenceIdeal.Value.res_out0 m c = outOf (m (c.tc.loc main_arg0)) (beOf (m (c.tc.loc main_arg1))) (nvOf (m (c.tc.loc main_arg1)))
      (rvOf (m (c.tc.loc main_arg1)) (beOf (m (c.tc.loc main_arg1)))) (m (c.tc.loc main_arg2)) (m (c.tc.loc main_arg3)) := by
  unfold Cert.ReferenceIdeal.Value.res_out0 Cert.ReferenceIdeal.Value.res_main_v104
  rfl

/-! ## A block's expert is one of the 32 -/

theorem fold_bits (g : Fin 32 → BitVec 1) (s : Finset (Fin 32)) :
    ∃ k ≤ s.card, Finset.fold IntOp.addi (0#32) (fun x => BitVec.setWidth 32 (g x)) s = BitVec.ofNat 32 k := by
  classical
  induction s using Finset.induction_on with
  | empty => exact ⟨0, Nat.le_refl _, rfl⟩
  | insert a s ha ih =>
    obtain ⟨k, hk, h⟩ := ih
    rw [Finset.fold_insert ha, h, Finset.card_insert_of_notMem ha]
    have hb : ∀ b : BitVec 1, b = 0#1 ∨ b = 1#1 := by decide
    rcases hb (g a) with e | e
    · refine ⟨k, by omega, ?_⟩
      rw [e]
      show BitVec.setWidth 32 0#1 + BitVec.ofNat 32 k = _
      rw [show BitVec.setWidth 32 0#1 = 0#32 from rfl, BitVec.zero_add]
    · refine ⟨1 + k, by omega, ?_⟩
      rw [e]
      show BitVec.setWidth 32 1#1 + BitVec.ofNat 32 k = _
      rw [show BitVec.setWidth 32 1#1 = BitVec.ofNat 32 1 from rfl, ← BitVec.ofNat_add]

/-- A count of 32 comparisons, at most 31. -/
theorem beOf_range (n : IVec S32 32) (b : Fin 224) : ∃ e : Fin 32, beOf n (ix1 b) = BitVec.ofNat 32 e.val := by
  unfold beOf
  generalize padEnd n = p
  clean_types
  pointwise
  obtain ⟨k, hk, h⟩ := fold_bits (fun x => IntOp.cmpi CmpIPredicate.sge (IntOp.muli (BitVec.ofNat 32 ↑b) 512#32) (p (ix1 x))) Finset.univ
  rw [h]
  have hk' : k < 33 := by rw [Finset.card_univ, Fintype.card_fin] at hk; omega
  exact (by decide : ∀ k : Fin 33, ∃ e : Fin 32, IntOp.minsi (BitVec.ofNat 32 k.val) 31#32 = BitVec.ofNat 32 e.val) ⟨k, hk'⟩

theorem wrapped_at (be : IVec S224 32) (b : Fin 224) (e : Fin 32) (h : be (ix1 b) = BitVec.ofNat 32 e.val) :
    wrapped be (ix2 b 0) = BitVec.ofNat 32 e.val := by
  unfold wrapped
  clean_types
  pointwise
  rw [h]
  exact (by decide : ∀ e : Fin 32, Scalar.select (IntOp.cmpi CmpIPredicate.slt (BitVec.ofNat 32 e.val) 0#32) (IntOp.addi (BitVec.ofNat 32 e.val) 32#32) (BitVec.ofNat 32 e.val) = BitVec.ofNat 32 e.val) e

/-! ## The gathers of an expert's weights and biases -/

theorem gather_w (x : Vec Ideal S32x2048x4096 .f32) (idx : IVec S224x1 32) (b : Fin 224) (k : Fin 2048) (f : Fin 4096) (e : Fin 32)
    (h : idx (ix2 b 0) = BitVec.ofNat 32 e.val) :
    Host.gather gather_S32x2048x4096_S224x1_S224x2048x4096_12_0_n_n_0_1_120484096 x idx (ix3 b k f) = x (ix3 e k f) := by
  unfold Host.gather
  congr 1
  funext a
  refine Fin.ext ?_
  show GatherDims.start _ _ idx a + GatherDims.batchCoord _ _ a + GatherDims.offCoord _ _ a = _
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rw [GatherDims.batchCoord_eq_zero _ _ _ (fun h => by exact absurd h List.not_mem_nil), Nat.add_zero]
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S32x2048x4096_S224x1_S224x2048x4096_12_0_n_n_0_1_120484096.startIndexMap from List.mem_singleton.mpr rfl)]
    have hsi : GatherDims.siIdx gather_S32x2048x4096_S224x1_S224x2048x4096_12_0_n_n_0_1_120484096 (ix3 b k f) ⟨List.idxOf (0 : Fin 3) gather_S32x2048x4096_S224x1_S224x2048x4096_12_0_n_n_0_1_120484096.startIndexMap,
        List.idxOf_lt_length_iff.2 (List.mem_singleton.mpr rfl)⟩ = ix2 b 0 := by
      funext d; refine Fin.ext ?_
      match d with
      | ⟨0, _⟩ => rfl
      | ⟨1, _⟩ => rfl
    refine (congrArg (fun w : BitVec 32 => min w.toInt.toNat (32 - 1)) ((congrArg idx hsi).trans h)).trans ?_
    exact (by decide : ∀ e : Fin 32, min (BitVec.ofNat 32 e.val).toInt.toNat (32 - 1) = e.val) e
  · unfold GatherDims.start GatherDims.offCoord
    rw [dif_neg (show (1 : Fin 3) ∉ gather_S32x2048x4096_S224x1_S224x2048x4096_12_0_n_n_0_1_120484096.startIndexMap from by decide), Nat.zero_add]
    rw [dif_pos ((GatherDims.mem_sKept _ _).mpr ⟨by decide, List.not_mem_nil⟩)]
    rfl
  · unfold GatherDims.start GatherDims.offCoord
    rw [dif_neg (show (2 : Fin 3) ∉ gather_S32x2048x4096_S224x1_S224x2048x4096_12_0_n_n_0_1_120484096.startIndexMap from by decide), Nat.zero_add]
    rw [dif_pos ((GatherDims.mem_sKept _ _).mpr ⟨by decide, List.not_mem_nil⟩)]
    rfl

theorem gather_b (x : Vec Ideal S32x4096 .f32) (idx : IVec S224x1 32) (b : Fin 224) (f : Fin 4096) (e : Fin 32)
    (h : idx (ix2 b 0) = BitVec.ofNat 32 e.val) :
    Host.gather gather_S32x4096_S224x1_S224x4096_1_0_n_n_0_1_14096 x idx (ix2 b f) = x (ix2 e f) :=
  Routing.gather_row _ rfl rfl rfl rfl rfl x idx b f e h (by decide)

/-! ## The entries -/

/-- The low and the high half of a word, as numbers. -/
def zeroF : EReal := Ideal.ofBits FTy.f32 0#32
def loOf (w : BitVec 32) : EReal := Ideal.ofBits FTy.f32 (IntOp.shli ArithUnit.host w 16#32)
def hiOf (w : BitVec 32) : EReal := Ideal.ofBits FTy.f32 (IntOp.andi w 4294901760#32)

/-- Row `r` of block `b`, column `k` below 1024 or above: a half of a word where the row is a token, else zero. -/
theorem rows_lo (xs : Vec Ideal S114688x1024 .i32) (rv : IVec S224 32) (b : Fin 224) (r : Fin 512) (k : Fin 1024) (R : Fin 114688) (hR : R.val = b.val * 512 + r.val) (K : Fin 2048) (hK : K.val = k.val) :
    rowsOf xs rv (ix3 b r K) = Scalar.select (IntOp.cmpi .slt (BitVec.ofNat 32 r.val) (rv (ix1 b))) (loOf (xs (ix2 R k))) zeroF := by
  unfold rowsOf loOf
  clean_types
  pointwise
  rw [dif_pos (show K.val < 1024 by omega)]
  rw [show (⟨b.val * 512 + r.val, by omega⟩ : Fin 114688) = R from Fin.ext hR.symm]
  rw [show (⟨K.val, by omega⟩ : Fin 1024) = k from Fin.ext hK]
  rfl

theorem rows_hi (xs : Vec Ideal S114688x1024 .i32) (rv : IVec S224 32) (b : Fin 224) (r : Fin 512) (k : Fin 1024) (R : Fin 114688) (hR : R.val = b.val * 512 + r.val) (K : Fin 2048) (hK : K.val = 1024 + k.val) :
    rowsOf xs rv (ix3 b r K) = Scalar.select (IntOp.cmpi .slt (BitVec.ofNat 32 r.val) (rv (ix1 b))) (hiOf (xs (ix2 R k))) zeroF := by
  unfold rowsOf hiOf
  clean_types
  pointwise
  rw [dif_neg (show ¬ K.val < 1024 by omega)]
  rw [show (⟨b.val * 512 + r.val, by omega⟩ : Fin 114688) = R from Fin.ext hR.symm]
  rw [show (⟨K.val - 1024, by omega⟩ : Fin 1024) = k from Fin.ext (by show K.val - 1024 = k.val; omega)]
  rfl

theorem gateUp_apply (xs : Vec Ideal S114688x1024 .i32) (be rv : IVec S224 32) (wgu : Vec Ideal S2x32x2048x4096 .f32) (bgu : Vec Ideal S2x32x4096 .f32)
    (b : Fin 224) (r : Fin 512) (f : Fin 4096) (e : Fin 32) (h : be (ix1 b) = BitVec.ofNat 32 e.val) :
    gateUp xs be rv wgu bgu (ix3 b r f) = ∑ k, rowsOf xs rv (ix3 b r k) * wgu (ix4 1 e k f) + bgu (ix3 1 e f) := by
  have hw := wrapped_at be b e h
  unfold gateUp
  clean_types
  pointwise
  refine congrArg₂ (· + ·) (Finset.sum_congr rfl fun k _ => congrArg₂ (· * ·) rfl ?_) ?_
  · refine (gather_w _ _ b k f e hw).trans ?_
    pointwise
  · refine (gather_b _ _ b f e hw).trans ?_
    pointwise

/-- The activation of a gate and an up value. -/
def act (g u : EReal) : EReal :=
  (min (Ideal.ofBits FTy.f32 1088421888#32) (max (Ideal.ofBits FTy.f32 3235905536#32) u) + 1) *
    (min g (Ideal.ofBits FTy.f32 1088421888#32) *
      Ideal.div 1 (1 + Ideal.exp (-(Ideal.ofBits FTy.f32 1071242019#32 * min g (Ideal.ofBits FTy.f32 1088421888#32)))))

theorem outOf_apply (xs : Vec Ideal S114688x1024 .i32) (be : IVec S224 32) (nv : IVec S1 32) (rv : IVec S224 32) (wgu : Vec Ideal S2x32x2048x4096 .f32) (bgu : Vec Ideal S2x32x4096 .f32)
    (R : Fin 114688) (f : Fin 2048) (b : Fin 224) (r : Fin 512) (hR : R.val = b.val * 512 + r.val) :
    outOf xs be nv rv wgu bgu (ix2 R f) =
      Scalar.select (IntOp.cmpi .slt (BitVec.ofNat 32 b.val) (nv (ix1 0)))
        (act (gateUp xs be rv wgu bgu (ix3 b r ⟨f.val, by omega⟩)) (gateUp xs be rv wgu bgu (ix3 b r ⟨2048 + f.val, by omega⟩)))
        zeroF := by
  unfold outOf gateOf act
  clean_types
  pointwise
  rw [show (⟨R.val / 512, by omega⟩ : Fin 224) = b from Fin.ext (by show R.val / 512 = b.val; omega),
    show (⟨R.val % 512, by omega⟩ : Fin 512) = r from Fin.ext (by show R.val % 512 = r.val; have := r.isLt; omega),
    show R.val / 512 = b.val by omega]
  rfl

end

end Cert.ReferenceIdeal.Hand

end
-- ==== Proof.UpTables.lean ====
/-
  The expert product (gate and up): the tables the host computes are the reference's, so every block's expert is one of
  the 32 and the blocks of weights a point reads lie inside them.
-/
module

public import proofs.«01_k».proof.Proof.UpFrame
public import proofs.«01_k».proof.Proof.UpRef
public import Idealize.ShloMosaic.Lib.Pipeline.Covers

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.ReferenceIdeal.Hand (beOf nvOf rvOf beOf_range)

variable (m : (ℓ : Loc nD τ sig) → Buf (Elt F) ℓ) (ρ : Dev nD → PrngReg)

/-- The tokens counted per expert. -/
abbrev counts (c : Dev nD) : IVec S32 32 := m ((c : Thread nD τ).loc main_arg1)

section
set_option maxRecDepth 1000000

theorem V_be (c : Dev nD) : V m c main_v30 = beOf (counts m c) := by
  unfold V hostOps0 hostOps0_1 hostOps0_2 hostOps0_3 hostOps0_4 hostOps0_5 hostOps0_6 hostOps0_7 hostOps0_8
  simp only [StableHlo.TRef.binary, StableHlo.TRef.nullary, StableHlo.TRef.ternary, StableHlo.TRef.unary, StableHlo.TRef.toBuf, StableHlo.TRef.ofBuf, cast_eq, List.flatten_cons, List.flatten_nil, List.append_nil, List.cons_append, List.nil_append]
  after_results_simp
  rfl

theorem V_nv (c : Dev nD) : V m c main_v34 = nvOf (counts m c) := by
  unfold V hostOps0 hostOps0_1 hostOps0_2 hostOps0_3 hostOps0_4 hostOps0_5 hostOps0_6 hostOps0_7 hostOps0_8
  simp only [StableHlo.TRef.binary, StableHlo.TRef.nullary, StableHlo.TRef.ternary, StableHlo.TRef.unary, StableHlo.TRef.toBuf, StableHlo.TRef.ofBuf, cast_eq, List.flatten_cons, List.flatten_nil, List.append_nil, List.cons_append, List.nil_append]
  after_results_simp
  rfl

theorem V_rv (c : Dev nD) : V m c main_v51 = rvOf (counts m c) (beOf (counts m c)) := by
  unfold V hostOps0 hostOps0_1 hostOps0_2 hostOps0_3 hostOps0_4 hostOps0_5 hostOps0_6 hostOps0_7 hostOps0_8
  simp only [StableHlo.TRef.binary, StableHlo.TRef.nullary, StableHlo.TRef.ternary, StableHlo.TRef.unary, StableHlo.TRef.toBuf, StableHlo.TRef.ofBuf, cast_eq, List.flatten_cons, List.flatten_nil, List.append_nil, List.cons_append, List.nil_append]
  after_results_simp
  rfl

theorem V_bias (c : Dev nD) (a : Fin 2) (e : Fin 32) (f : Fin 4096) : V m c main_v52 (ix4 a e 0 f) = m ((c : Thread nD τ).loc main_arg3) (ix3 a e f) := by
  unfold V hostOps0 hostOps0_1 hostOps0_2 hostOps0_3 hostOps0_4 hostOps0_5 hostOps0_6 hostOps0_7 hostOps0_8
  simp only [StableHlo.TRef.binary, StableHlo.TRef.nullary, StableHlo.TRef.ternary, StableHlo.TRef.unary, StableHlo.TRef.toBuf, StableHlo.TRef.ofBuf, cast_eq, List.flatten_cons, List.flatten_nil, List.append_nil, List.cons_append, List.nil_append]
  after_results_simp
  clean_types
  pointwise
  try rfl
end

theorem tbl_be : tbl m 0 = beOf (counts m 0) := V_be m 0
theorem tbl_nv : tbl m 1 = nvOf (counts m 0) := V_nv m 0
theorem tbl_rv : tbl m 2 = rvOf (counts m 0) (beOf (counts m 0)) := V_rv m 0

/-- The block's index in a table. -/
theorem at224_eq (k : ℕ) (h : k < 224) : at224 k h = ix1 (⟨k, h⟩ : Fin 224) := by
  funext a
  match a with
  | ⟨0, _⟩ => rfl

/-- A point's expert is one of the 32. -/
theorem expW_range (t : Fin grid0.N) : ∃ e : Fin 32, beOf (counts m 0) (ix1 (⟨t.val % 224, Nat.mod_lt _ (by decide)⟩ : Fin 224)) = BitVec.ofNat 32 e.val
    ∧ expW (tbl m 0) t = BitVec.ofNat 32 e.val := by
  obtain ⟨e, he⟩ := beOf_range (counts m 0) ⟨t.val % 224, Nat.mod_lt _ (by decide)⟩
  refine ⟨e, he, ?_⟩
  refine (word224_eq (tbl m 0) _ _ (at224 (t.val % 224) (Nat.mod_lt _ (by decide))) (off1_at t).symm).trans ?_
  rw [at224_eq]
  exact (congrFun (tbl_be m) _).trans he

/-! ## The blocks of weights and biases a point reads -/

theorem col0 (t : Fin grid0.N) : (BitVec.ofNat 32 ((grid0.coords t) 0).val).toNat = t.val / 224 :=
  (by decide +kernel : ∀ t : Fin grid0.N, (BitVec.ofNat 32 ((grid0.coords t) 0).val).toNat = t.val / 224) t
theorem col2 (t : Fin grid0.N) : (Scalar.addi 2#32 (BitVec.ofNat 32 ((grid0.coords t) 0).val)).toNat = 2 + t.val / 224 :=
  (by decide +kernel : ∀ t : Fin grid0.N, (Scalar.addi 2#32 (BitVec.ofNat 32 ((grid0.coords t) 0).val)).toNat = 2 + t.val / 224) t
theorem expert_toNat (e : Fin 32) : (BitVec.ofNat 32 e.val).toNat = e.val :=
  (by decide : ∀ e : Fin 32, (BitVec.ofNat 32 e.val).toNat = e.val) e

theorem index1 (pf : pre0.Contents (Elt F)) (t : Fin grid0.N) (e : Fin 32) (h : expW (pf 0) t = BitVec.ofNat 32 e.val) :
    cc0_transform_1 k0_off1_inb numel1_S1 pf (grid0.coords t) = ![1, e.val, 0, t.val / 224] := by
  show ![1, (expW (pf 0) t).toNat, 0, (BitVec.ofNat 32 ((grid0.coords t) 0).val).toNat] = _
  rw [h, col0, expert_toNat]

theorem index2 (pf : pre0.Contents (Elt F)) (t : Fin grid0.N) (e : Fin 32) (h : expW (pf 0) t = BitVec.ofNat 32 e.val) :
    cc0_transform_2 k0_off1_inb numel1_S1 pf (grid0.coords t) = ![1, e.val, 0, 2 + t.val / 224] := by
  show ![1, (expW (pf 0) t).toNat, 0, (Scalar.addi 2#32 (BitVec.ofNat 32 ((grid0.coords t) 0).val)).toNat] = _
  rw [h, col2, expert_toNat]

theorem index3 (pf : pre0.Contents (Elt F)) (t : Fin grid0.N) (e : Fin 32) (h : expW (pf 0) t = BitVec.ofNat 32 e.val) :
    cc0_transform_3 k0_off1_inb numel1_S1 pf (grid0.coords t) = ![1, e.val, 0, t.val / 224] := by
  show ![1, (expW (pf 0) t).toNat, 0, (BitVec.ofNat 32 ((grid0.coords t) 0).val).toNat] = _
  rw [h, col0, expert_toNat]

theorem index4 (pf : pre0.Contents (Elt F)) (t : Fin grid0.N) (e : Fin 32) (h : expW (pf 0) t = BitVec.ofNat 32 e.val) :
    cc0_transform_4 k0_off1_inb numel1_S1 pf (grid0.coords t) = ![1, e.val, 0, 2 + t.val / 224] := by
  show ![1, (expW (pf 0) t).toNat, 0, (Scalar.addi 2#32 (BitVec.ofNat 32 ((grid0.coords t) 0).val)).toNat] = _
  rw [h, col2, expert_toNat]

/-- So the blocks lie inside the weights and the biases. -/
theorem ok : Ok m := by
  have key : ∀ t : Fin grid0.N, t.val / 224 < 2 := fun t => by have : t.val < 448 := t.isLt; omega
  have h1 : ∀ i : grid0.Coords, ∀ a, (cc0_transform_1 k0_off1_inb numel1_S1 (tbl m) i a + 1) * S1x1x2048x1024.size a ≤ S2x32x2048x4096.size a := fun i => by
    obtain ⟨t, rfl⟩ := Pipeline.Grid.coords_surjective grid0 i
    obtain ⟨e, -, he⟩ := expW_range m t
    rw [index1 (tbl m) t e he]
    intro a
    have := e.isLt
    have := key t
    match a with
    | ⟨0, _⟩ => show (1 + 1) * 1 ≤ 2; omega
    | ⟨1, _⟩ => show (e.val + 1) * 1 ≤ 32; omega
    | ⟨2, _⟩ => show (0 + 1) * 2048 ≤ 2048; omega
    | ⟨3, _⟩ => show (t.val / 224 + 1) * 1024 ≤ 4096; omega
  have h2 : ∀ i : grid0.Coords, ∀ a, (cc0_transform_2 k0_off1_inb numel1_S1 (tbl m) i a + 1) * S1x1x2048x1024.size a ≤ S2x32x2048x4096.size a := fun i => by
    obtain ⟨t, rfl⟩ := Pipeline.Grid.coords_surjective grid0 i
    obtain ⟨e, -, he⟩ := expW_range m t
    rw [index2 (tbl m) t e he]
    intro a
    have := e.isLt
    have := key t
    match a with
    | ⟨0, _⟩ => show (1 + 1) * 1 ≤ 2; omega
    | ⟨1, _⟩ => show (e.val + 1) * 1 ≤ 32; omega
    | ⟨2, _⟩ => show (0 + 1) * 2048 ≤ 2048; omega
    | ⟨3, _⟩ => show (2 + t.val / 224 + 1) * 1024 ≤ 4096; omega
  have h3 : ∀ i : grid0.Coords, ∀ a, (cc0_transform_3 k0_off1_inb numel1_S1 (tbl m) i a + 1) * S1x1x1x1024.size a ≤ S2x32x1x4096.size a := fun i => by
    obtain ⟨t, rfl⟩ := Pipeline.Grid.coords_surjective grid0 i
    obtain ⟨e, -, he⟩ := expW_range m t
    rw [index3 (tbl m) t e he]
    intro a
    have := e.isLt
    have := key t
    match a with
    | ⟨0, _⟩ => show (1 + 1) * 1 ≤ 2; omega
    | ⟨1, _⟩ => show (e.val + 1) * 1 ≤ 32; omega
    | ⟨2, _⟩ => show (0 + 1) * 1 ≤ 1; omega
    | ⟨3, _⟩ => show (t.val / 224 + 1) * 1024 ≤ 4096; omega
  have h4 : ∀ i : grid0.Coords, ∀ a, (cc0_transform_4 k0_off1_inb numel1_S1 (tbl m) i a + 1) * S1x1x1x1024.size a ≤ S2x32x1x4096.size a := fun i => by
    obtain ⟨t, rfl⟩ := Pipeline.Grid.coords_surjective grid0 i
    obtain ⟨e, -, he⟩ := expW_range m t
    rw [index4 (tbl m) t e he]
    intro a
    have := e.isLt
    have := key t
    match a with
    | ⟨0, _⟩ => show (1 + 1) * 1 ≤ 2; omega
    | ⟨1, _⟩ => show (e.val + 1) * 1 ≤ 32; omega
    | ⟨2, _⟩ => show (0 + 1) * 1 ≤ 1; omega
    | ⟨3, _⟩ => show (2 + t.val / 224 + 1) * 1024 ≤ 4096; omega
  exact ⟨fun i => ⟨h1 i, Or.inl rfl⟩, fun i => ⟨h2 i, Or.inl rfl⟩, fun i => ⟨h3 i, Or.inl rfl⟩, fun i => ⟨h4 i, Or.inl rfl⟩⟩

end Cert.KernelIdeal.Up

end
-- ==== Proof.UpValue.lean ====
/-
  The expert product (gate and up): what the kernel leaves in its result is the reference's result. A point of the grid
  computes 512 rows by 1024 columns of the activation, of the two products of the rows with a block of the gate weights
  and a block of the up weights; each product is a sum over the low halves of the words and one over the high halves,
  where the reference has one sum over all the 2048 columns.
-/
module

public import proofs.«01_k».proof.Proof.UpTables
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.KernelIdeal.Up

open Cert.KernelIdeal Cert.KernelIdeal.Gen
open Cert.ReferenceIdeal.Hand (beOf nvOf rvOf beOf_range zeroF loOf hiOf act rowsOf gateUp outOf)

/-! ## The payloads over the reals -/

/-- A half of a word where row `r` is a token, else zero. -/
def live (r : Fin 512) (rv : BitVec 32) (x : EReal) : EReal := Scalar.select (IntOp.cmpi .slt (BitVec.ofNat 32 r.val) rv) x zeroF

/-- A row of words by a column of weights: the low halves by the first 1024, the high halves by the others. -/
def prod (x : Fin 1024 → BitVec 32) (r : Fin 512) (rv : BitVec 32) (w : Fin 2048 → EReal) : EReal :=
  ∑ k : Fin 1024, live r rv (loOf (x k)) * w ⟨k.val, by omega⟩ + ∑ k : Fin 1024, live r rv (hiOf (x k)) * w ⟨1024 + k.val, by omega⟩

section
set_option maxRecDepth 1000000

theorem pay6_apply (x0 : Vec Ideal S512x1024 .i32) (rv : BitVec 32) (r : Fin 512) (k : Fin 1024) :
    k0_pay6 (F := Ideal) x0 rv (ix2 r k) = live r rv (loOf (x0 (ix2 r k))) := by
  unfold k0_pay6 k0_pay5 live loOf zeroF
  clean_types
  pointwise
  try rfl

theorem pay7_apply (x0 : Vec Ideal S512x1024 .i32) (rv : BitVec 32) (r : Fin 512) (k : Fin 1024) :
    k0_pay7 (F := Ideal) x0 rv (ix2 r k) = live r rv (hiOf (x0 (ix2 r k))) := by
  unfold k0_pay7 k0_pay5 live hiOf zeroF
  clean_types
  pointwise
  try rfl

theorem pay1_apply (w : Vec Ideal S1x1x2048x1024 .f32) (k : Fin 2048) (j : Fin 1024) :
    k0_pay1 (F := Ideal) w (ix2 k j) = w (ix4 0 0 k j) := by
  unfold k0_pay1
  clean_types
  pointwise
  try rfl

theorem pay2_apply (w : Vec Ideal S1x1x2048x1024 .f32) (k : Fin 2048) (j : Fin 1024) :
    k0_pay2 (F := Ideal) w (ix2 k j) = w (ix4 0 0 k j) := by
  unfold k0_pay2
  clean_types
  pointwise
  try rfl

theorem topW_apply (w : Vec Ideal S2048x1024 .bf16) (k j : Fin 1024) : topW w (ix2 k j) = w (ix2 ⟨k.val, by omega⟩ j) := by
  unfold topW
  show w _ = w _
  congr 1
  funext a
  apply Fin.ext
  match a with
  | ⟨0, _⟩ => show 0 + 1 * k.val = k.val; omega
  | ⟨1, _⟩ => show 0 + 1 * j.val = j.val; omega

theorem botW_apply (w : Vec Ideal S2048x1024 .bf16) (k j : Fin 1024) : botW w (ix2 k j) = w (ix2 ⟨1024 + k.val, by omega⟩ j) := by
  unfold botW
  show w _ = w _
  congr 1
  funext a
  apply Fin.ext
  match a with
  | ⟨0, _⟩ => show 1024 + 1 * k.val = 1024 + k.val; omega
  | ⟨1, _⟩ => show 0 + 1 * j.val = j.val; omega

theorem pay9_apply (x0 : Vec Ideal S512x1024 .i32) (rv : BitVec 32) (w : Vec Ideal S2048x1024 .bf16) (r : Fin 512) (j : Fin 1024) :
    k0_pay9 (F := Ideal) x0 rv (topW w) (botW w) (ix2 r j) = prod (fun k => x0 (ix2 r k)) r rv (fun k => w (ix2 k j)) := by
  unfold k0_pay9 prod
  clean_types
  pointwise
  refine congrArg₂ (· + ·) (Finset.sum_congr rfl fun k _ => congrArg₂ (· * ·) (pay6_apply x0 rv r k) (topW_apply w k j))
    (Finset.sum_congr rfl fun k _ => congrArg₂ (· * ·) (pay7_apply x0 rv r k) (botW_apply w k j))

theorem pay8_apply (x0 : Vec Ideal S512x1024 .i32) (rv : BitVec 32) (w : Vec Ideal S2048x1024 .bf16) (x3 : Vec Ideal S1x1x1x1024 .f32) (r : Fin 512) (j : Fin 1024) :
    k0_pay8 (F := Ideal) x0 rv (topW w) (botW w) x3 (ix2 r j) = prod (fun k => x0 (ix2 r k)) r rv (fun k => w (ix2 k j)) + x3 (ix4 0 0 0 j) := by
  unfold k0_pay8 prod
  clean_types
  pointwise
  refine congrArg₂ (· + ·) (congrArg₂ (· + ·) (Finset.sum_congr rfl fun k _ => congrArg₂ (· * ·) (pay6_apply x0 rv r k) (topW_apply w k j))
    (Finset.sum_congr rfl fun k _ => congrArg₂ (· * ·) (pay7_apply x0 rv r k) (botW_apply w k j))) ?_
  rfl

theorem pay3_apply (g u : FVec Ideal S512x1024 .f32) (b : Vec Ideal S1x1x1x1024 .f32) (r : Fin 512) (j : Fin 1024) :
    k0_pay3 (F := Ideal) g u (k0_pay10 b) (ix2 r j) = act (g (ix2 r j)) (u (ix2 r j) + b (ix4 0 0 0 j)) := by
  unfold k0_pay3 k0_pay10 act
  clean_types
  pointwise
  rw [zero_sub]
end

/-- What a point that holds rows computes. -/
theorem outVal_apply (x0 : Vec Ideal S512x1024 .i32) (w0 w1 : Vec Ideal S2048x1024 .bf16) (x3 x4 : Vec Ideal S1x1x1x1024 .f32) (rv : BitVec 32) (r : Fin 512) (j : Fin 1024) :
    outVal x0 w0 w1 x3 x4 rv (ix2 r j)
      = act (prod (fun k => x0 (ix2 r k)) r rv (fun k => w0 (ix2 k j)) + x3 (ix4 0 0 0 j)) (prod (fun k => x0 (ix2 r k)) r rv (fun k => w1 (ix2 k j)) + x4 (ix4 0 0 0 j)) := by
  unfold outVal
  rw [pay3_apply, pay8_apply, pay9_apply]

/-! ## The reference's sum in halves -/

theorem sum_halves (g : Fin 2048 → EReal) : ∑ k, g k = ∑ k : Fin 1024, g ⟨k.val, by omega⟩ + ∑ k : Fin 1024, g ⟨1024 + k.val, by omega⟩ :=
  Fin.sum_univ_add (a := 1024) (b := 1024) g

theorem gateUp_prod (xs : Vec Ideal S114688x1024 .i32) (be rv : IVec S224 32) (wgu : Vec Ideal S2x32x2048x4096 .f32) (bgu : Vec Ideal S2x32x4096 .f32)
    (b : Fin 224) (r : Fin 512) (f : Fin 4096) (e : Fin 32) (h : be (ix1 b) = BitVec.ofNat 32 e.val) (R : Fin 114688) (hR : R.val = b.val * 512 + r.val) :
    gateUp xs be rv wgu bgu (ix3 b r f) = prod (fun k => xs (ix2 R k)) r (rv (ix1 b)) (fun k => wgu (ix4 1 e k f)) + bgu (ix3 1 e f) := by
  refine (Cert.ReferenceIdeal.Hand.gateUp_apply xs be rv wgu bgu b r f e h).trans ?_
  rw [sum_halves]
  unfold prod live
  refine congrArg (· + _) (congrArg₂ (· + ·) (Finset.sum_congr rfl fun k _ => congrArg (· * _) ?_) (Finset.sum_congr rfl fun k _ => congrArg (· * _) ?_))
  · exact Cert.ReferenceIdeal.Hand.rows_lo xs rv b r k R hR _ rfl
  · exact Cert.ReferenceIdeal.Hand.rows_hi xs rv b r k R hR _ rfl

/-! ## The blocks a point reads -/

variable (m : (ℓ : Loc nD τ sig) → Buf (Elt Ideal) ℓ)

theorem index0 (t : Fin grid0.N) : cc0_transform_0 (grid0.coords t) 0 = t.val % 224 ∧ cc0_transform_0 (grid0.coords t) 1 = 0 :=
  (by decide +kernel : ∀ t : Fin grid0.N, cc0_transform_0 (grid0.coords t) 0 = t.val % 224 ∧ cc0_transform_0 (grid0.coords t) 1 = 0) t
theorem index5 (t : Fin grid0.N) : cc0_transform_5 (grid0.coords t) 0 = t.val % 224 ∧ cc0_transform_5 (grid0.coords t) 1 = t.val / 224 :=
  (by decide +kernel : ∀ t : Fin grid0.N, cc0_transform_5 (grid0.coords t) 0 = t.val % 224 ∧ cc0_transform_5 (grid0.coords t) 1 = t.val / 224) t

theorem read0_eq (a : (pcfg0 (F := Ideal)).Adm) (t : Fin grid0.N) (f : S114688x1024.Idx → BitVec 32) (r : Fin 512) (k : Fin 1024) (R : Fin 114688)
    (hR : R.val = t.val % 224 * 512 + r.val) : (((cfg0 a).win 0).blk t).view.read (Elt Ideal) f (ix2 r k) = f (ix2 R k) := by
  show f _ = f _
  congr 1
  funext d
  apply Fin.ext
  obtain ⟨h0, h1⟩ := index0 t
  match d with
  | ⟨0, _⟩ => show cc0_transform_0 (grid0.coords t) 0 * 512 + 1 * r.val = R.val; omega
  | ⟨1, _⟩ => show cc0_transform_0 (grid0.coords t) 1 * 1024 + 1 * k.val = k.val; omega

theorem read3_eq (a : (pcfg0 (F := Ideal)).Adm) (t : Fin grid0.N) (f : S2x32x1x4096.Idx → EReal) (y : S1x1x1x1024.Idx) (z : S2x32x1x4096.Idx)
    (hz : ∀ d, (z d).val = cc0_transform_3 k0_off1_inb numel1_S1 a.1 (grid0.coords t) d * S1x1x1x1024.size d + (y d).val) :
    (((cfg0 a).win 3).blk t).view.read (Elt Ideal) f y = f z := by
  show f _ = f z
  congr 1
  funext d
  apply Fin.ext
  rw [hz d]
  show cc0_transform_3 k0_off1_inb numel1_S1 a.1 (grid0.coords t) d * S1x1x1x1024.size d + 1 * (y d).val = _
  rw [Nat.one_mul]

theorem read4_eq (a : (pcfg0 (F := Ideal)).Adm) (t : Fin grid0.N) (f : S2x32x1x4096.Idx → EReal) (y : S1x1x1x1024.Idx) (z : S2x32x1x4096.Idx)
    (hz : ∀ d, (z d).val = cc0_transform_4 k0_off1_inb numel1_S1 a.1 (grid0.coords t) d * S1x1x1x1024.size d + (y d).val) :
    (((cfg0 a).win 4).blk t).view.read (Elt Ideal) f y = f z := by
  show f _ = f z
  congr 1
  funext d
  apply Fin.ext
  rw [hz d]
  show cc0_transform_4 k0_off1_inb numel1_S1 a.1 (grid0.coords t) d * S1x1x1x1024.size d + 1 * (y d).val = _
  rw [Nat.one_mul]

variable (c : Dev nD)

theorem iblk0_apply (hO : Ok m) (t : Fin grid0.N) (r : Fin 512) (k : Fin 1024) (R : Fin 114688) (hR : R.val = t.val % 224 * 512 + r.val) :
    (iblk m hO c 0 t : Vec Ideal S512x1024 .i32) (ix2 r k) = m ((c : Thread nD τ).loc main_arg0) (ix2 R k) :=
  (read0_eq (adm m hO) t (V m c main_arg0) r k R hR).trans (congrFun (V_main_arg0 m c) _)

theorem iblk1_apply (hO : Ok m) (t : Fin grid0.N) (e : Fin 32) (he : expW (tbl m 0) t = BitVec.ofNat 32 e.val) (k : Fin 2048) (j : Fin 1024) (f : Fin 4096)
    (hf : f.val = t.val / 224 * 1024 + j.val) :
    (iblk m hO c 1 t : Vec Ideal S1x1x2048x1024 .f32) (ix4 0 0 k j) = m ((c : Thread nD τ).loc main_arg2) (ix4 1 e k f) := by
  refine (iblk1_eq m hO c t (ix4 0 0 k j) (ix4 1 e k f) fun a => ?_).trans (congrFun (V_main_arg2 m c) _)
  rw [index1 (tbl m) t e he]
  match a with
  | ⟨0, _⟩ => rfl
  | ⟨1, _⟩ => show e.val = e.val * 1 + 0; omega
  | ⟨2, _⟩ => show k.val = 0 * 2048 + k.val; omega
  | ⟨3, _⟩ => show f.val = t.val / 224 * 1024 + j.val; omega

theorem iblk2_apply (hO : Ok m) (t : Fin grid0.N) (e : Fin 32) (he : expW (tbl m 0) t = BitVec.ofNat 32 e.val) (k : Fin 2048) (j : Fin 1024) (f : Fin 4096)
    (hf : f.val = 2048 + (t.val / 224 * 1024 + j.val)) :
    (iblk m hO c 2 t : Vec Ideal S1x1x2048x1024 .f32) (ix4 0 0 k j) = m ((c : Thread nD τ).loc main_arg2) (ix4 1 e k f) := by
  refine (iblk2_eq m hO c t (ix4 0 0 k j) (ix4 1 e k f) fun a => ?_).trans (congrFun (V_main_arg2 m c) _)
  rw [index2 (tbl m) t e he]
  match a with
  | ⟨0, _⟩ => rfl
  | ⟨1, _⟩ => show e.val = e.val * 1 + 0; omega
  | ⟨2, _⟩ => show k.val = 0 * 2048 + k.val; omega
  | ⟨3, _⟩ => show f.val = (2 + t.val / 224) * 1024 + j.val; omega

theorem iblk3_apply (hO : Ok m) (t : Fin grid0.N) (e : Fin 32) (he : expW (tbl m 0) t = BitVec.ofNat 32 e.val) (j : Fin 1024) (f : Fin 4096)
    (hf : f.val = t.val / 224 * 1024 + j.val) :
    (iblk m hO c 3 t : Vec Ideal S1x1x1x1024 .f32) (ix4 0 0 0 j) = m ((c : Thread nD τ).loc main_arg3) (ix3 1 e f) := by
  refine (read3_eq (adm m hO) t (V m c main_v52) (ix4 0 0 0 j) (ix4 1 e 0 f) fun a => ?_).trans (V_bias m c 1 e f)
  rw [show cc0_transform_3 k0_off1_inb numel1_S1 (adm m hO).1 (grid0.coords t) = _ from index3 (tbl m) t e he]
  match a with
  | ⟨0, _⟩ => rfl
  | ⟨1, _⟩ => show e.val = e.val * 1 + 0; omega
  | ⟨2, _⟩ => rfl
  | ⟨3, _⟩ => show f.val = t.val / 224 * 1024 + j.val; omega

theorem iblk4_apply (hO : Ok m) (t : Fin grid0.N) (e : Fin 32) (he : expW (tbl m 0) t = BitVec.ofNat 32 e.val) (j : Fin 1024) (f : Fin 4096)
    (hf : f.val = 2048 + (t.val / 224 * 1024 + j.val)) :
    (iblk m hO c 4 t : Vec Ideal S1x1x1x1024 .f32) (ix4 0 0 0 j) = m ((c : Thread nD τ).loc main_arg3) (ix3 1 e f) := by
  refine (read4_eq (adm m hO) t (V m c main_v52) (ix4 0 0 0 j) (ix4 1 e 0 f) fun a => ?_).trans (V_bias m c 1 e f)
  rw [show cc0_transform_4 k0_off1_inb numel1_S1 (adm m hO).1 (grid0.coords t) = _ from index4 (tbl m) t e he]
  match a with
  | ⟨0, _⟩ => rfl
  | ⟨1, _⟩ => show e.val = e.val * 1 + 0; omega
  | ⟨2, _⟩ => rfl
  | ⟨3, _⟩ => show f.val = (2 + t.val / 224) * 1024 + j.val; omega

/-! ## What a point leaves in its block -/

theorem wordNv_eq (x : S1.Idx → BitVec 32) : wordNv x = x (ix1 0) := by
  unfold wordNv
  congr 1
  funext a
  match a with
  | ⟨0, _⟩ => rfl

theorem cond2_eq (t : Fin grid0.N) (w : BitVec 32) : k0_cond2 (grid0.coords t) w = IntOp.cmpi .slt (BitVec.ofNat 32 (t.val % 224)) w := by
  unfold k0_cond2
  dsimp only
  rw [coord1]
  exact (by decide : ∀ b : BitVec 1, Scalar.cmpi .ne (Scalar.extui b : BitVec 32) 0#32 = b) _

/-- The block of the point is the reference's, entry by entry. -/
theorem outAt_apply (t : Fin grid0.N) (r : Fin 512) (j : Fin 1024) (R : Fin 114688) (f : Fin 2048) (hR : R.val = t.val % 224 * 512 + r.val)
    (hf : f.val = t.val / 224 * 1024 + j.val) :
    outAt m (ok m) c t (ix2 r j) = outOf (m ((c : Thread nD τ).loc main_arg0)) (beOf (counts m 0)) (nvOf (counts m 0)) (rvOf (counts m 0) (beOf (counts m 0)))
      (m ((c : Thread nD τ).loc main_arg2)) (m ((c : Thread nD τ).loc main_arg3)) (ix2 R f) := by
  obtain ⟨e, hbe, he⟩ := expW_range m t
  have hb : t.val % 224 < 224 := Nat.mod_lt _ (by decide)
  refine Eq.trans ?_ (Cert.ReferenceIdeal.Hand.outOf_apply _ _ _ _ _ _ R f ⟨t.val % 224, hb⟩ r hR).symm
  have hnv : wordNv (tbl m 1) = nvOf (counts m 0) (ix1 0) := (wordNv_eq (tbl m 1)).trans (congrFun (tbl_nv m) _)
  have hrv : word224 (tbl m 2) (k0_off3 (grid0.coords t)) (k0_off3_inb (grid0.coords t)) = rvOf (counts m 0) (beOf (counts m 0)) (ix1 ⟨t.val % 224, hb⟩) :=
    (word224_eq (tbl m 2) _ _ (at224 (t.val % 224) hb) (off3_at t).symm).trans ((congrArg (tbl m 2) (at224_eq _ hb)).trans (congrFun (tbl_rv m) _))
  unfold outAt
  rw [cond2_eq, hnv, hrv]
  by_cases h : IntOp.cmpi .slt (BitVec.ofNat 32 (t.val % 224)) (nvOf (counts m 0) (ix1 0)) = 1#1
  · rw [if_pos h]
    refine Eq.trans ?_ (congrArg (fun b : BitVec 1 => Scalar.select b _ zeroF) h).symm
    refine (outVal_apply _ _ _ _ _ _ r j).trans ?_
    show _ = act _ _
    refine congrArg₂ act ?_ ?_
    · refine Eq.trans ?_ (gateUp_prod _ _ _ _ _ ⟨t.val % 224, hb⟩ r ⟨f.val, by omega⟩ e hbe R hR).symm
      refine congrArg₂ (· + ·) ?_ (iblk3_apply m c (ok m) t e he j _ hf)
      refine congrArg₂ (fun x w => prod x r _ w) (funext fun k => iblk0_apply m c (ok m) t r k R hR) (funext fun k => ?_)
      exact (pay1_apply _ k j).trans (iblk1_apply m c (ok m) t e he k j _ hf)
    · refine Eq.trans ?_ (gateUp_prod _ _ _ _ _ ⟨t.val % 224, hb⟩ r ⟨2048 + f.val, by omega⟩ e hbe R hR).symm
      refine congrArg₂ (· + ·) ?_ (iblk4_apply m c (ok m) t e he j _ (congrArg (2048 + ·) hf))
      refine congrArg₂ (fun x w => prod x r _ w) (funext fun k => iblk0_apply m c (ok m) t r k R hR) (funext fun k => ?_)
      exact (pay2_apply _ k j).trans (iblk2_apply m c (ok m) t e he k j _ (congrArg (2048 + ·) hf))
  · rw [if_neg h]
    have h0 : IntOp.cmpi .slt (BitVec.ofNat 32 (t.val % 224)) (nvOf (counts m 0) (ix1 0)) = 0#1 :=
      (by decide : ∀ b : BitVec 1, ¬ b = 1#1 → b = 0#1) _ h
    refine Eq.trans ?_ (congrArg (fun b : BitVec 1 => Scalar.select b _ zeroF) h0).symm
    show _ = zeroF
    unfold zeroF k0_pay4
    pointwise

/-! ## The result -/

theorem idx5 (a : (pcfg0 (F := Ideal)).Adm) (t : Fin (cfg0 a).N) : ((cfg0 a).win 5).index t = cc0_transform_5 (grid0.coords t) := rfl

/-- Different points write different blocks of the result. -/
theorem disjoint5 (a : (pcfg0 (F := Ideal)).Adm) : ∀ t t' : Fin (cfg0 a).N, ((cfg0 a).win 5).flush t = true → ((cfg0 a).win 5).flush t' = true → t ≠ t' →
    Disjoint (((cfg0 a).win 5).blk t).view.set (((cfg0 a).win 5).blk t').view.set :=
  fun t t' _ _ hne => ((cfg0 a).win 5).disjoint_blk fun h => hne (Fin.ext (by
    rw [idx5, idx5] at h
    obtain ⟨a0, a1⟩ := index5 t
    obtain ⟨b0, b1⟩ := index5 t'
    have e0 := congrFun h 0
    have e1 := congrFun h 1
    omega))

theorem read5_eq (a : (pcfg0 (F := Ideal)).Adm) (t : Fin grid0.N) (g : S114688x2048.Idx → EReal) (r : Fin 512) (j : Fin 1024) (R : Fin 114688) (f : Fin 2048)
    (hR : R.val = t.val % 224 * 512 + r.val) (hf : f.val = t.val / 224 * 1024 + j.val) :
    (((cfg0 a).win 5).blk t).view.read (Elt Ideal) g (ix2 r j) = g (ix2 R f) := by
  show g _ = g _
  congr 1
  funext d
  apply Fin.ext
  obtain ⟨h0, h1⟩ := index5 t
  match d with
  | ⟨0, _⟩ => show cc0_transform_5 (grid0.coords t) 0 * 512 + 1 * r.val = R.val; omega
  | ⟨1, _⟩ => show cc0_transform_5 (grid0.coords t) 1 * 1024 + 1 * j.val = f.val; omega

/-- What the data leave in an output block is what the array then holds there. -/
theorem final_of (a : (pcfg0 (F := Ideal)).Adm) (dat : Dat τ (Elt Ideal) Unit ℕ (UR sig nD τ) ℕ (cfg0 a) c) (t : Fin grid0.N) (r : Fin 512) (j : Fin 1024) (R : Fin 114688) (f : Fin 2048)
    (hR : R.val = t.val % 224 * 512 + r.val) (hf : f.val = t.val / 224 * 1024 + j.val) :
    (dat.arrAt 5 (cfg0 a).N : S114688x2048.Idx → EReal) (ix2 R f) = (dat.after 5 t : S512x1024.Idx → EReal) (ix2 r j) :=
  (read5_eq a t (dat.arrAt 5 (cfg0 a).N) r j R f hR hf).symm.trans
    (congrFun (dat.read_blk_arrAt_eq_flushed 5 (disjoint5 a) (cfg0 a).N t t.isLt (flush0_5 a t)) (ix2 r j))

/-- What the run leaves in the result is the reference's result. -/
theorem final_apply (R : Fin 114688) (f : Fin 2048) : ((dats m (ok m) 0 c).arrAt 5 (cfgM m (ok m)).N : S114688x2048.Idx → EReal) (ix2 R f)
    = outOf (m ((c : Thread nD τ).loc main_arg0)) (beOf (counts m 0)) (nvOf (counts m 0)) (rvOf (counts m 0) (beOf (counts m 0)))
      (m ((c : Thread nD τ).loc main_arg2)) (m ((c : Thread nD τ).loc main_arg3)) (ix2 R f) := by
  have ht : f.val / 1024 * 224 + R.val / 512 < grid0.N := by show _ < 448; omega
  have hR : R.val = (f.val / 1024 * 224 + R.val / 512) % 224 * 512 + R.val % 512 := by omega
  have hf : f.val = (f.val / 1024 * 224 + R.val / 512) / 224 * 1024 + f.val % 1024 := by omega
  refine (final_of c (adm m (ok m)) (dats m (ok m) 0 c) ⟨_, ht⟩ ⟨R.val % 512, by omega⟩ ⟨f.val % 1024, by omega⟩ R f hR hf).trans ?_
  exact (congrFun (after0_5 m (ok m) c ⟨_, ht⟩) _).trans (outAt_apply m c ⟨_, ht⟩ _ _ R f hR hf)

/-- The run, its result named and its arguments as launched. -/
theorem run_named (ρ : Dev nD → PrngReg) : θ_run defs (onTc (τ := τ) (main (F := Ideal))) ⟨m, fun _ => 0, ρ⟩ fun r => ∀ c : Dev nD,
    r.2.mem ((c : Thread nD τ).loc main_v53) = (dats m (ok m) 0 c).arrAt 5 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.2 c).1 5, h.1 c⟩) (θ_run_and (unchanged m ρ (ok m)) (run_main m ρ (ok m)))

end Cert.KernelIdeal.Up

namespace Cert.Proof

open Cert.KernelIdeal Cert.KernelIdeal.Gen

theorem frame_kernel_ideal : Cert.quiescent_KernelIdeal := fun m ρ _ => Cert.KernelIdeal.Up.frame (F := Ideal) m ρ (Cert.KernelIdeal.Up.ok m)

theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel's result is the reference's. -/
theorem algebraic : Cert.algebraic_KernelIdeal_ReferenceIdeal := by
  intro m ρ m' ρ' _ hagree
  refine ⟨fun c => (Cert.KernelIdeal.Up.dats m (Cert.KernelIdeal.Up.ok m) 0 c).arrAt 5 (Cert.KernelIdeal.Up.cfgM m (Cert.KernelIdeal.Up.ok m)).N, Cert.KernelIdeal.Up.run_named m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3⟩ := hagree c
  obtain rfl : c = 0 := Subsingleton.elim _ _
  funext i
  obtain ⟨R, f, rfl⟩ : ∃ (R : Fin 114688) (f : Fin 2048), i = ix2 R f := ⟨i 0, i 1, eq_ix2 i⟩
  refine (congrFun (Cert.ReferenceIdeal.Hand.res_eq m' 0) _).trans ?_
  rw [a0, a1, a2, a3]
  exact (Cert.KernelIdeal.Up.final_apply m 0 R f).symm

end Cert.Proof

end
-- ==== Proof.Up.lean ====
/-
  The expert product (gate and up): the frame of the kernel as it is run.
-/
module

public import proofs.«01_k».proof.Proof.RunTables

@[expose] public section

noncomputable section

open Idealize.ShloMosaic Idealize.SL.Sem

namespace Cert.Proof

theorem frame_kernel : Cert.quiescent_Kernel := fun m ρ _ => Cert.Kernel.Up.frame (F := Bits) m ρ (Cert.Kernel.Up.ok m)

end Cert.Proof

end
-- ==== Proof.DownKit.lean ====
/-
  The expert product (down): the launch set-up its run is stated over. What the buffers hold when the region is
  entered, the tables the blocks are chosen by, the windows' blocks and staging buffers. The pipeline's body comes in the
  next module.
-/
module

public import proofs.«01_k».proof.Proof.Gen.Kernel6Ideal.Launch
public import proofs.«01_k».proof.Proof.Gen.Kernel6Ideal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel6Ideal.Down

open Cert.Kernel6Ideal Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
theorem flush0_3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _) : ∀ t : Fin grid0.N, Pipeline.Window.flushOf grid0 true cc0_transform_3 t = true)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

abbrev bodyAt0 (a : (pcfg0 (F := F)).Adm) (t : Fin (cfg0 a).N) : Prog (TpuEff nD τ sig (Elt F) Λ₀ .tc) PUnit :=
  cc0_moe_down (grid0.coords t) (Memref.whole main_v30) (Memref.isWhole_whole _) (Memref.whole main_v34) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _)

/-! ## @main up to the region -/

abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S224 .i32 := Memref.whole main_v30
abbrev htbM0_0 : tbM0_0.IsWhole := Memref.isWhole_whole _
abbrev tbM0_1 : Memref sig .tc .smem S1 .i32 := Memref.whole main_v34
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## Staging memrefs and scratches -/

/-- One staging buffer of the output window. -/
abbrev VO0_3 : View sig .tc .vmem S512x2048 .bf16 := (Memref.whole cc0_stg3_0 : Memref sig .tc .vmem S512x2048 .bf16).view
abbrev ms0_0 (hO : Ok m) (t : Fin (cfgM m hO).N) : Memref sig .tc .vmem S512x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x2048x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x2048 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev scM0_0 : Memref sig .tc .vmem S2048x2048 .bf16 := Memref.whole cc0_scratch0

theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

/-! ## The frame claim's post from the frame run's -/

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).1 1).trans (((dats 0 c).arrAt_in 1 rfl _).trans ((hA c 1).trans (V_main_arg2 m c))),
      ((h c).2 main_arg3 (by decide : main_arg3 ∈ Pipeline.restRefs sig spec0)).trans (V_main_arg3 m c)⟩) h

end Cert.Kernel6Ideal.Down

end
-- ==== Proof.DownBody.lean ====
/-
  The expert product (down): one run of the body at a point. Where the block's expert is not the one before's it fills the
  scratch with the expert's weights, and where the block holds rows it multiplies them by the scratch and stores the
  product with the bias; where it holds none it stores zeros.
-/
module

public import proofs.«01_k».proof.Proof.DownKit
public import Idealize.ShloMosaic.Lib.Pipeline.Value

@[expose] public section

set_option maxRecDepth 16384

noncomputable section

namespace Cert.Kernel6Ideal.Down

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz4 : (![0, 0, 0, 0] : Fin 4 → ℕ) = fun _ => 0 := by funext a; fin_cases a <;> rfl

/-- A whole load of a buffer held at `x` reads `x`. -/
theorem load_whole {sp : Space} {S : Shape} {e : EltTy} (arg : Memref sig .tc sp S e) (h : arg.IsWhole) (x : S.Idx → Elt F e)
    {off : Fin S.rank → ℕ} (hz : off = fun _ => 0) (inb : ∀ a, off a + S.size a ≤ S.size a) :
    View.readAt (Elt F) arg.view (Rect.unit off S.size inb).toLoadRect (h.unread x) = x := by
  rw [View.readAt_eq_ld, h.read_unread, View.ld_unit_zero hz]

/-- A whole store leaves the value stored. -/
theorem read_store_whole {sp : Space} {S : Shape} {e : EltTy} (v : View sig .tc sp S e) (f : v.ty.Contents (Elt F)) (x : S.Idx → Elt F e)
    {off : Fin S.rank → ℕ} (hz : off = fun _ => 0) (inb : ∀ a, off a + S.size a ≤ S.size a) :
    View.read (Elt F) v (v.writes (Elt F) f [⟨Rect.unit off S.size inb, x⟩]) = x := by
  subst hz
  rw [View.read_writes_eq_canon v f _ (fun y => ⟨_, List.mem_singleton_self _, View.mem_set_unit_zero rfl inb y⟩), View.canon_unit_zero rfl]

/-- A whole store under a condition leaves the value stored where it holds, and what was there before elsewhere. -/
theorem read_store_if {sp : Space} {S : Shape} {e : EltTy} (v : View sig .tc sp S e) (f : v.ty.Contents (Elt F)) (x s : S.Idx → Elt F e)
    (hs : View.read (Elt F) v f = s) (C : Prop) [Decidable C]
    {off : Fin S.rank → ℕ} (hz : off = fun _ => 0) (inb : ∀ a, off a + S.size a ≤ S.size a) :
    View.read (Elt F) v (if _h : C then v.writes (Elt F) f [⟨Rect.unit off S.size inb, x⟩] else f) = if C then x else s := by
  by_cases h : C
  · rw [dif_pos h, if_pos h, read_store_whole v f x hz]
  · rw [dif_neg h, if_neg h, hs]

/-! ## What one point computes -/

/-- The word of a table of 224 at an offset. -/
def word224 (x : S224.Idx → BitVec 32) (off : Fin 1 → ℕ) (h : ∀ a, off a + S1.size a ≤ S224.size a) : BitVec 32 :=
  x ((Rect.unit (s := S224) off S1.size h).emb (Shape.Idx.first (Nat.lt_of_lt_of_eq Nat.one_pos numel1_S1.symm)))

/-- The count of blocks that hold rows. -/
def wordNv (x : S1.Idx → BitVec 32) : BitVec 32 :=
  x ((Rect.unit (s := S1) ![0] S1.size inb_S1_S1_0).emb (Shape.Idx.first (Nat.lt_of_lt_of_eq Nat.one_pos numel1_S1.symm)))

/-- Whether the weights held are another expert's: at the first block, or where the block's expert is not the one before's. -/
def fresh (i : grid0.Coords) (be : S224.Idx → BitVec 32) : BitVec 1 :=
  Scalar.cmpi .ne (Scalar.extui (Scalar.ori (Scalar.cmpi .eq (BitVec.ofNat 32 (i 1).val) 0#32)
    (Scalar.cmpi .ne (word224 be (k0_off1 i) (k0_off1_inb i)) (word224 be (k0_off2 i) (k0_off2_inb i)))) : BitVec 32) 0#32

theorem cond_compl (i : grid0.Coords) (w : BitVec 32) : k0_cond3 i w = 1#1 ↔ ¬ k0_cond2 i w = 1#1 := by
  unfold k0_cond2 k0_cond3
  dsimp only
  generalize (BitVec.ofNat 32 (i 1).val) = a
  have e1 : Scalar.cmpi .slt a w = BitVec.ofBool (a.slt w) := rfl
  have e2 : Scalar.cmpi .sge a w = BitVec.ofBool (w.sle a) := rfl
  rw [e1, e2]
  have e3 : w.sle a = !(a.slt w) := by
    simp only [BitVec.sle_eq_decide, BitVec.slt_eq_decide, ← decide_not, not_lt]
  rw [e3]
  cases a.slt w <;> decide

theorem pay2_congr {a a' : Vec F S512x2048 .bf16} {w w' : Vec F S2048x2048 .bf16} {x x' : Vec F S1x1x1x2048 .f32}
    (ha : a = a') (hw : w = w') (hx : x = x') : k0_pay2 a w x = k0_pay2 a' w' x' := by
  subst ha hw hx; rfl

set_option maxHeartbeats 1000000 in
theorem body_run (c : Dev nD) (i : grid0.Coords) (arg4 : Memref sig .tc .vmem S512x2048 .bf16) (harg4 : arg4.IsWhole) (arg5 : Memref sig .tc .vmem S1x1x2048x2048 .f32) (harg5 : arg5.IsWhole) (arg6 : Memref sig .tc .vmem S1x1x1x2048 .f32) (harg6 : arg6.IsWhole) (arg7 : Memref sig .tc .vmem S512x2048 .bf16) (harg7 : arg7.IsWhole)
    (x0 : Vec F S512x2048 .bf16) (x1 : Vec F S1x1x2048x2048 .f32) (x2 : Vec F S1x1x1x2048 .f32) (s0 : Vec F S2048x2048 .bf16) (xt0 : TbBuf0 (F := F) c tbM0_0) (xt1 : TbBuf0 (F := F) c tbM0_1)
    (E : Set ℕ) (K : PUnit → sProp 𝕄) :
        iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) scM0_0 fullShare s0 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare
                  (if k0_cond2 i (wordNv xt1) = 1#1 then k0_pay2 x0 (if fresh i xt0 = 1#1 then k0_pay1 x1 else s0) x2 else k0_pay3)
                ∗ owns (c : Thread nD τ) scM0_0 fullShare (if fresh i xt0 = 1#1 then k0_pay1 x1 else s0) ∗ tbPt0 c tbM0_0 xt0 ∗ tbPt0 c tbM0_1 xt1) -∗ K ⟨⟩))
          ⊢ wp frame (wpE (defs₀ (F := F)) Variants.none c none) E (cc0_moe_down i tbM0_0 htbM0_0 tbM0_1 htbM0_1 arg4 harg4 arg5 harg5 arg6 harg6 arg7 harg7 scM0_0 (Memref.isWhole_whole _)) K := by
  simp only [cc0_moe_down_eq_skeleton]; unfold cc0_moe_down_skel
  unfold owns
  iintro ⟨⟨%f0, %hf0, H0⟩, ⟨%f1, %hf1, H1⟩, ⟨%f2, %hf2, H2⟩, ⟨%d3, %f3, -, H3⟩, ⟨%fs0, %hs0, HS0⟩, HT0, HT1, Hk⟩
  obtain rfl := harg4.eq_unread hf0; obtain rfl := harg5.eq_unread hf1; obtain rfl := harg6.eq_unread hf2
  have e0 : View.read (Elt F) scM0_0.view (if _h : fresh i xt0 = 1#1 then scM0_0.view.writes (Elt F) fs0
      [⟨Rect.unit ![0, 0] S2048x2048.size inb_S2048x2048_S2048x2048_0_0,
        k0_pay1 (View.readAt (Elt F) arg5.view (Rect.unit ![0, 0, 0, 0] S1x1x2048x2048.size inb_S1x1x2048x2048_S1x1x2048x2048_0_0_0_0).toLoadRect (harg5.unread x1))⟩] else fs0)
      = if fresh i xt0 = 1#1 then k0_pay1 x1 else s0 := by
    rw [load_whole arg5 harg5 x1 hz4]
    exact read_store_if scM0_0.view fs0 _ s0 hs0 _ hz2 _
  sl_exec
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr
    swap; · iexact H3
    ipureintro
    by_cases h2 : k0_cond2 i (wordNv xt1) = 1#1
    · have h3 : ¬ k0_cond3 i (wordNv xt1) = 1#1 := fun h => (cond_compl i _).mp h h2
      refine (congrArg (View.read (Elt F) arg7.view) ((dif_neg h3).trans (dif_pos h2))).trans ?_
      rw [if_pos h2]
      refine (read_store_whole arg7.view f3 _ hz2 inb_S512x2048_S512x2048_0_0).trans ?_
      sl_unfold_words
      refine pay2_congr (load_whole arg4 harg4 x0 hz2 _) ?_ (load_whole arg6 harg6 x2 hz4 _)
      exact (congrArg (fun w => View.ld w (Rect.unit (s := S2048x2048) ![0, 0] S2048x2048.size inb_S2048x2048_S2048x2048_0_0)) e0).trans (View.ld_unit_zero hz2 _ _)
    · have h3 : k0_cond3 i (wordNv xt1) = 1#1 := (cond_compl i _).mpr h2
      refine (congrArg (View.read (Elt F) arg7.view) (dif_pos h3)).trans ?_
      rw [if_neg h2]
      exact read_store_whole arg7.view _ _ hz2 inb_S512x2048_S512x2048_0_0
  isplitl [HS0]
  · iexists _; isplitr
    swap; · iexact HS0
    ipureintro; exact e0
  isplitl [HT0]; · iexact HT0
  iexact HT1

end Cert.Kernel6Ideal.Down

end
-- ==== Proof.DownFrame.lean ====
/-
  The expert product (down): its run. A point finds the weights of its expert in the scratch, rounded, where the block
  before was the same expert's, and puts them there where it was not; so after every point the scratch holds the point's
  own weight block rounded, and that is what is carried from point to point.
-/
module

public import proofs.«01_k».proof.Proof.DownBody
public import Idealize.ShloMosaic.Lib.Claim

@[expose] public section

set_option maxRecDepth 16384

noncomputable section

namespace Cert.Kernel6Ideal.Down

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points, and the words the blocks are chosen by -/

theorem coord0 (t : Fin grid0.N) : ((grid0.coords t) 0).val = t.val / 224 :=
  (by decide +kernel : ∀ t : Fin grid0.N, ((grid0.coords t) 0).val = t.val / 224) t
theorem coord1 (t : Fin grid0.N) : ((grid0.coords t) 1).val = t.val % 224 :=
  (by decide +kernel : ∀ t : Fin grid0.N, ((grid0.coords t) 1).val = t.val % 224) t
theorem off1_at (t : Fin grid0.N) : k0_off1 (grid0.coords t) 0 = t.val % 224 :=
  (by decide +kernel : ∀ t : Fin grid0.N, k0_off1 (grid0.coords t) 0 = t.val % 224) t
theorem off2_at (t : Fin grid0.N) : k0_off2 (grid0.coords t) 0 = t.val % 224 - 1 :=
  (by decide +kernel : ∀ t : Fin grid0.N, k0_off2 (grid0.coords t) 0 = t.val % 224 - 1) t
theorem first_block (t : Fin grid0.N) (h : t.val % 224 = 0) : Scalar.cmpi .eq (BitVec.ofNat 32 ((grid0.coords t) 1).val) 0#32 = 1#1 :=
  (by decide +kernel : ∀ t : Fin grid0.N, t.val % 224 = 0 → Scalar.cmpi .eq (BitVec.ofNat 32 ((grid0.coords t) 1).val) 0#32 = 1#1) t h

/-- A table's word at an offset is its entry there. -/
theorem word224_eq (x : S224.Idx → BitVec 32) (off : Fin 1 → ℕ) (h : ∀ a, off a + S1.size a ≤ S224.size a) (b : S224.Idx) (hb : (b 0).val = off 0) :
    word224 x off h = x b := by
  unfold word224
  congr 1
  funext a
  apply Fin.ext
  match a with
  | ⟨0, _⟩ => show off 0 + 1 * 0 = (b 0).val; omega

/-- The index `k` of a table. -/
def at224 (k : ℕ) (h : k < 224) : S224.Idx := fun a => match a with | ⟨0, _⟩ => (⟨k, h⟩ : Fin 224)

/-- The word of point `t` in a table `be`: its expert. -/
abbrev expW (be : S224.Idx → BitVec 32) (t : Fin grid0.N) : BitVec 32 := word224 be (k0_off1 (grid0.coords t)) (k0_off1_inb (grid0.coords t))

/-- Where the held weights are kept, the block is not the first and the one before is the same expert's. -/
theorem kept (be : S224.Idx → BitVec 32) (n : ℕ) (hn : n + 1 < grid0.N) (h : ¬ fresh (grid0.coords ⟨n + 1, hn⟩) be = 1#1) :
    (n + 1) % 224 ≠ 0 ∧ expW be ⟨n + 1, hn⟩ = expW be ⟨n, Nat.lt_of_succ_lt hn⟩ := by
  have key : ∀ (a b : BitVec 1), ¬ Scalar.cmpi .ne (Scalar.extui (Scalar.ori a b) : BitVec 32) 0#32 = 1#1 → a = 0#1 ∧ b = 0#1 := by decide
  obtain ⟨ha, hb⟩ := key _ _ h
  have h0 : (n + 1) % 224 ≠ 0 := fun h0 => by
    have := first_block ⟨n + 1, hn⟩ h0
    rw [this] at ha
    exact absurd ha (by decide)
  refine ⟨h0, ?_⟩
  have e : word224 be (k0_off1 (grid0.coords ⟨n + 1, hn⟩)) (k0_off1_inb _) = word224 be (k0_off2 (grid0.coords ⟨n + 1, hn⟩)) (k0_off2_inb _) := by
    by_contra hne
    have : Scalar.cmpi .ne (word224 be (k0_off1 (grid0.coords ⟨n + 1, hn⟩)) (k0_off1_inb _)) (word224 be (k0_off2 (grid0.coords ⟨n + 1, hn⟩)) (k0_off2_inb _)) = 1#1 := by
      show BitVec.ofBool (_ != _) = 1#1
      rw [bne_iff_ne.mpr hne]; rfl
    rw [this] at hb
    exact absurd hb (by decide)
  refine e.trans ?_
  have hlt : n % 224 < 224 := Nat.mod_lt _ (by decide)
  rw [word224_eq be _ _ (at224 (n % 224) hlt) (by rw [off2_at]; show n % 224 = (n + 1) % 224 - 1; omega)]
  exact (word224_eq be _ _ (at224 (n % 224) hlt) (off1_at ⟨n, Nat.lt_of_succ_lt hn⟩).symm).symm

/-! ## The weight blocks -/

theorem read1_eq (a : (pcfg0 (F := F)).Adm) (t : Fin grid0.N) (f : S2x32x2048x2048.Idx → Elt F .f32) (y : S1x1x2048x2048.Idx) (z : S2x32x2048x2048.Idx)
    (hz : ∀ d, (z d).val = cc0_transform_1 k0_off1_inb numel1_S1 a.1 (grid0.coords t) d * S1x1x2048x2048.size d + (y d).val) :
    (((cfg0 a).win 1).blk t).view.read (Elt F) f y = f z := by
  show f _ = f z
  congr 1
  funext d
  apply Fin.ext
  rw [hz d]
  show cc0_transform_1 k0_off1_inb numel1_S1 a.1 (grid0.coords t) d * S1x1x2048x2048.size d + 1 * (y d).val = _
  rw [Nat.one_mul]
/-- A point's weights: the block of its expert. -/
theorem iblk1_eq (hO : Ok m) (c : Dev nD) (t : Fin grid0.N) (y : S1x1x2048x2048.Idx) (z : S2x32x2048x2048.Idx)
    (hz : ∀ a, (z a).val = cc0_transform_1 k0_off1_inb numel1_S1 (tbl m) (grid0.coords t) a * S1x1x2048x2048.size a + (y a).val) :
    (iblk m hO c 1 t : Vec F S1x1x2048x2048 .f32) y = V m c main_arg2 z :=
  read1_eq (adm m hO) t (V m c main_arg2) y z hz
/-- The block of the weights a point reads. -/
theorem ix1_at (t : Fin grid0.N) : ∀ pf : pre0.Contents (Elt F), cc0_transform_1 k0_off1_inb numel1_S1 pf (grid0.coords t)
    = ![1, (word224 (pf 0) (k0_off1 (grid0.coords t)) (k0_off1_inb (grid0.coords t))).toNat, 0, (BitVec.ofNat 32 ((grid0.coords t) 0).val).toNat] := fun _ => rfl
theorem ix1_congr (pf : pre0.Contents (Elt F)) (n : ℕ) (hn : n + 1 < grid0.N) (h0 : (n + 1) % 224 ≠ 0)
    (he : expW (pf 0) ⟨n + 1, hn⟩ = expW (pf 0) ⟨n, Nat.lt_of_succ_lt hn⟩) :
    cc0_transform_1 k0_off1_inb numel1_S1 pf (grid0.coords ⟨n + 1, hn⟩) = cc0_transform_1 k0_off1_inb numel1_S1 pf (grid0.coords ⟨n, Nat.lt_of_succ_lt hn⟩) := by
  have hc : ((grid0.coords ⟨n + 1, hn⟩) 0).val = ((grid0.coords ⟨n, Nat.lt_of_succ_lt hn⟩) 0).val :=
    (coord0 ⟨n + 1, hn⟩).trans ((show (n + 1) / 224 = n / 224 by omega).trans (coord0 ⟨n, Nat.lt_of_succ_lt hn⟩).symm)
  refine (ix1_at ⟨n + 1, hn⟩ _).trans (Eq.trans ?_ (ix1_at ⟨n, Nat.lt_of_succ_lt hn⟩ _).symm)
  rw [hc]
  exact congrArg (fun w : BitVec 32 => ![1, w.toNat, 0, _]) he
/-- A point's index into the weights, inside them. -/
def wIdx1 (hO : Ok m) (t : Fin grid0.N) (y : S1x1x2048x2048.Idx) : S2x32x2048x2048.Idx := fun a =>
  ⟨cc0_transform_1 k0_off1_inb numel1_S1 (tbl m) (grid0.coords t) a * S1x1x2048x2048.size a + (y a).val, by
    have h := (hO.1 (grid0.coords t)).elim fun h _ => h a
    have := (y a).isLt
    rw [Nat.add_mul, Nat.one_mul] at h
    omega⟩
/-- The weights a point multiplies by, rounded. -/
def expertW (hO : Ok m) (c : Dev nD) (t : Fin grid0.N) : Vec F S2048x2048 .bf16 := k0_pay1 (iblk m hO c 1 t : Vec F S1x1x2048x2048 .f32)
/-- Where they are kept they are the point's own. -/
theorem expertW_kept (hO : Ok m) (c : Dev nD) (n : ℕ) (hn : n + 1 < grid0.N) (h : ¬ fresh (grid0.coords ⟨n + 1, hn⟩) (tbl m 0) = 1#1) :
    expertW m hO c ⟨n, Nat.lt_of_succ_lt hn⟩ = expertW m hO c ⟨n + 1, hn⟩ := by
  obtain ⟨h0, he⟩ := kept (tbl m 0) n hn h
  unfold expertW
  refine congrArg k0_pay1 (funext fun y => ?_)
  rw [iblk1_eq m hO c ⟨n + 1, hn⟩ y (wIdx1 m hO ⟨n + 1, hn⟩ y) (fun _ => rfl)]
  exact iblk1_eq m hO c ⟨n, Nat.lt_of_succ_lt hn⟩ y _ (fun a => congrArg (fun g : Fin 4 → ℕ => g a * S1x1x2048x2048.size a + (y a).val) (ix1_congr (tbl m) n hn h0 he))
/-! ## The proof data -/

/-- What a point leaves in the output block. -/
def outAt (hO : Ok m) (c : Dev nD) (t : Fin grid0.N) : Vec F S512x2048 .bf16 :=
  if k0_cond2 (grid0.coords t) (wordNv (tbl m 1)) = 1#1 then
    k0_pay2 (iblk m hO c 0 t : Vec F S512x2048 .bf16) (expertW m hO c t) (iblk m hO c 2 t : Vec F S1x1x1x2048 .f32)
  else k0_pay3

/-- What is carried: before the first point nothing, after a point its weights in the scratch; and the tables. -/
def PhiS (hO : Ok m) (c : Dev nD) : (n : ℕ) → n ≤ grid0.N → sProp 𝕄
  | 0, _ => iprop(Pipeline.ΦA spec0 c ∗ Pipeline.ΦT pre0 (tbl m) c)
  | n + 1, hn => iprop(iprop(owns (c : Thread nD τ) scM0_0 fullShare (expertW m hO c ⟨n, hn⟩) ∗ (∃ r, prngReg c r)) ∗ Pipeline.ΦT pre0 (tbl m) c)

/-- The proof data: the arrays as the region finds them, the blocks a point leaves, and what is carried. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO c t
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- A body that leaves each block as the data say, at points that write back what they may leave alone, meets its
    obligation. -/
theorem obligation_of {cfg : Cfg sig Λ₀} {c : Dev nD} (dat : Dat τ (Elt F) Unit ℕ (UR sig nD τ) ℕ cfg c)
    (hl : ∀ w t, cfg.idle w (cfg.grid.coords t) = true → (cfg.win w).flush t = true)
    (h : ∀ t : Fin cfg.N, iprop(dat.Φ t.castSucc ∗ dat.owesAt () t.castSucc
        ∗ bigSep Finset.univ fun w : Fin cfg.W => iprop(∃ d, owns c ((cfg.win w).stage (cfg.slots t w)) fullShare (dat.before w t d)))
      ⊢ wp frame (wpE (defs₀ (F := F)) Variants.none c none) Set.univ ((defs₀ (F := F)) .tc cfg.body (cfg.bodyArgs t (cfg.slots t))) fun _ =>
          iprop(dat.Φ t.succ ∗ dat.owesAt () t.succ
            ∗ bigSep Finset.univ fun w : Fin cfg.W => owns c ((cfg.win w).stage (cfg.slots t w)) fullShare (dat.after w t))) :
    BodyObligation dat (defs₀ (F := F)) Variants.none () Set.univ := fun t => by
  have e : ∀ w, dat.leavesExact w t = owns c ((cfg.win w).stage (cfg.slots t w)) fullShare (dat.after w t) := fun w => by
    unfold Dat.leavesExact
    split
    · rename_i hi; rw [hl w t hi]
    · rfl
  exact triple_restated (h t) rfl .rfl fun _ => by rw [← funext e]

/-- The only block a point may leave alone is the output's, which is written back at every point. -/
theorem idle_flush (a : (pcfg0 (F := F)).Adm) : ∀ (w : Fin 4) (t : Fin (cfg0 a).N), (cfg0 a).idle w ((cfg0 a).grid.coords t) = true → ((cfg0 a).win w).flush t = true
  | ⟨0, _⟩, _, h => absurd (show false = true from h) (by decide)
  | ⟨1, _⟩, _, h => absurd (show false = true from h) (by decide)
  | ⟨2, _⟩, _, h => absurd (show false = true from h) (by decide)
  | ⟨3, _⟩, t, _ => flush0_3 a t

theorem PhiS_zero (hO : Ok m) (c : Dev nD) (n : ℕ) (h : n ≤ grid0.N) (hz : n = 0) :
    PhiS m hO c n h = iprop(Pipeline.ΦA spec0 c ∗ Pipeline.ΦT pre0 (tbl m) c) := by subst hz; rfl
theorem PhiS_succ (hO : Ok m) (c : Dev nD) (n : ℕ) (hn : n < grid0.N) :
    PhiS m hO c (n + 1) hn = iprop(iprop(owns (c : Thread nD τ) scM0_0 fullShare (expertW m hO c ⟨n, hn⟩) ∗ (∃ r, prngReg c r)) ∗ Pipeline.ΦT pre0 (tbl m) c) := rfl

/-! ## The body at a point -/

/-- What the body is called with at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

/-- From a scratch `s0` that is the point's weights wherever it is kept. -/
theorem sound_from (hO : Ok m) (c : Dev nD) (t : Fin (cfgM m hO).N) (s0 : Vec F S2048x2048 .bf16)
    (h0 : ¬ fresh (grid0.coords t) (tbl m 0) = 1#1 → s0 = expertW m hO c t) :
    iprop((iprop(owns (c : Thread nD τ) scM0_0 fullShare s0 ∗ (∃ r, prngReg c r)) ∗ Pipeline.ΦT pre0 (tbl m) c)
      ∗ (dats m hO 0 c).owesAt () t.castSucc
      ∗ (∃ d, owns (c : Thread nD τ) (ms0_0 m hO t) fullShare ((dats m hO 0 c).before 0 t d))
      ∗ (∃ d, owns (c : Thread nD τ) (ms0_1 m hO t) fullShare ((dats m hO 0 c).before 1 t d))
      ∗ (∃ d, owns (c : Thread nD τ) (ms0_2 m hO t) fullShare ((dats m hO 0 c).before 2 t d))
      ∗ (∃ d, owns (c : Thread nD τ) (ms0_3 m hO t) fullShare ((dats m hO 0 c).before 3 t d)))
      ⊢ wp frame (wpE (defs₀ (F := F)) Variants.none c none) Set.univ (bodyAt0 (adm m hO) t) (fun _ => bodyPost m hO c t) := by
  have g0 : (if fresh (grid0.coords t) (tbl m 0) = 1#1 then k0_pay1 (iblk m hO c 1 t : Vec F S1x1x2048x2048 .f32) else s0) = expertW m hO c t := by
    by_cases h : fresh (grid0.coords t) (tbl m 0) = 1#1
    · rw [if_pos h]; rfl
    · rw [if_neg h]; exact h0 h
  unfold bodyPost bodyAt0
  rw [after0_3]
  unfold outAt
  simp only [before0_0, before0_1, before0_2]
  rw [show (dats m hO 0 c).Φ t.succ = PhiS m hO c (t.val + 1) t.isLt from rfl, PhiS_succ m hO c t.val t.isLt,
    show (dats m hO 0 c).owesAt () t.succ = (dats m hO 0 c).owesAt () t.castSucc from rfl,
    after0_0, after0_1, after0_2, PhiT0_eq]
  rw [show expertW m hO c ⟨t.val, t.isLt⟩ = expertW m hO c t from rfl, ← g0]
  iintro ⟨⟨⟨HS0, Hg⟩, ⟨HT0, HT1⟩⟩, Ho, ⟨%d0, H0⟩, ⟨%d1, H1⟩, ⟨%d2, H2⟩, ⟨%d3, H3⟩⟩
  iapply (body_run c (grid0.coords t) _ _ _ _ _ _ _ _ (iblk m hO c 0 t) (iblk m hO c 1 t) (iblk m hO c 2 t) s0 (tbl m 0) (tbl m 1) Set.univ _)
  isplitl [H0]; · iexact H0
  isplitl [H1]; · iexact H1
  isplitl [H2]; · iexact H2
  isplitl [H3]; · iexists _; iexact H3
  isplitl [HS0]; · iexact HS0
  isplitl [HT0]; · iexact HT0
  isplitl [HT1]; · iexact HT1
  iintro ⟨H0, H1, H2, H3, HS0, HT0, HT1⟩
  isplitl [HS0 Hg HT0 HT1]
  · isplitl [HS0 Hg]
    · isplitl [HS0]
      · iexact HS0
      iexact Hg
    isplitl [HT0]; · iexact HT0
    iexact HT1
  isplitl [Ho]; · iexact Ho
  isplitl [H0]; · iexact H0
  isplitl [H1]; · iexact H1
  isplitl [H2]; · iexact H2
  iexact H3

/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre
  rcases t with ⟨n, hn⟩
  cases n with
  | zero =>
    have hf : fresh (grid0.coords (⟨0, hn⟩ : Fin grid0.N)) (tbl m 0) = 1#1 := by
      unfold fresh
      rw [first_block ⟨0, hn⟩ rfl]
      exact (by decide : ∀ b : BitVec 1, Scalar.cmpi .ne (Scalar.extui (Scalar.ori 1#1 b) : BitVec 32) 0#32 = 1#1) _
    rw [show (dats m hO 0 c).Φ (Fin.castSucc ⟨0, hn⟩) = PhiS m hO c 0 (Nat.zero_le _) from rfl, PhiS_zero m hO c 0 _ rfl, PhiA0_eq]
    iintro ⟨⟨⟨⟨%s0, HS0⟩, Hg⟩, HT⟩, H⟩
    iapply (sound_from m hO c ⟨0, hn⟩ s0 (fun h => absurd hf h))
    isplitr [H]
    · isplitr [HT]
      · isplitr [Hg]
        · iexact HS0
        iexact Hg
      iexact HT
    iexact H
  | succ n =>
    rw [show (dats m hO 0 c).Φ (Fin.castSucc ⟨n + 1, hn⟩) = PhiS m hO c (n + 1) (Nat.le_of_lt hn) from rfl, PhiS_succ m hO c n (Nat.lt_of_succ_lt hn)]
    exact sound_from m hO c ⟨n + 1, hn⟩ _ (expertW_kept m hO c n hn)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 2000000 in
theorem body_obligation (hO : Ok m) (c : Dev nD) : BodyObligation (dats (F := F) m hO 0 c) (defs₀ (F := F)) Variants.none () Set.univ := obligation_of _ (idle_flush (adm m hO)) fun t => by
  rw [bigSep_W0, bigSep_W0, defs₀_row m hO]
  exact triple_restated (sound_body m hO c t) rfl .rfl fun _ => .rfl

/-- What the launch hands over is what is carried before the first point, -/
theorem hin (hO : Ok m) (c : Dev nD) : iprop(Pipeline.ΦA spec0 c ∗ Pipeline.ΦT pre0 (tbl m) c) ⊢ (dats m hO 0 c).Φ 0 :=
  Idealize.SL.BI.Entails.refl _

/-- and after the last point the scratch is given back. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (223 + 1) (by decide) from rfl, PhiS_succ m hO c 223 (by decide), PhiA0_eq]
  iintro ⟨⟨HS0, Hg⟩, -⟩
  isplitr [Hg]
  · iexists _; iexact HS0
  iexact Hg

/-! ## The run and the frame -/

set_option maxHeartbeats 2000000 in
set_option backward.isDefEq.respectTransparency.types false in
/-- From any memory the program runs to its end, each array of the pipeline as the proof data say, the counters at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun _ w => by match w with | ⟨0, _⟩ => rfl | ⟨1, _⟩ => rfl | ⟨2, _⟩ => rfl | ⟨3, _⟩ => rfl)
    (howed := fun _ _ => rfl) (V := V m) (hmain := hmain m Variants.none) (hA := A_eq m hO) (hpf := V_pre m)
    (hin := hin m hO) (hout := hout m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.Kernel6Ideal.Down

end
-- ==== Proof.DownRef.lean ====
/-
  The expert product (down): its reference. The counts of tokens per expert give where each expert's padded rows
  end; of these come, for each block of 512 rows, the expert whose rows it holds, and the number of blocks in
  use. Each block is multiplied by the weights of its expert.
-/
module

public import proofs.«01_k».proof.Defs
public import proofs.«01_k».proof.Proof.Gen.Reference6Ideal.Run
public import Idealize.ShloMosaic.Lib.Pointwise
public import Idealize.ShloMosaic.Lib.Routing.Ops
public import Idealize.ShloMosaic.Lib.Tactic.CleanTypes

@[expose] public section

set_option maxRecDepth 16384

noncomputable section

open Idealize.ShloMosaic Idealize.ShloMosaic.TcCoe Idealize.SL.Sem

namespace Cert.Reference6Ideal.Hand

open Cert.Reference6Ideal Cert.Reference6Ideal.Gen

variable {F : FTy → Type} [FloatOps F]

/-! ## The tables, of the counts -/

def up511 (n : IVec S32 32) : IVec S32 32 := subi (addi n (broadcastInDim S32 ![] bcast_S_S32 (constantI S_ 32 512#32))) (broadcastInDim S32 ![] bcast_S_S32 (constantI S_ 32 1#32))
/-- The blocks each expert's tokens take: the count divided by 512, rounded up. -/
def blocks (n : IVec S32 32) : IVec S32 32 := select (andi (cmpi .ne (signi (up511 n)) (broadcastInDim S32 ![] bcast_S_S32 (signi (id (constantI S_ 32 512#32))))) (cmpi .ne (Host.remsi (up511 n) (broadcastInDim S32 ![] bcast_S_S32 (id (constantI S_ 32 512#32)))) (broadcastInDim S32 ![] bcast_S_S32 (constantI S_ 32 0#32)))) (subi (Host.divsi (up511 n) (broadcastInDim S32 ![] bcast_S_S32 (id (constantI S_ 32 512#32)))) (broadcastInDim S32 ![] bcast_S_S32 (constantI S_ 32 1#32))) (Host.divsi (up511 n) (broadcastInDim S32 ![] bcast_S_S32 (id (constantI S_ 32 512#32))))
/-- The rows they take. -/
def padded (n : IVec S32 32) : IVec S32 32 := muli (blocks n) (broadcastInDim S32 ![] bcast_S_S32 (constantI S_ 32 512#32))
/-- Where each expert's rows end. -/
def padEnd (n : IVec S32 32) : IVec S32 32 := Host.reduceWindow IntOp.addi ![32] ![1] ![31] ![0] (padded n) (broadcastInDim S_ ![] bcast_S_S_ (constantI S_ 32 0#32)) reduceWindows_S32_S32_w32s1p31_0 h_S_
def lastEnd (n : IVec S32 32) : IVec S_ 32 := shapeCast _ (extractStridedSlice S1 ![31] (padEnd n) slices_S32_S1_31) shapeCasts_S1_S_
/-- The number of blocks in use. -/
def nvOf (n : IVec S32 32) : IVec S_ 32 := select (andi (cmpi .ne (signi (lastEnd n)) (signi (id (constantI S_ 32 512#32)))) (cmpi .ne (Host.remsi (lastEnd n) (id (constantI S_ 32 512#32))) (constantI S_ 32 0#32))) (subi (Host.divsi (lastEnd n) (id (constantI S_ 32 512#32))) (constantI S_ 32 1#32)) (Host.divsi (lastEnd n) (id (constantI S_ 32 512#32)))
/-- The expert of each block. -/
def beOf (n : IVec S32 32) : IVec S224 32 := minsi (Host.reduce IntOp.addi (extui 32 (cmpi .sge (broadcastInDim S224x32 ![0, 1] bcast_S224x1_S224x32_0_1 (broadcastInDim S224x1 ![0] bcast_S224_S224x1_0 (muli (iotaInDim S224 32 0) (broadcastInDim S224 ![] bcast_S_S224 (constantI S_ 32 512#32))))) (broadcastInDim S224x32 ![0, 1] bcast_S1x32_S224x32_0_1 (broadcastInDim S1x32 ![1] bcast_S32_S1x32_1 (padEnd n)))) natLt_1_32) (constantI S_ 32 0#32) reducesTo_S224x32_S224_d1 h_S_) (broadcastInDim S224 ![] bcast_S_S224 (constantI S_ 32 31#32))
/-- An expert's number as the gathers read it. -/
def wrapped (be : IVec S224 32) : IVec S224x1 32 := broadcastInDim S224x1 ![0] bcast_S224_S224x1_0 (select (cmpi .slt be (broadcastInDim S224 ![] bcast_S_S224 (constantI S_ 32 0#32))) (addi be (broadcastInDim S224 ![] bcast_S_S224 (constantI S_ 32 32#32))) be)
/-! ## The result, of the arguments and the tables -/

/-- A block's rows by its expert's weights, and the bias. -/
def downRaw (x : Vec F S114688x2048 .bf16) (be : IVec S224 32) (w : Vec F S2x32x2048x2048 .f32) (bd : Vec F S2x32x2048 .f32) : Vec F S224x512x2048 .f32 := addf (Host.dotGeneral dot_S224x512x2048_S224x2048x2048_S224x512x2048_2_1_1_2_0_0 none (shapeCast _ (extf .f32 x bitsLt_bf16_f32) shapeCasts_S114688x2048_S224x512x2048) (Host.gather gather_S32x2048x2048_S224x1_S224x2048x2048_12_0_n_n_0_1_120482048 (shapeCast _ (extractStridedSlice S1x32x2048x2048 ![1, 0, 0, 0] w slices_S2x32x2048x2048_S1x32x2048x2048_1_0_0_0) shapeCasts_S1x32x2048x2048_S32x2048x2048) (wrapped be))) (broadcastInDim S224x512x2048 ![0, 1, 2] bcast_S224x1x2048_S224x512x2048_0_1_2 (broadcastInDim S224x1x2048 ![0, 2] bcast_S224x2048_S224x1x2048_0_2 (Host.gather gather_S32x2048_S224x1_S224x2048_1_0_n_n_0_1_12048 (shapeCast _ (extractStridedSlice S1x32x2048 ![1, 0, 0] bd slices_S2x32x2048_S1x32x2048_1_0_0) shapeCasts_S1x32x2048_S32x2048) (wrapped be))))
def outOf (x : Vec F S114688x2048 .bf16) (be : IVec S224 32) (nv : IVec S_ 32) (w : Vec F S2x32x2048x2048 .f32) (bd : Vec F S2x32x2048 .f32) : Vec F S114688x2048 .bf16 := truncf .bf16 (shapeCast _ (select (broadcastInDim S224x512x2048 ![0, 1, 2] bcast_S224x1x1_S224x512x2048_0_1_2 (broadcastInDim S224x1x1 ![0] bcast_S224_S224x1x1_0 (cmpi .slt (iotaInDim S224 32 0) (broadcastInDim S224 ![] bcast_S_S224 nv)))) (downRaw x be w bd) (broadcastInDim S224x512x2048 ![] bcast_S_S224x512x2048 (id (constant S_ .f32 0x00000000#32)))) shapeCasts_S224x512x2048_S114688x2048) bitsLt_bf16_f32

section
set_option maxRecDepth 1000000

/-- The reference's result is that function of its arguments. -/
theorem res_eq (m : (ℓ : Loc nD τ sig) → Buf (Elt F) ℓ) (c : Dev nD) :
    Cert.Reference6Ideal.Value.res_out0 m c = outOf (m (c.tc.loc main_arg0)) (beOf (m (c.tc.loc main_arg1))) (nvOf (m (c.tc.loc main_arg1)))
      (m (c.tc.loc main_arg2)) (m (c.tc.loc main_arg3)) := by
  unfold Cert.Reference6Ideal.Value.res_out0 Cert.Reference6Ideal.Value.res_main_v53
  rfl

/-! ## A block's expert is one of the 32 -/

theorem fold_bits (g : Fin 32 → BitVec 1) (s : Finset (Fin 32)) :
    ∃ k ≤ s.card, Finset.fold IntOp.addi (0#32) (fun x => BitVec.setWidth 32 (g x)) s = BitVec.ofNat 32 k := by
  classical
  induction s using Finset.induction_on with
  | empty => exact ⟨0, Nat.le_refl _, rfl⟩
  | insert a s ha ih =>
    obtain ⟨k, hk, h⟩ := ih
    rw [Finset.fold_insert ha, h, Finset.card_insert_of_notMem ha]
    have hb : ∀ b : BitVec 1, b = 0#1 ∨ b = 1#1 := by decide
    rcases hb (g a) with e | e
    · refine ⟨k, by omega, ?_⟩
      rw [e]
      show BitVec.setWidth 32 0#1 + BitVec.ofNat 32 k = _
      rw [show BitVec.setWidth 32 0#1 = 0#32 from rfl, BitVec.zero_add]
    · refine ⟨1 + k, by omega, ?_⟩
      rw [e]
      show BitVec.setWidth 32 1#1 + BitVec.ofNat 32 k = _
      rw [show BitVec.setWidth 32 1#1 = BitVec.ofNat 32 1 from rfl, ← BitVec.ofNat_add]

/-- A count of 32 comparisons, at most 31. -/
theorem beOf_range (n : IVec S32 32) (b : Fin 224) : ∃ e : Fin 32, beOf n (ix1 b) = BitVec.ofNat 32 e.val := by
  unfold beOf
  generalize padEnd n = p
  clean_types
  pointwise
  obtain ⟨k, hk, h⟩ := fold_bits (fun x => IntOp.cmpi CmpIPredicate.sge (IntOp.muli (BitVec.ofNat 32 ↑b) 512#32) (p (ix1 x))) Finset.univ
  rw [h]
  have hk' : k < 33 := by rw [Finset.card_univ, Fintype.card_fin] at hk; omega
  exact (by decide : ∀ k : Fin 33, ∃ e : Fin 32, IntOp.minsi (BitVec.ofNat 32 k.val) 31#32 = BitVec.ofNat 32 e.val) ⟨k, hk'⟩

theorem wrapped_at (be : IVec S224 32) (b : Fin 224) (e : Fin 32) (h : be (ix1 b) = BitVec.ofNat 32 e.val) :
    wrapped be (ix2 b 0) = BitVec.ofNat 32 e.val := by
  unfold wrapped
  clean_types
  pointwise
  rw [h]
  exact (by decide : ∀ e : Fin 32, Scalar.select (IntOp.cmpi CmpIPredicate.slt (BitVec.ofNat 32 e.val) 0#32) (IntOp.addi (BitVec.ofNat 32 e.val) 32#32) (BitVec.ofNat 32 e.val) = BitVec.ofNat 32 e.val) e

/-! ## The gathers of an expert's weights and biases -/

theorem gather_w (x : Vec Ideal S32x2048x2048 .f32) (idx : IVec S224x1 32) (b : Fin 224) (k : Fin 2048) (f : Fin 2048) (e : Fin 32)
    (h : idx (ix2 b 0) = BitVec.ofNat 32 e.val) :
    Host.gather gather_S32x2048x2048_S224x1_S224x2048x2048_12_0_n_n_0_1_120482048 x idx (ix3 b k f) = x (ix3 e k f) := by
  unfold Host.gather
  congr 1
  funext a
  refine Fin.ext ?_
  show GatherDims.start _ _ idx a + GatherDims.batchCoord _ _ a + GatherDims.offCoord _ _ a = _
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rw [GatherDims.batchCoord_eq_zero _ _ _ (fun h => by exact absurd h List.not_mem_nil), Nat.add_zero]
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S32x2048x2048_S224x1_S224x2048x2048_12_0_n_n_0_1_120482048.startIndexMap from List.mem_singleton.mpr rfl)]
    have hsi : GatherDims.siIdx gather_S32x2048x2048_S224x1_S224x2048x2048_12_0_n_n_0_1_120482048 (ix3 b k f) ⟨List.idxOf (0 : Fin 3) gather_S32x2048x2048_S224x1_S224x2048x2048_12_0_n_n_0_1_120482048.startIndexMap,
        List.idxOf_lt_length_iff.2 (List.mem_singleton.mpr rfl)⟩ = ix2 b 0 := by
      funext d; refine Fin.ext ?_
      match d with
      | ⟨0, _⟩ => rfl
      | ⟨1, _⟩ => rfl
    refine (congrArg (fun w : BitVec 32 => min w.toInt.toNat (32 - 1)) ((congrArg idx hsi).trans h)).trans ?_
    exact (by decide : ∀ e : Fin 32, min (BitVec.ofNat 32 e.val).toInt.toNat (32 - 1) = e.val) e
  · unfold GatherDims.start GatherDims.offCoord
    rw [dif_neg (show (1 : Fin 3) ∉ gather_S32x2048x2048_S224x1_S224x2048x2048_12_0_n_n_0_1_120482048.startIndexMap from by decide), Nat.zero_add]
    rw [dif_pos ((GatherDims.mem_sKept _ _).mpr ⟨by decide, List.not_mem_nil⟩)]
    rfl
  · unfold GatherDims.start GatherDims.offCoord
    rw [dif_neg (show (2 : Fin 3) ∉ gather_S32x2048x2048_S224x1_S224x2048x2048_12_0_n_n_0_1_120482048.startIndexMap from by decide), Nat.zero_add]
    rw [dif_pos ((GatherDims.mem_sKept _ _).mpr ⟨by decide, List.not_mem_nil⟩)]
    rfl

theorem gather_b (x : Vec Ideal S32x2048 .f32) (idx : IVec S224x1 32) (b : Fin 224) (f : Fin 2048) (e : Fin 32)
    (h : idx (ix2 b 0) = BitVec.ofNat 32 e.val) :
    Host.gather gather_S32x2048_S224x1_S224x2048_1_0_n_n_0_1_12048 x idx (ix2 b f) = x (ix2 e f) :=
  Routing.gather_row _ rfl rfl rfl rfl rfl x idx b f e h (by decide)

/-! ## The entries -/

def zeroF : EReal := Ideal.ofBits FTy.f32 0#32

theorem downRaw_apply (x : Vec Ideal S114688x2048 .bf16) (be : IVec S224 32) (w : Vec Ideal S2x32x2048x2048 .f32) (bd : Vec Ideal S2x32x2048 .f32)
    (b : Fin 224) (r : Fin 512) (f : Fin 2048) (e : Fin 32) (h : be (ix1 b) = BitVec.ofNat 32 e.val) (R : Fin 114688) (hR : R.val = b.val * 512 + r.val) :
    downRaw x be w bd (ix3 b r f) = ∑ k, x (ix2 R k) * w (ix4 1 e k f) + bd (ix3 1 e f) := by
  have hw := wrapped_at be b e h
  unfold downRaw
  clean_types
  pointwise
  refine congrArg₂ (· + ·) (Finset.sum_congr rfl fun k _ => congrArg₂ (· * ·) ?_ ?_) ?_
  · rw [show (⟨b.val * 512 + r.val, by omega⟩ : Fin 114688) = R from Fin.ext hR.symm]
  · refine (gather_w _ _ b k f e hw).trans ?_
    pointwise
  · refine (gather_b _ _ b f e hw).trans ?_
    pointwise

theorem outOf_apply (x : Vec Ideal S114688x2048 .bf16) (be : IVec S224 32) (nv : IVec S_ 32) (w : Vec Ideal S2x32x2048x2048 .f32) (bd : Vec Ideal S2x32x2048 .f32)
    (R : Fin 114688) (f : Fin 2048) (b : Fin 224) (r : Fin 512) (hR : R.val = b.val * 512 + r.val) :
    outOf x be nv w bd (ix2 R f) =
      Scalar.select (IntOp.cmpi .slt (BitVec.ofNat 32 b.val) (nv ix0)) (downRaw x be w bd (ix3 b r f)) zeroF := by
  unfold outOf
  clean_types
  pointwise
  rw [show (⟨R.val / 512, by omega⟩ : Fin 224) = b from Fin.ext (by show R.val / 512 = b.val; omega),
    show (⟨R.val % 512, by omega⟩ : Fin 512) = r from Fin.ext (by show R.val % 512 = r.val; have := r.isLt; omega),
    show R.val / 512 = b.val by omega]
  rfl

end

end Cert.Reference6Ideal.Hand

end
-- ==== Proof.DownTables.lean ====
/-
  The expert product (down): the tables the host computes are the reference's, so every block's expert is one of
  the 32 and the blocks of weights a point reads lie inside them.
-/
module

public import proofs.«01_k».proof.Proof.DownFrame
public import proofs.«01_k».proof.Proof.DownRef
public import Idealize.ShloMosaic.Lib.Pipeline.Covers

@[expose] public section

set_option maxRecDepth 16384

noncomputable section

namespace Cert.Kernel6Ideal.Down

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Reference6Ideal.Hand (beOf nvOf beOf_range)

variable (m : (ℓ : Loc nD τ sig) → Buf (Elt F) ℓ) (ρ : Dev nD → PrngReg)

/-- The tokens counted per expert. -/
abbrev counts (c : Dev nD) : IVec S32 32 := m ((c : Thread nD τ).loc main_arg1)

section
set_option maxRecDepth 1000000

theorem V_be (c : Dev nD) : V m c main_v30 = beOf (counts m c) := by
  unfold V hostOps0 hostOps0_1 hostOps0_2 hostOps0_3 hostOps0_4 hostOps0_5 hostOps0_6 hostOps0_7 hostOps0_8
  simp only [StableHlo.TRef.binary, StableHlo.TRef.nullary, StableHlo.TRef.ternary, StableHlo.TRef.unary, StableHlo.TRef.toBuf, StableHlo.TRef.ofBuf, cast_eq, List.flatten_cons, List.flatten_nil, List.append_nil, List.cons_append, List.nil_append]
  after_results_simp
  rfl

theorem V_nv (c : Dev nD) : V m c main_v34 = shapeCast S1 (nvOf (counts m c)) shapeCasts_S_S1 := by
  unfold V hostOps0 hostOps0_1 hostOps0_2 hostOps0_3 hostOps0_4 hostOps0_5 hostOps0_6 hostOps0_7 hostOps0_8
  simp only [StableHlo.TRef.binary, StableHlo.TRef.nullary, StableHlo.TRef.ternary, StableHlo.TRef.unary, StableHlo.TRef.toBuf, StableHlo.TRef.ofBuf, cast_eq, List.flatten_cons, List.flatten_nil, List.append_nil, List.cons_append, List.nil_append]
  after_results_simp
  rfl

theorem V_bias (c : Dev nD) (a : Fin 2) (e : Fin 32) (f : Fin 2048) : V m c main_v52 (ix4 a e 0 f) = m ((c : Thread nD τ).loc main_arg3) (ix3 a e f) := by
  unfold V hostOps0 hostOps0_1 hostOps0_2 hostOps0_3 hostOps0_4 hostOps0_5 hostOps0_6 hostOps0_7 hostOps0_8
  simp only [StableHlo.TRef.binary, StableHlo.TRef.nullary, StableHlo.TRef.ternary, StableHlo.TRef.unary, StableHlo.TRef.toBuf, StableHlo.TRef.ofBuf, cast_eq, List.flatten_cons, List.flatten_nil, List.append_nil, List.cons_append, List.nil_append]
  after_results_simp
  clean_types
  pointwise
  try rfl
end

theorem tbl_be : tbl m 0 = beOf (counts m 0) := V_be m 0
theorem tbl_nv : tbl m 1 = shapeCast S1 (nvOf (counts m 0)) shapeCasts_S_S1 := V_nv m 0

/-- The block's index in a table. -/
theorem at224_eq (k : ℕ) (h : k < 224) : at224 k h = ix1 (⟨k, h⟩ : Fin 224) := by
  funext a
  match a with
  | ⟨0, _⟩ => rfl

/-- A point's expert is one of the 32. -/
theorem expW_range (t : Fin grid0.N) : ∃ e : Fin 32, beOf (counts m 0) (ix1 (⟨t.val % 224, Nat.mod_lt _ (by decide)⟩ : Fin 224)) = BitVec.ofNat 32 e.val
    ∧ expW (tbl m 0) t = BitVec.ofNat 32 e.val := by
  obtain ⟨e, he⟩ := beOf_range (counts m 0) ⟨t.val % 224, Nat.mod_lt _ (by decide)⟩
  refine ⟨e, he, ?_⟩
  refine (word224_eq (tbl m 0) _ _ (at224 (t.val % 224) (Nat.mod_lt _ (by decide))) (off1_at t).symm).trans ?_
  rw [at224_eq]
  exact (congrFun (tbl_be m) _).trans he

/-! ## The blocks of weights and biases a point reads -/

theorem col0 (t : Fin grid0.N) : (BitVec.ofNat 32 ((grid0.coords t) 0).val).toNat = t.val / 224 :=
  (by decide +kernel : ∀ t : Fin grid0.N, (BitVec.ofNat 32 ((grid0.coords t) 0).val).toNat = t.val / 224) t
theorem expert_toNat (e : Fin 32) : (BitVec.ofNat 32 e.val).toNat = e.val :=
  (by decide : ∀ e : Fin 32, (BitVec.ofNat 32 e.val).toNat = e.val) e

theorem index1 (pf : pre0.Contents (Elt F)) (t : Fin grid0.N) (e : Fin 32) (h : expW (pf 0) t = BitVec.ofNat 32 e.val) :
    cc0_transform_1 k0_off1_inb numel1_S1 pf (grid0.coords t) = ![1, e.val, 0, t.val / 224] := by
  show ![1, (expW (pf 0) t).toNat, 0, (BitVec.ofNat 32 ((grid0.coords t) 0).val).toNat] = _
  rw [h, col0, expert_toNat]

theorem index2 (pf : pre0.Contents (Elt F)) (t : Fin grid0.N) (e : Fin 32) (h : expW (pf 0) t = BitVec.ofNat 32 e.val) :
    cc0_transform_2 k0_off1_inb numel1_S1 pf (grid0.coords t) = ![1, e.val, 0, t.val / 224] := by
  show ![1, (expW (pf 0) t).toNat, 0, (BitVec.ofNat 32 ((grid0.coords t) 0).val).toNat] = _
  rw [h, col0, expert_toNat]

/-- So the blocks lie inside the weights and the biases. -/
theorem ok : Ok m := by
  have key : ∀ t : Fin grid0.N, t.val / 224 = 0 := fun t => by have : t.val < 224 := t.isLt; omega
  have h1 : ∀ i : grid0.Coords, ∀ a, (cc0_transform_1 k0_off1_inb numel1_S1 (tbl m) i a + 1) * S1x1x2048x2048.size a ≤ S2x32x2048x2048.size a := fun i => by
    obtain ⟨t, rfl⟩ := Pipeline.Grid.coords_surjective grid0 i
    obtain ⟨e, -, he⟩ := expW_range m t
    rw [index1 (tbl m) t e he]
    intro a
    have := e.isLt
    have := key t
    match a with
    | ⟨0, _⟩ => show (1 + 1) * 1 ≤ 2; omega
    | ⟨1, _⟩ => show (e.val + 1) * 1 ≤ 32; omega
    | ⟨2, _⟩ => show (0 + 1) * 2048 ≤ 2048; omega
    | ⟨3, _⟩ => show (t.val / 224 + 1) * 2048 ≤ 2048; omega
  have h2 : ∀ i : grid0.Coords, ∀ a, (cc0_transform_2 k0_off1_inb numel1_S1 (tbl m) i a + 1) * S1x1x1x2048.size a ≤ S2x32x1x2048.size a := fun i => by
    obtain ⟨t, rfl⟩ := Pipeline.Grid.coords_surjective grid0 i
    obtain ⟨e, -, he⟩ := expW_range m t
    rw [index2 (tbl m) t e he]
    intro a
    have := e.isLt
    have := key t
    match a with
    | ⟨0, _⟩ => show (1 + 1) * 1 ≤ 2; omega
    | ⟨1, _⟩ => show (e.val + 1) * 1 ≤ 32; omega
    | ⟨2, _⟩ => show (0 + 1) * 1 ≤ 1; omega
    | ⟨3, _⟩ => show (t.val / 224 + 1) * 2048 ≤ 2048; omega
  exact ⟨fun i => ⟨h1 i, Or.inl rfl⟩, fun i => ⟨h2 i, Or.inl rfl⟩⟩

end Cert.Kernel6Ideal.Down

end
-- ==== Proof.DownValue.lean ====
/-
  The expert product (down): what the kernel leaves in its result is the reference's result. A point of the grid computes
  a block of 512 rows: the product of the block's rows with the weights of its expert, and the bias.
-/
module

public import proofs.«01_k».proof.Proof.DownTables
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.Kernel6Ideal.Down

open Cert.Kernel6Ideal Cert.Kernel6Ideal.Gen
open Cert.Reference6Ideal.Hand (beOf nvOf beOf_range zeroF downRaw outOf)

/-! ## The payloads over the reals -/

section
set_option maxRecDepth 1000000

theorem pay1_apply (w : Vec Ideal S1x1x2048x2048 .f32) (k j : Fin 2048) :
    k0_pay1 (F := Ideal) w (ix2 k j) = w (ix4 0 0 k j) := by
  unfold k0_pay1
  clean_types
  pointwise
  try rfl

theorem pay2_apply (x : Vec Ideal S512x2048 .bf16) (w : Vec Ideal S2048x2048 .bf16) (b : Vec Ideal S1x1x1x2048 .f32) (r : Fin 512) (f : Fin 2048) :
    k0_pay2 (F := Ideal) x w b (ix2 r f) = ∑ k : Fin 2048, x (ix2 r k) * w (ix2 k f) + b (ix4 0 0 0 f) := by
  unfold k0_pay2
  clean_types
  pointwise
  try rfl

theorem pay3_apply (r : Fin 512) (f : Fin 2048) : k0_pay3 (F := Ideal) (ix2 r f) = zeroF := by
  unfold k0_pay3 zeroF
  pointwise
  try rfl
end

/-! ## The blocks a point reads -/

variable (m : (ℓ : Loc nD τ sig) → Buf (Elt Ideal) ℓ)

theorem index0 (t : Fin grid0.N) : cc0_transform_0 (grid0.coords t) 0 = t.val % 224 ∧ cc0_transform_0 (grid0.coords t) 1 = 0 :=
  (by decide +kernel : ∀ t : Fin grid0.N, cc0_transform_0 (grid0.coords t) 0 = t.val % 224 ∧ cc0_transform_0 (grid0.coords t) 1 = 0) t
theorem index3 (t : Fin grid0.N) : cc0_transform_3 (grid0.coords t) 0 = t.val % 224 ∧ cc0_transform_3 (grid0.coords t) 1 = t.val / 224 :=
  (by decide +kernel : ∀ t : Fin grid0.N, cc0_transform_3 (grid0.coords t) 0 = t.val % 224 ∧ cc0_transform_3 (grid0.coords t) 1 = t.val / 224) t

theorem read0_eq (a : (pcfg0 (F := Ideal)).Adm) (t : Fin grid0.N) (f : S114688x2048.Idx → EReal) (r : Fin 512) (k : Fin 2048) (R : Fin 114688)
    (hR : R.val = t.val % 224 * 512 + r.val) : (((cfg0 a).win 0).blk t).view.read (Elt Ideal) f (ix2 r k) = f (ix2 R k) := by
  show f _ = f _
  congr 1
  funext d
  apply Fin.ext
  obtain ⟨h0, h1⟩ := index0 t
  match d with
  | ⟨0, _⟩ => show cc0_transform_0 (grid0.coords t) 0 * 512 + 1 * r.val = R.val; omega
  | ⟨1, _⟩ => show cc0_transform_0 (grid0.coords t) 1 * 2048 + 1 * k.val = k.val; omega

theorem read2_eq (a : (pcfg0 (F := Ideal)).Adm) (t : Fin grid0.N) (f : S2x32x1x2048.Idx → EReal) (y : S1x1x1x2048.Idx) (z : S2x32x1x2048.Idx)
    (hz : ∀ d, (z d).val = cc0_transform_2 k0_off1_inb numel1_S1 a.1 (grid0.coords t) d * S1x1x1x2048.size d + (y d).val) :
    (((cfg0 a).win 2).blk t).view.read (Elt Ideal) f y = f z := by
  show f _ = f z
  congr 1
  funext d
  apply Fin.ext
  rw [hz d]
  show cc0_transform_2 k0_off1_inb numel1_S1 a.1 (grid0.coords t) d * S1x1x1x2048.size d + 1 * (y d).val = _
  rw [Nat.one_mul]

variable (c : Dev nD)

theorem iblk0_apply (hO : Ok m) (t : Fin grid0.N) (r : Fin 512) (k : Fin 2048) (R : Fin 114688) (hR : R.val = t.val % 224 * 512 + r.val) :
    (iblk m hO c 0 t : Vec Ideal S512x2048 .bf16) (ix2 r k) = m ((c : Thread nD τ).loc main_arg0) (ix2 R k) :=
  (read0_eq (adm m hO) t (V m c main_arg0) r k R hR).trans (congrFun (V_main_arg0 m c) _)

theorem iblk1_apply (hO : Ok m) (t : Fin grid0.N) (e : Fin 32) (he : expW (tbl m 0) t = BitVec.ofNat 32 e.val) (k j : Fin 2048) :
    (iblk m hO c 1 t : Vec Ideal S1x1x2048x2048 .f32) (ix4 0 0 k j) = m ((c : Thread nD τ).loc main_arg2) (ix4 1 e k j) := by
  have h0 : t.val / 224 = 0 := by have : t.val < 224 := t.isLt; omega
  refine (iblk1_eq m hO c t (ix4 0 0 k j) (ix4 1 e k j) fun a => ?_).trans (congrFun (V_main_arg2 m c) _)
  rw [index1 (tbl m) t e he]
  match a with
  | ⟨0, _⟩ => rfl
  | ⟨1, _⟩ => show e.val = e.val * 1 + 0; omega
  | ⟨2, _⟩ => show k.val = 0 * 2048 + k.val; omega
  | ⟨3, _⟩ => show j.val = t.val / 224 * 2048 + j.val; omega

theorem iblk2_apply (hO : Ok m) (t : Fin grid0.N) (e : Fin 32) (he : expW (tbl m 0) t = BitVec.ofNat 32 e.val) (j : Fin 2048) :
    (iblk m hO c 2 t : Vec Ideal S1x1x1x2048 .f32) (ix4 0 0 0 j) = m ((c : Thread nD τ).loc main_arg3) (ix3 1 e j) := by
  have h0 : t.val / 224 = 0 := by have : t.val < 224 := t.isLt; omega
  refine (read2_eq (adm m hO) t (V m c main_v52) (ix4 0 0 0 j) (ix4 1 e 0 j) fun a => ?_).trans (V_bias m c 1 e j)
  rw [show cc0_transform_2 k0_off1_inb numel1_S1 (adm m hO).1 (grid0.coords t) = _ from index2 (tbl m) t e he]
  match a with
  | ⟨0, _⟩ => rfl
  | ⟨1, _⟩ => show e.val = e.val * 1 + 0; omega
  | ⟨2, _⟩ => rfl
  | ⟨3, _⟩ => show j.val = t.val / 224 * 2048 + j.val; omega

/-! ## What a point leaves in its block -/

theorem wordNv_eq (x : S1.Idx → BitVec 32) : wordNv x = x (ix1 0) := by
  unfold wordNv
  congr 1
  funext a
  match a with
  | ⟨0, _⟩ => rfl

theorem nv_at (n : IVec S_ 32) : shapeCast S1 n shapeCasts_S_S1 (ix1 0) = n Idealize.ShloMosaic.ix0 := by
  pointwise

theorem cond2_eq (t : Fin grid0.N) (w : BitVec 32) : k0_cond2 (grid0.coords t) w = IntOp.cmpi .slt (BitVec.ofNat 32 (t.val % 224)) w := by
  unfold k0_cond2
  dsimp only
  rw [coord1]
  exact (by decide : ∀ b : BitVec 1, Scalar.cmpi .ne (Scalar.extui b : BitVec 32) 0#32 = b) _

/-- The block of the point is the reference's, entry by entry. -/
theorem outAt_apply (t : Fin grid0.N) (r : Fin 512) (f : Fin 2048) (R : Fin 114688) (hR : R.val = t.val % 224 * 512 + r.val) :
    outAt m (ok m) c t (ix2 r f) = outOf (m ((c : Thread nD τ).loc main_arg0)) (beOf (counts m 0)) (nvOf (counts m 0))
      (m ((c : Thread nD τ).loc main_arg2)) (m ((c : Thread nD τ).loc main_arg3)) (ix2 R f) := by
  obtain ⟨e, hbe, he⟩ := expW_range m t
  have hb : t.val % 224 < 224 := Nat.mod_lt _ (by decide)
  refine Eq.trans ?_ (Cert.Reference6Ideal.Hand.outOf_apply _ _ _ _ _ R f ⟨t.val % 224, hb⟩ r hR).symm
  have hnv : wordNv (tbl m 1) = nvOf (counts m 0) Idealize.ShloMosaic.ix0 := (wordNv_eq (tbl m 1)).trans ((congrFun (tbl_nv m) _).trans (nv_at _))
  unfold outAt
  rw [cond2_eq, hnv]
  by_cases h : IntOp.cmpi .slt (BitVec.ofNat 32 (t.val % 224)) (nvOf (counts m 0) Idealize.ShloMosaic.ix0) = 1#1
  · rw [if_pos h]
    refine Eq.trans ?_ (congrArg (fun b : BitVec 1 => Scalar.select b _ zeroF) h).symm
    refine (pay2_apply _ _ _ r f).trans ?_
    show _ = downRaw (F := Ideal) _ _ _ _ _
    refine Eq.trans ?_ (Cert.Reference6Ideal.Hand.downRaw_apply _ _ _ _ ⟨t.val % 224, hb⟩ r f e hbe R hR).symm
    refine congrArg₂ (· + ·) (Finset.sum_congr rfl fun k _ => congrArg₂ (· * ·) (iblk0_apply m c (ok m) t r k R hR) ?_) (iblk2_apply m c (ok m) t e he f)
    exact (pay1_apply _ k f).trans (iblk1_apply m c (ok m) t e he k f)
  · rw [if_neg h]
    have h0 : IntOp.cmpi .slt (BitVec.ofNat 32 (t.val % 224)) (nvOf (counts m 0) Idealize.ShloMosaic.ix0) = 0#1 :=
      (by decide : ∀ b : BitVec 1, ¬ b = 1#1 → b = 0#1) _ h
    refine Eq.trans ?_ (congrArg (fun b : BitVec 1 => Scalar.select b _ zeroF) h0).symm
    exact pay3_apply r f

/-! ## The result -/

theorem idx3 (a : (pcfg0 (F := Ideal)).Adm) (t : Fin (cfg0 a).N) : ((cfg0 a).win 3).index t = cc0_transform_3 (grid0.coords t) := rfl

/-- Different points write different blocks of the result. -/
theorem disjoint3 (a : (pcfg0 (F := Ideal)).Adm) : ∀ t t' : Fin (cfg0 a).N, ((cfg0 a).win 3).flush t = true → ((cfg0 a).win 3).flush t' = true → t ≠ t' →
    Disjoint (((cfg0 a).win 3).blk t).view.set (((cfg0 a).win 3).blk t').view.set :=
  fun t t' _ _ hne => ((cfg0 a).win 3).disjoint_blk fun h => hne (Fin.ext (by
    rw [idx3, idx3] at h
    obtain ⟨a0, a1⟩ := index3 t
    obtain ⟨b0, b1⟩ := index3 t'
    have e0 := congrFun h 0
    have e1 := congrFun h 1
    omega))

theorem read3_eq (a : (pcfg0 (F := Ideal)).Adm) (t : Fin grid0.N) (g : S114688x2048.Idx → EReal) (r : Fin 512) (R : Fin 114688) (f : Fin 2048)
    (hR : R.val = t.val % 224 * 512 + r.val) :
    (((cfg0 a).win 3).blk t).view.read (Elt Ideal) g (ix2 r f) = g (ix2 R f) := by
  show g _ = g _
  congr 1
  funext d
  apply Fin.ext
  obtain ⟨h0, h1⟩ := index3 t
  match d with
  | ⟨0, _⟩ => show cc0_transform_3 (grid0.coords t) 0 * 512 + 1 * r.val = R.val; omega
  | ⟨1, _⟩ => have ht : t.val < 224 := t.isLt; show cc0_transform_3 (grid0.coords t) 1 * 2048 + 1 * f.val = f.val; omega

/-- What the data leave in an output block is what the array then holds there. -/
theorem final_of (a : (pcfg0 (F := Ideal)).Adm) (dat : Dat τ (Elt Ideal) Unit ℕ (UR sig nD τ) ℕ (cfg0 a) c) (t : Fin grid0.N) (r : Fin 512) (R : Fin 114688) (f : Fin 2048)
    (hR : R.val = t.val % 224 * 512 + r.val) :
    (dat.arrAt 3 (cfg0 a).N : S114688x2048.Idx → EReal) (ix2 R f) = (dat.after 3 t : S512x2048.Idx → EReal) (ix2 r f) :=
  (read3_eq a t (dat.arrAt 3 (cfg0 a).N) r R f hR).symm.trans
    (congrFun (dat.read_blk_arrAt_eq_flushed 3 (disjoint3 a) (cfg0 a).N t t.isLt (flush0_3 a t)) (ix2 r f))

/-- What the run leaves in the result is the reference's result. -/
theorem final_apply (R : Fin 114688) (f : Fin 2048) : ((dats m (ok m) 0 c).arrAt 3 (cfgM m (ok m)).N : S114688x2048.Idx → EReal) (ix2 R f)
    = outOf (m ((c : Thread nD τ).loc main_arg0)) (beOf (counts m 0)) (nvOf (counts m 0))
      (m ((c : Thread nD τ).loc main_arg2)) (m ((c : Thread nD τ).loc main_arg3)) (ix2 R f) := by
  have ht : R.val / 512 < grid0.N := by show _ < 224; omega
  have hR : R.val = (R.val / 512) % 224 * 512 + R.val % 512 := by omega
  refine (final_of c (adm m (ok m)) (dats m (ok m) 0 c) ⟨_, ht⟩ ⟨R.val % 512, by omega⟩ R f hR).trans ?_
  exact (congrFun (after0_3 m (ok m) c ⟨_, ht⟩) _).trans (outAt_apply m c ⟨_, ht⟩ _ f R hR)

/-- The run, its result named and its arguments as launched. -/
theorem run_named (ρ : Dev nD → PrngReg) : θ_run defs (onTc (τ := τ) (main (F := Ideal))) ⟨m, fun _ => 0, ρ⟩ fun r => ∀ c : Dev nD,
    r.2.mem ((c : Thread nD τ).loc main_v53) = (dats m (ok m) 0 c).arrAt 3 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.2 c).1 3, h.1 c⟩) (θ_run_and (unchanged m ρ (ok m)) (run_main m ρ (ok m)))

end Cert.Kernel6Ideal.Down

namespace Cert.Proof

open Cert.Kernel6Ideal Cert.Kernel6Ideal.Gen

theorem frame_kernel_ideal6 : Cert.quiescent_Kernel6Ideal := fun m ρ _ => Cert.Kernel6Ideal.Down.frame (F := Ideal) m ρ (Cert.Kernel6Ideal.Down.ok m)

theorem frame_reference6 : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- The kernel's result is the reference's. -/
theorem algebraic6 : Cert.algebraic_Kernel6Ideal_Reference6Ideal := by
  intro m ρ m' ρ' _ hagree
  refine ⟨fun c => (Cert.Kernel6Ideal.Down.dats m (Cert.Kernel6Ideal.Down.ok m) 0 c).arrAt 3 (Cert.Kernel6Ideal.Down.cfgM m (Cert.Kernel6Ideal.Down.ok m)).N, Cert.Kernel6Ideal.Down.run_named m ρ, ?_⟩
  refine (θ_run Cert.Reference6Ideal.defs _ _).mono (fun _ h c => ⟨(h c).1.trans ?_, (h c).2⟩)
    (Cert.Reference6Ideal.Value.run (F := Ideal) m' ρ')
  obtain ⟨a0, a1, a2, a3⟩ := hagree c
  obtain rfl : c = 0 := Subsingleton.elim _ _
  funext i
  obtain ⟨R, f, rfl⟩ : ∃ (R : Fin 114688) (f : Fin 2048), i = ix2 R f := ⟨i 0, i 1, eq_ix2 i⟩
  refine (congrFun (Cert.Reference6Ideal.Hand.res_eq m' 0) _).trans ?_
  rw [a0, a1, a2, a3]
  exact (Cert.Kernel6Ideal.Down.final_apply m 0 R f).symm

end Cert.Proof

end
-- ==== Proof.Down.lean ====
/-
  The expert product (down): the frame of the kernel as it is run.
-/
module

public import proofs.«01_k».proof.Proof.DownRunTables

@[expose] public section

noncomputable section

open Idealize.ShloMosaic Idealize.SL.Sem

namespace Cert.Proof

theorem frame_kernel6 : Cert.quiescent_Kernel6 := fun m ρ _ => Cert.Kernel6.Down.frame (F := Bits) m ρ (Cert.Kernel6.Down.ok m)

end Cert.Proof

end
-- ==== Proof.lean ====
/-
  The claims of the calls stated in the statement, one after the other: the frames of a kernel at both precisions and of its
  reference, that idealizing it rewrote nothing, and that its result over the reals is the reference's. The values are
  proved in the modules imported here, a module for each call.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6
public import proofs.«01_k».proof.Proof.Gen.Kernel6Ideal
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Proj
public import proofs.«01_k».proof.Proof.Branch
public import proofs.«01_k».proof.Proof.Combine4
public import proofs.«01_k».proof.Proof.Combine5
public import proofs.«01_k».proof.Proof.Fourier
public import proofs.«01_k».proof.Proof.FourierP
public import proofs.«01_k».proof.Proof.Router
public import proofs.«01_k».proof.Proof.UpValue
public import proofs.«01_k».proof.Proof.Up
public import proofs.«01_k».proof.Proof.DownValue
public import proofs.«01_k».proof.Proof.Down
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts,
  frame_kernel,
  frame_kernel_ideal,
  frame_reference,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  frame_kernel6,
  frame_kernel_ideal6,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  trivial,
  algebraic,
  trivial,
  algebraic2,
  trivial,
  algebraic3,
  trivial,
  algebraic4,
  trivial,
  algebraic5,
  trivial,
  algebraic6,
  trivial,
  algebraic7,
  trivial,
  algebraic8,
  trivial,
  algebraic9⟩

end Cert.Proof

end
